-- ==== Defs.lean ====
def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_HyIn (m : (ℓ : Loc Cert.HyIn.nD Cert.HyIn.τ Cert.HyIn.sig) → Buf (Elt Bits) ℓ) : Prop :=
  True

def Pre_HyInIdeal (m : (ℓ : Loc Cert.HyInIdeal.nD Cert.HyInIdeal.τ Cert.HyInIdeal.sig) → Buf (Elt Ideal) ℓ) : Prop :=
  True

def Pre_HyInRefIdeal (m : (ℓ : Loc Cert.HyInRefIdeal.nD Cert.HyInRefIdeal.τ Cert.HyInRefIdeal.sig) → Buf (Elt Ideal) ℓ) : Prop :=
  True

def Pre_HyOut (m : (ℓ : Loc Cert.HyOut.nD Cert.HyOut.τ Cert.HyOut.sig) → Buf (Elt Bits) ℓ) : Prop :=
  True

def Pre_HyOutIdeal (m : (ℓ : Loc Cert.HyOutIdeal.nD Cert.HyOutIdeal.τ Cert.HyOutIdeal.sig) → Buf (Elt Ideal) ℓ) : Prop :=
  True

def Pre_HyOutRefIdeal (m : (ℓ : Loc Cert.HyOutRefIdeal.nD Cert.HyOutRefIdeal.τ Cert.HyOutRefIdeal.sig) → Buf (Elt Ideal) ℓ) : Prop :=
  True

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5)
      ∧ r.2.mem ((c.tc : Thread Cert.Ctx.nD Cert.Ctx.τ).loc Cert.Ctx.main_arg6) = m ((c.tc : Thread Cert.Ctx.nD Cert.Ctx.τ).loc Cert.Ctx.main_arg6)
      ∧ r.2.mem ((c.tc : Thread Cert.Ctx.nD Cert.Ctx.τ).loc Cert.Ctx.main_arg7) = m ((c.tc : Thread Cert.Ctx.nD Cert.Ctx.τ).loc Cert.Ctx.main_arg7))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
      ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6)
      ∧ r.2.mem ((c.tc : Thread Cert.CtxRefIdeal.nD Cert.CtxRefIdeal.τ).loc Cert.CtxRefIdeal.main_arg7) = m ((c.tc : Thread Cert.CtxRefIdeal.nD Cert.CtxRefIdeal.τ).loc Cert.CtxRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_HyIn [hHyIn : Cert.HyIn.Facts] : Prop :=
  ∀ (m : (ℓ : Loc Cert.HyIn.nD Cert.HyIn.τ Cert.HyIn.sig) → Buf (Elt Bits) ℓ) (g : Dev Cert.HyIn.nD → PrngReg), Pre_HyIn m →
    θ_run (Cert.HyIn.defs (F := Bits)) (onTc (τ := Cert.HyIn.τ) (Cert.HyIn.main (F := Bits))) ⟨m, fun _ => 0, g⟩ (fun r => (∀ c : Dev Cert.HyIn.nD,
      r.2.mem ((c.tc : Thread Cert.HyIn.nD Cert.HyIn.τ).loc Cert.HyIn.main_arg0) = m ((c.tc : Thread Cert.HyIn.nD Cert.HyIn.τ).loc Cert.HyIn.main_arg0)
      ∧ r.2.mem ((c.tc : Thread Cert.HyIn.nD Cert.HyIn.τ).loc Cert.HyIn.main_arg1) = m ((c.tc : Thread Cert.HyIn.nD Cert.HyIn.τ).loc Cert.HyIn.main_arg1)
      ∧ r.2.mem ((c.tc : Thread Cert.HyIn.nD Cert.HyIn.τ).loc Cert.HyIn.main_arg2) = m ((c.tc : Thread Cert.HyIn.nD Cert.HyIn.τ).loc Cert.HyIn.main_arg2)
      ∧ r.2.mem ((c.tc : Thread Cert.HyIn.nD Cert.HyIn.τ).loc Cert.HyIn.main_arg3) = m ((c.tc : Thread Cert.HyIn.nD Cert.HyIn.τ).loc Cert.HyIn.main_arg3)
      ∧ r.2.mem ((c.tc : Thread Cert.HyIn.nD Cert.HyIn.τ).loc Cert.HyIn.main_arg4) = m ((c.tc : Thread Cert.HyIn.nD Cert.HyIn.τ).loc Cert.HyIn.main_arg4)
      ∧ r.2.mem ((c.tc : Thread Cert.HyIn.nD Cert.HyIn.τ).loc Cert.HyIn.main_arg5) = m ((c.tc : Thread Cert.HyIn.nD Cert.HyIn.τ).loc Cert.HyIn.main_arg5)
      ∧ r.2.mem ((c.tc : Thread Cert.HyIn.nD Cert.HyIn.τ).loc Cert.HyIn.main_arg6) = m ((c.tc : Thread Cert.HyIn.nD Cert.HyIn.τ).loc Cert.HyIn.main_arg6))
      ∧ r.2.sem = fun _ => 0)

def quiescent_HyInIdeal [hHyInIdeal : Cert.HyInIdeal.Facts] : Prop :=
  ∀ (m : (ℓ : Loc Cert.HyInIdeal.nD Cert.HyInIdeal.τ Cert.HyInIdeal.sig) → Buf (Elt Ideal) ℓ) (g : Dev Cert.HyInIdeal.nD → PrngReg), Pre_HyInIdeal m →
    θ_run (Cert.HyInIdeal.defs (F := Ideal)) (onTc (τ := Cert.HyInIdeal.τ) (Cert.HyInIdeal.main (F := Ideal))) ⟨m, fun _ => 0, g⟩ (fun r => (∀ c : Dev Cert.HyInIdeal.nD,
      r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
      ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
      ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2)
      ∧ r.2.mem ((c.tc : Thread Cert.HyInIdeal.nD Cert.HyInIdeal.τ).loc Cert.HyInIdeal.main_arg3) = m ((c.tc : Thread Cert.HyInIdeal.nD Cert.HyInIdeal.τ).loc Cert.HyInIdeal.main_arg3)
      ∧ r.2.mem ((c.tc : Thread Cert.HyInIdeal.nD Cert.HyInIdeal.τ).loc Cert.HyInIdeal.main_arg4) = m ((c.tc : Thread Cert.HyInIdeal.nD Cert.HyInIdeal.τ).loc Cert.HyInIdeal.main_arg4)
      ∧ r.2.mem ((c.tc : Thread Cert.HyInIdeal.nD Cert.HyInIdeal.τ).loc Cert.HyInIdeal.main_arg5) = m ((c.tc : Thread Cert.HyInIdeal.nD Cert.HyInIdeal.τ).loc Cert.HyInIdeal.main_arg5)
      ∧ r.2.mem ((c.tc : Thread Cert.HyInIdeal.nD Cert.HyInIdeal.τ).loc Cert.HyInIdeal.main_arg6) = m ((c.tc : Thread Cert.HyInIdeal.nD Cert.HyInIdeal.τ).loc Cert.HyInIdeal.main_arg6))
      ∧ r.2.sem = fun _ => 0)

def quiescent_HyInRefIdeal [hHyInRefIdeal : Cert.HyInRefIdeal.Facts] : Prop :=
  ∀ (m : (ℓ : Loc Cert.HyInRefIdeal.nD Cert.HyInRefIdeal.τ Cert.HyInRefIdeal.sig) → Buf (Elt Ideal) ℓ) (g : Dev Cert.HyInRefIdeal.nD → PrngReg), Pre_HyInRefIdeal m →
    θ_run (Cert.HyInRefIdeal.defs (F := Ideal)) (onTc (τ := Cert.HyInRefIdeal.τ) (Cert.HyInRefIdeal.main (F := Ideal))) ⟨m, fun _ => 0, g⟩ (fun r => (∀ c : Dev Cert.HyInRefIdeal.nD,
      r.2.mem ((c.tc : Thread Cert.HyInRefIdeal.nD Cert.HyInRefIdeal.τ).loc Cert.HyInRefIdeal.main_arg0) = m ((c.tc : Thread Cert.HyInRefIdeal.nD Cert.HyInRefIdeal.τ).loc Cert.HyInRefIdeal.main_arg0)
      ∧ r.2.mem ((c.tc : Thread Cert.HyInRefIdeal.nD Cert.HyInRefIdeal.τ).loc Cert.HyInRefIdeal.main_arg1) = m ((c.tc : Thread Cert.HyInRefIdeal.nD Cert.HyInRefIdeal.τ).loc Cert.HyInRefIdeal.main_arg1)
      ∧ r.2.mem ((c.tc : Thread Cert.HyInRefIdeal.nD Cert.HyInRefIdeal.τ).loc Cert.HyInRefIdeal.main_arg2) = m ((c.tc : Thread Cert.HyInRefIdeal.nD Cert.HyInRefIdeal.τ).loc Cert.HyInRefIdeal.main_arg2)
      ∧ r.2.mem ((c.tc : Thread Cert.HyInRefIdeal.nD Cert.HyInRefIdeal.τ).loc Cert.HyInRefIdeal.main_arg3) = m ((c.tc : Thread Cert.HyInRefIdeal.nD Cert.HyInRefIdeal.τ).loc Cert.HyInRefIdeal.main_arg3)
      ∧ r.2.mem ((c.tc : Thread Cert.HyInRefIdeal.nD Cert.HyInRefIdeal.τ).loc Cert.HyInRefIdeal.main_arg4) = m ((c.tc : Thread Cert.HyInRefIdeal.nD Cert.HyInRefIdeal.τ).loc Cert.HyInRefIdeal.main_arg4)
      ∧ r.2.mem ((c.tc : Thread Cert.HyInRefIdeal.nD Cert.HyInRefIdeal.τ).loc Cert.HyInRefIdeal.main_arg5) = m ((c.tc : Thread Cert.HyInRefIdeal.nD Cert.HyInRefIdeal.τ).loc Cert.HyInRefIdeal.main_arg5)
      ∧ r.2.mem ((c.tc : Thread Cert.HyInRefIdeal.nD Cert.HyInRefIdeal.τ).loc Cert.HyInRefIdeal.main_arg6) = m ((c.tc : Thread Cert.HyInRefIdeal.nD Cert.HyInRefIdeal.τ).loc Cert.HyInRefIdeal.main_arg6))
      ∧ r.2.sem = fun _ => 0)

def quiescent_HyOut [hHyOut : Cert.HyOut.Facts] : Prop :=
  ∀ (m : (ℓ : Loc Cert.HyOut.nD Cert.HyOut.τ Cert.HyOut.sig) → Buf (Elt Bits) ℓ) (g : Dev Cert.HyOut.nD → PrngReg), Pre_HyOut m →
    θ_run (Cert.HyOut.defs (F := Bits)) (onTc (τ := Cert.HyOut.τ) (Cert.HyOut.main (F := Bits))) ⟨m, fun _ => 0, g⟩ (fun r => (∀ c : Dev Cert.HyOut.nD,
      r.2.mem ((c.tc : Thread Cert.HyOut.nD Cert.HyOut.τ).loc Cert.HyOut.main_arg0) = m ((c.tc : Thread Cert.HyOut.nD Cert.HyOut.τ).loc Cert.HyOut.main_arg0)
      ∧ r.2.mem ((c.tc : Thread Cert.HyOut.nD Cert.HyOut.τ).loc Cert.HyOut.main_arg1) = m ((c.tc : Thread Cert.HyOut.nD Cert.HyOut.τ).loc Cert.HyOut.main_arg1)
      ∧ r.2.mem ((c.tc : Thread Cert.HyOut.nD Cert.HyOut.τ).loc Cert.HyOut.main_arg2) = m ((c.tc : Thread Cert.HyOut.nD Cert.HyOut.τ).loc Cert.HyOut.main_arg2)
      ∧ r.2.mem ((c.tc : Thread Cert.HyOut.nD Cert.HyOut.τ).loc Cert.HyOut.main_arg3) = m ((c.tc : Thread Cert.HyOut.nD Cert.HyOut.τ).loc Cert.HyOut.main_arg3)
      ∧ r.2.mem ((c.tc : Thread Cert.HyOut.nD Cert.HyOut.τ).loc Cert.HyOut.main_arg4) = m ((c.tc : Thread Cert.HyOut.nD Cert.HyOut.τ).loc Cert.HyOut.main_arg4)
      ∧ r.2.mem ((c.tc : Thread Cert.HyOut.nD Cert.HyOut.τ).loc Cert.HyOut.main_arg5) = m ((c.tc : Thread Cert.HyOut.nD Cert.HyOut.τ).loc Cert.HyOut.main_arg5)
      ∧ r.2.mem ((c.tc : Thread Cert.HyOut.nD Cert.HyOut.τ).loc Cert.HyOut.main_arg6) = m ((c.tc : Thread Cert.HyOut.nD Cert.HyOut.τ).loc Cert.HyOut.main_arg6))
      ∧ r.2.sem = fun _ => 0)

def quiescent_HyOutIdeal [hHyOutIdeal : Cert.HyOutIdeal.Facts] : Prop :=
  ∀ (m : (ℓ : Loc Cert.HyOutIdeal.nD Cert.HyOutIdeal.τ Cert.HyOutIdeal.sig) → Buf (Elt Ideal) ℓ) (g : Dev Cert.HyOutIdeal.nD → PrngReg), Pre_HyOutIdeal m →
    θ_run (Cert.HyOutIdeal.defs (F := Ideal)) (onTc (τ := Cert.HyOutIdeal.τ) (Cert.HyOutIdeal.main (F := Ideal))) ⟨m, fun _ => 0, g⟩ (fun r => (∀ c : Dev Cert.HyOutIdeal.nD,
      r.2.mem ((c.tc : Thread Cert.HyOutIdeal.nD Cert.HyOutIdeal.τ).loc Cert.HyOutIdeal.main_arg0) = m ((c.tc : Thread Cert.HyOutIdeal.nD Cert.HyOutIdeal.τ).loc Cert.HyOutIdeal.main_arg0)
      ∧ r.2.mem ((c.tc : Thread Cert.HyOutIdeal.nD Cert.HyOutIdeal.τ).loc Cert.HyOutIdeal.main_arg1) = m ((c.tc : Thread Cert.HyOutIdeal.nD Cert.HyOutIdeal.τ).loc Cert.HyOutIdeal.main_arg1)
      ∧ r.2.mem ((c.tc : Thread Cert.HyOutIdeal.nD Cert.HyOutIdeal.τ).loc Cert.HyOutIdeal.main_arg2) = m ((c.tc : Thread Cert.HyOutIdeal.nD Cert.HyOutIdeal.τ).loc Cert.HyOutIdeal.main_arg2)
      ∧ r.2.mem ((c.tc : Thread Cert.HyOutIdeal.nD Cert.HyOutIdeal.τ).loc Cert.HyOutIdeal.main_arg3) = m ((c.tc : Thread Cert.HyOutIdeal.nD Cert.HyOutIdeal.τ).loc Cert.HyOutIdeal.main_arg3)
      ∧ r.2.mem ((c.tc : Thread Cert.HyOutIdeal.nD Cert.HyOutIdeal.τ).loc Cert.HyOutIdeal.main_arg4) = m ((c.tc : Thread Cert.HyOutIdeal.nD Cert.HyOutIdeal.τ).loc Cert.HyOutIdeal.main_arg4)
      ∧ r.2.mem ((c.tc : Thread Cert.HyOutIdeal.nD Cert.HyOutIdeal.τ).loc Cert.HyOutIdeal.main_arg5) = m ((c.tc : Thread Cert.HyOutIdeal.nD Cert.HyOutIdeal.τ).loc Cert.HyOutIdeal.main_arg5)
      ∧ r.2.mem ((c.tc : Thread Cert.HyOutIdeal.nD Cert.HyOutIdeal.τ).loc Cert.HyOutIdeal.main_arg6) = m ((c.tc : Thread Cert.HyOutIdeal.nD Cert.HyOutIdeal.τ).loc Cert.HyOutIdeal.main_arg6))
      ∧ r.2.sem = fun _ => 0)

def quiescent_HyOutRefIdeal [hHyOutRefIdeal : Cert.HyOutRefIdeal.Facts] : Prop :=
  ∀ (m : (ℓ : Loc Cert.HyOutRefIdeal.nD Cert.HyOutRefIdeal.τ Cert.HyOutRefIdeal.sig) → Buf (Elt Ideal) ℓ) (g : Dev Cert.HyOutRefIdeal.nD → PrngReg), Pre_HyOutRefIdeal m →
    θ_run (Cert.HyOutRefIdeal.defs (F := Ideal)) (onTc (τ := Cert.HyOutRefIdeal.τ) (Cert.HyOutRefIdeal.main (F := Ideal))) ⟨m, fun _ => 0, g⟩ (fun r => (∀ c : Dev Cert.HyOutRefIdeal.nD,
      r.2.mem ((c.tc : Thread Cert.HyOutRefIdeal.nD Cert.HyOutRefIdeal.τ).loc Cert.HyOutRefIdeal.main_arg0) = m ((c.tc : Thread Cert.HyOutRefIdeal.nD Cert.HyOutRefIdeal.τ).loc Cert.HyOutRefIdeal.main_arg0)
      ∧ r.2.mem ((c.tc : Thread Cert.HyOutRefIdeal.nD Cert.HyOutRefIdeal.τ).loc Cert.HyOutRefIdeal.main_arg1) = m ((c.tc : Thread Cert.HyOutRefIdeal.nD Cert.HyOutRefIdeal.τ).loc Cert.HyOutRefIdeal.main_arg1)
      ∧ r.2.mem ((c.tc : Thread Cert.HyOutRefIdeal.nD Cert.HyOutRefIdeal.τ).loc Cert.HyOutRefIdeal.main_arg2) = m ((c.tc : Thread Cert.HyOutRefIdeal.nD Cert.HyOutRefIdeal.τ).loc Cert.HyOutRefIdeal.main_arg2)
      ∧ r.2.mem ((c.tc : Thread Cert.HyOutRefIdeal.nD Cert.HyOutRefIdeal.τ).loc Cert.HyOutRefIdeal.main_arg3) = m ((c.tc : Thread Cert.HyOutRefIdeal.nD Cert.HyOutRefIdeal.τ).loc Cert.HyOutRefIdeal.main_arg3)
      ∧ r.2.mem ((c.tc : Thread Cert.HyOutRefIdeal.nD Cert.HyOutRefIdeal.τ).loc Cert.HyOutRefIdeal.main_arg4) = m ((c.tc : Thread Cert.HyOutRefIdeal.nD Cert.HyOutRefIdeal.τ).loc Cert.HyOutRefIdeal.main_arg4)
      ∧ r.2.mem ((c.tc : Thread Cert.HyOutRefIdeal.nD Cert.HyOutRefIdeal.τ).loc Cert.HyOutRefIdeal.main_arg5) = m ((c.tc : Thread Cert.HyOutRefIdeal.nD Cert.HyOutRefIdeal.τ).loc Cert.HyOutRefIdeal.main_arg5)
      ∧ r.2.mem ((c.tc : Thread Cert.HyOutRefIdeal.nD Cert.HyOutRefIdeal.τ).loc Cert.HyOutRefIdeal.main_arg6) = m ((c.tc : Thread Cert.HyOutRefIdeal.nD Cert.HyOutRefIdeal.τ).loc Cert.HyOutRefIdeal.main_arg6))
      ∧ r.2.sem = fun _ => 0)

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)) →
    ∃ (v0 : (c : Dev Cert.ScanIdeal.nD) → Buf (Elt Ideal) ((c.tc : Thread Cert.ScanIdeal.nD Cert.ScanIdeal.τ).loc Cert.ScanIdeal.main_v58)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v58) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v35) = v0 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v41) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)) →
    ∃ (v0 : (c : Dev Cert.MidIdeal.nD) → Buf (Elt Ideal) ((c.tc : Thread Cert.MidIdeal.nD Cert.MidIdeal.τ).loc Cert.MidIdeal.main_v5)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v5) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v28) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7))

def preserves_Ctx_CtxIdeal : Prop :=
  True

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)
      ∧ m' ((c.tc : Thread Cert.CtxRefIdeal.nD Cert.CtxRefIdeal.τ).loc Cert.CtxRefIdeal.main_arg5) = m ((c.tc : Thread Cert.CtxIdeal.nD Cert.CtxIdeal.τ).loc Cert.CtxIdeal.main_arg5)
      ∧ m' ((c.tc : Thread Cert.CtxRefIdeal.nD Cert.CtxRefIdeal.τ).loc Cert.CtxRefIdeal.main_arg6) = m ((c.tc : Thread Cert.CtxIdeal.nD Cert.CtxIdeal.τ).loc Cert.CtxIdeal.main_arg6)
      ∧ m' ((c.tc : Thread Cert.CtxRefIdeal.nD Cert.CtxRefIdeal.τ).loc Cert.CtxRefIdeal.main_arg7) = m ((c.tc : Thread Cert.CtxIdeal.nD Cert.CtxIdeal.τ).loc Cert.CtxIdeal.main_arg7)) →
    ∃ (v0 : (c : Dev Cert.CtxIdeal.nD) → Buf (Elt Ideal) ((c.tc : Thread Cert.CtxIdeal.nD Cert.CtxIdeal.τ).loc Cert.CtxIdeal.main_v5)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v5) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
          ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
          ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v28) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5)
          ∧ r.2.mem ((c.tc : Thread Cert.CtxRefIdeal.nD Cert.CtxRefIdeal.τ).loc Cert.CtxRefIdeal.main_arg6) = m' ((c.tc : Thread Cert.CtxRefIdeal.nD Cert.CtxRefIdeal.τ).loc Cert.CtxRefIdeal.main_arg6)
          ∧ r.2.mem ((c.tc : Thread Cert.CtxRefIdeal.nD Cert.CtxRefIdeal.τ).loc Cert.CtxRefIdeal.main_arg7) = m' ((c.tc : Thread Cert.CtxRefIdeal.nD Cert.CtxRefIdeal.τ).loc Cert.CtxRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v2_0)) (v1 : (c : Dev Cert.ProjIdeal.nD) → Buf (Elt Ideal) ((c.tc : Thread Cert.ProjIdeal.nD Cert.ProjIdeal.τ).loc Cert.ProjIdeal.main_v2_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_v2_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v41) = v0 c
          ∧ r.2.mem ((c.tc : Thread Cert.ProjRefIdeal.nD Cert.ProjRefIdeal.τ).loc Cert.ProjRefIdeal.main_v42) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_HyIn_HyInIdeal : Prop :=
  True

def algebraic_HyInIdeal_HyInRefIdeal [hHyInIdeal : Cert.HyInIdeal.Facts] [hHyInRefIdeal : Cert.HyInRefIdeal.Facts] : Prop :=
  ∀ (m : (ℓ : Loc Cert.HyInIdeal.nD Cert.HyInIdeal.τ Cert.HyInIdeal.sig) → Buf (Elt Ideal) ℓ) (g : Dev Cert.HyInIdeal.nD → PrngReg)
    (m' : (ℓ : Loc Cert.HyInRefIdeal.nD Cert.HyInRefIdeal.τ Cert.HyInRefIdeal.sig) → Buf (Elt Ideal) ℓ) (g' : Dev Cert.HyInRefIdeal.nD → PrngReg), Pre_HyInIdeal m →
    (∀ c : Dev Cert.HyInIdeal.nD,
      m' ((c.tc : Thread Cert.HyInRefIdeal.nD Cert.HyInRefIdeal.τ).loc Cert.HyInRefIdeal.main_arg0) = m ((c.tc : Thread Cert.HyInIdeal.nD Cert.HyInIdeal.τ).loc Cert.HyInIdeal.main_arg0)
      ∧ m' ((c.tc : Thread Cert.HyInRefIdeal.nD Cert.HyInRefIdeal.τ).loc Cert.HyInRefIdeal.main_arg1) = m ((c.tc : Thread Cert.HyInIdeal.nD Cert.HyInIdeal.τ).loc Cert.HyInIdeal.main_arg1)
      ∧ m' ((c.tc : Thread Cert.HyInRefIdeal.nD Cert.HyInRefIdeal.τ).loc Cert.HyInRefIdeal.main_arg2) = m ((c.tc : Thread Cert.HyInIdeal.nD Cert.HyInIdeal.τ).loc Cert.HyInIdeal.main_arg2)
      ∧ m' ((c.tc : Thread Cert.HyInRefIdeal.nD Cert.HyInRefIdeal.τ).loc Cert.HyInRefIdeal.main_arg3) = m ((c.tc : Thread Cert.HyInIdeal.nD Cert.HyInIdeal.τ).loc Cert.HyInIdeal.main_arg3)
      ∧ m' ((c.tc : Thread Cert.HyInRefIdeal.nD Cert.HyInRefIdeal.τ).loc Cert.HyInRefIdeal.main_arg4) = m ((c.tc : Thread Cert.HyInIdeal.nD Cert.HyInIdeal.τ).loc Cert.HyInIdeal.main_arg4)
      ∧ m' ((c.tc : Thread Cert.HyInRefIdeal.nD Cert.HyInRefIdeal.τ).loc Cert.HyInRefIdeal.main_arg5) = m ((c.tc : Thread Cert.HyInIdeal.nD Cert.HyInIdeal.τ).loc Cert.HyInIdeal.main_arg5)
      ∧ m' ((c.tc : Thread Cert.HyInRefIdeal.nD Cert.HyInRefIdeal.τ).loc Cert.HyInRefIdeal.main_arg6) = m ((c.tc : Thread Cert.HyInIdeal.nD Cert.HyInIdeal.τ).loc Cert.HyInIdeal.main_arg6)) →
    ∃ (v0 : (c : Dev Cert.HyInIdeal.nD) → Buf (Elt Ideal) ((c.tc : Thread Cert.HyInIdeal.nD Cert.HyInIdeal.τ).loc Cert.HyInIdeal.main_v3_0)) (v1 : (c : Dev Cert.HyInIdeal.nD) → Buf (Elt Ideal) ((c.tc : Thread Cert.HyInIdeal.nD Cert.HyInIdeal.τ).loc Cert.HyInIdeal.main_v3_1)) (v2 : (c : Dev Cert.HyInIdeal.nD) → Buf (Elt Ideal) ((c.tc : Thread Cert.HyInIdeal.nD Cert.HyInIdeal.τ).loc Cert.HyInIdeal.main_v3_2)) (v3 : (c : Dev Cert.HyInIdeal.nD) → Buf (Elt Ideal) ((c.tc : Thread Cert.HyInIdeal.nD Cert.HyInIdeal.τ).loc Cert.HyInIdeal.main_v3_3)),
      θ_run (Cert.HyInIdeal.defs (F := Ideal)) (onTc (τ := Cert.HyInIdeal.τ) (Cert.HyInIdeal.main (F := Ideal))) ⟨m, fun _ => 0, g⟩ (fun r => ∀ c : Dev Cert.HyInIdeal.nD,
          r.2.mem ((c.tc : Thread Cert.HyInIdeal.nD Cert.HyInIdeal.τ).loc Cert.HyInIdeal.main_v3_0) = v0 c
          ∧ r.2.mem ((c.tc : Thread Cert.HyInIdeal.nD Cert.HyInIdeal.τ).loc Cert.HyInIdeal.main_v3_1) = v1 c
          ∧ r.2.mem ((c.tc : Thread Cert.HyInIdeal.nD Cert.HyInIdeal.τ).loc Cert.HyInIdeal.main_v3_2) = v2 c
          ∧ r.2.mem ((c.tc : Thread Cert.HyInIdeal.nD Cert.HyInIdeal.τ).loc Cert.HyInIdeal.main_v3_3) = v3 c
          ∧ r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
          ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
          ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2)
          ∧ r.2.mem ((c.tc : Thread Cert.HyInIdeal.nD Cert.HyInIdeal.τ).loc Cert.HyInIdeal.main_arg3) = m ((c.tc : Thread Cert.HyInIdeal.nD Cert.HyInIdeal.τ).loc Cert.HyInIdeal.main_arg3)
          ∧ r.2.mem ((c.tc : Thread Cert.HyInIdeal.nD Cert.HyInIdeal.τ).loc Cert.HyInIdeal.main_arg4) = m ((c.tc : Thread Cert.HyInIdeal.nD Cert.HyInIdeal.τ).loc Cert.HyInIdeal.main_arg4)
          ∧ r.2.mem ((c.tc : Thread Cert.HyInIdeal.nD Cert.HyInIdeal.τ).loc Cert.HyInIdeal.main_arg5) = m ((c.tc : Thread Cert.HyInIdeal.nD Cert.HyInIdeal.τ).loc Cert.HyInIdeal.main_arg5)
          ∧ r.2.mem ((c.tc : Thread Cert.HyInIdeal.nD Cert.HyInIdeal.τ).loc Cert.HyInIdeal.main_arg6) = m ((c.tc : Thread Cert.HyInIdeal.nD Cert.HyInIdeal.τ).loc Cert.HyInIdeal.main_arg6))
      ∧ θ_run (Cert.HyInRefIdeal.defs (F := Ideal)) (onTc (τ := Cert.HyInRefIdeal.τ) (Cert.HyInRefIdeal.main (F := Ideal))) ⟨m', fun _ => 0, g'⟩ (fun r => ∀ c : Dev Cert.HyInRefIdeal.nD,
          r.2.mem ((c.tc : Thread Cert.HyInRefIdeal.nD Cert.HyInRefIdeal.τ).loc Cert.HyInRefIdeal.main_v44) = v0 c
          ∧ r.2.mem ((c.tc : Thread Cert.HyInRefIdeal.nD Cert.HyInRefIdeal.τ).loc Cert.HyInRefIdeal.main_v47) = v1 c
          ∧ r.2.mem ((c.tc : Thread Cert.HyInRefIdeal.nD Cert.HyInRefIdeal.τ).loc Cert.HyInRefIdeal.main_v45) = v2 c
          ∧ r.2.mem ((c.tc : Thread Cert.HyInRefIdeal.nD Cert.HyInRefIdeal.τ).loc Cert.HyInRefIdeal.main_v46) = v3 c
          ∧ r.2.mem ((c.tc : Thread Cert.HyInRefIdeal.nD Cert.HyInRefIdeal.τ).loc Cert.HyInRefIdeal.main_arg0) = m' ((c.tc : Thread Cert.HyInRefIdeal.nD Cert.HyInRefIdeal.τ).loc Cert.HyInRefIdeal.main_arg0)
          ∧ r.2.mem ((c.tc : Thread Cert.HyInRefIdeal.nD Cert.HyInRefIdeal.τ).loc Cert.HyInRefIdeal.main_arg1) = m' ((c.tc : Thread Cert.HyInRefIdeal.nD Cert.HyInRefIdeal.τ).loc Cert.HyInRefIdeal.main_arg1)
          ∧ r.2.mem ((c.tc : Thread Cert.HyInRefIdeal.nD Cert.HyInRefIdeal.τ).loc Cert.HyInRefIdeal.main_arg2) = m' ((c.tc : Thread Cert.HyInRefIdeal.nD Cert.HyInRefIdeal.τ).loc Cert.HyInRefIdeal.main_arg2)
          ∧ r.2.mem ((c.tc : Thread Cert.HyInRefIdeal.nD Cert.HyInRefIdeal.τ).loc Cert.HyInRefIdeal.main_arg3) = m' ((c.tc : Thread Cert.HyInRefIdeal.nD Cert.HyInRefIdeal.τ).loc Cert.HyInRefIdeal.main_arg3)
          ∧ r.2.mem ((c.tc : Thread Cert.HyInRefIdeal.nD Cert.HyInRefIdeal.τ).loc Cert.HyInRefIdeal.main_arg4) = m' ((c.tc : Thread Cert.HyInRefIdeal.nD Cert.HyInRefIdeal.τ).loc Cert.HyInRefIdeal.main_arg4)
          ∧ r.2.mem ((c.tc : Thread Cert.HyInRefIdeal.nD Cert.HyInRefIdeal.τ).loc Cert.HyInRefIdeal.main_arg5) = m' ((c.tc : Thread Cert.HyInRefIdeal.nD Cert.HyInRefIdeal.τ).loc Cert.HyInRefIdeal.main_arg5)
          ∧ r.2.mem ((c.tc : Thread Cert.HyInRefIdeal.nD Cert.HyInRefIdeal.τ).loc Cert.HyInRefIdeal.main_arg6) = m' ((c.tc : Thread Cert.HyInRefIdeal.nD Cert.HyInRefIdeal.τ).loc Cert.HyInRefIdeal.main_arg6))

def preserves_HyOut_HyOutIdeal : Prop :=
  True

def algebraic_HyOutIdeal_HyOutRefIdeal [hHyOutIdeal : Cert.HyOutIdeal.Facts] [hHyOutRefIdeal : Cert.HyOutRefIdeal.Facts] : Prop :=
  ∀ (m : (ℓ : Loc Cert.HyOutIdeal.nD Cert.HyOutIdeal.τ Cert.HyOutIdeal.sig) → Buf (Elt Ideal) ℓ) (g : Dev Cert.HyOutIdeal.nD → PrngReg)
    (m' : (ℓ : Loc Cert.HyOutRefIdeal.nD Cert.HyOutRefIdeal.τ Cert.HyOutRefIdeal.sig) → Buf (Elt Ideal) ℓ) (g' : Dev Cert.HyOutRefIdeal.nD → PrngReg), Pre_HyOutIdeal m →
    (∀ c : Dev Cert.HyOutIdeal.nD,
      m' ((c.tc : Thread Cert.HyOutRefIdeal.nD Cert.HyOutRefIdeal.τ).loc Cert.HyOutRefIdeal.main_arg0) = m ((c.tc : Thread Cert.HyOutIdeal.nD Cert.HyOutIdeal.τ).loc Cert.HyOutIdeal.main_arg0)
      ∧ m' ((c.tc : Thread Cert.HyOutRefIdeal.nD Cert.HyOutRefIdeal.τ).loc Cert.HyOutRefIdeal.main_arg1) = m ((c.tc : Thread Cert.HyOutIdeal.nD Cert.HyOutIdeal.τ).loc Cert.HyOutIdeal.main_arg1)
      ∧ m' ((c.tc : Thread Cert.HyOutRefIdeal.nD Cert.HyOutRefIdeal.τ).loc Cert.HyOutRefIdeal.main_arg2) = m ((c.tc : Thread Cert.HyOutIdeal.nD Cert.HyOutIdeal.τ).loc Cert.HyOutIdeal.main_arg2)
      ∧ m' ((c.tc : Thread Cert.HyOutRefIdeal.nD Cert.HyOutRefIdeal.τ).loc Cert.HyOutRefIdeal.main_arg3) = m ((c.tc : Thread Cert.HyOutIdeal.nD Cert.HyOutIdeal.τ).loc Cert.HyOutIdeal.main_arg3)
      ∧ m' ((c.tc : Thread Cert.HyOutRefIdeal.nD Cert.HyOutRefIdeal.τ).loc Cert.HyOutRefIdeal.main_arg4) = m ((c.tc : Thread Cert.HyOutIdeal.nD Cert.HyOutIdeal.τ).loc Cert.HyOutIdeal.main_arg4)
      ∧ m' ((c.tc : Thread Cert.HyOutRefIdeal.nD Cert.HyOutRefIdeal.τ).loc Cert.HyOutRefIdeal.main_arg5) = m ((c.tc : Thread Cert.HyOutIdeal.nD Cert.HyOutIdeal.τ).loc Cert.HyOutIdeal.main_arg5)
      ∧ m' ((c.tc : Thread Cert.HyOutRefIdeal.nD Cert.HyOutRefIdeal.τ).loc Cert.HyOutRefIdeal.main_arg6) = m ((c.tc : Thread Cert.HyOutIdeal.nD Cert.HyOutIdeal.τ).loc Cert.HyOutIdeal.main_arg6)) →
    ∃ (v0 : (c : Dev Cert.HyOutIdeal.nD) → Buf (Elt Ideal) ((c.tc : Thread Cert.HyOutIdeal.nD Cert.HyOutIdeal.τ).loc Cert.HyOutIdeal.main_v2)),
      θ_run (Cert.HyOutIdeal.defs (F := Ideal)) (onTc (τ := Cert.HyOutIdeal.τ) (Cert.HyOutIdeal.main (F := Ideal))) ⟨m, fun _ => 0, g⟩ (fun r => ∀ c : Dev Cert.HyOutIdeal.nD,
          r.2.mem ((c.tc : Thread Cert.HyOutIdeal.nD Cert.HyOutIdeal.τ).loc Cert.HyOutIdeal.main_v2) = v0 c
          ∧ r.2.mem ((c.tc : Thread Cert.HyOutIdeal.nD Cert.HyOutIdeal.τ).loc Cert.HyOutIdeal.main_arg0) = m ((c.tc : Thread Cert.HyOutIdeal.nD Cert.HyOutIdeal.τ).loc Cert.HyOutIdeal.main_arg0)
          ∧ r.2.mem ((c.tc : Thread Cert.HyOutIdeal.nD Cert.HyOutIdeal.τ).loc Cert.HyOutIdeal.main_arg1) = m ((c.tc : Thread Cert.HyOutIdeal.nD Cert.HyOutIdeal.τ).loc Cert.HyOutIdeal.main_arg1)
          ∧ r.2.mem ((c.tc : Thread Cert.HyOutIdeal.nD Cert.HyOutIdeal.τ).loc Cert.HyOutIdeal.main_arg2) = m ((c.tc : Thread Cert.HyOutIdeal.nD Cert.HyOutIdeal.τ).loc Cert.HyOutIdeal.main_arg2)
          ∧ r.2.mem ((c.tc : Thread Cert.HyOutIdeal.nD Cert.HyOutIdeal.τ).loc Cert.HyOutIdeal.main_arg3) = m ((c.tc : Thread Cert.HyOutIdeal.nD Cert.HyOutIdeal.τ).loc Cert.HyOutIdeal.main_arg3)
          ∧ r.2.mem ((c.tc : Thread Cert.HyOutIdeal.nD Cert.HyOutIdeal.τ).loc Cert.HyOutIdeal.main_arg4) = m ((c.tc : Thread Cert.HyOutIdeal.nD Cert.HyOutIdeal.τ).loc Cert.HyOutIdeal.main_arg4)
          ∧ r.2.mem ((c.tc : Thread Cert.HyOutIdeal.nD Cert.HyOutIdeal.τ).loc Cert.HyOutIdeal.main_arg5) = m ((c.tc : Thread Cert.HyOutIdeal.nD Cert.HyOutIdeal.τ).loc Cert.HyOutIdeal.main_arg5)
          ∧ r.2.mem ((c.tc : Thread Cert.HyOutIdeal.nD Cert.HyOutIdeal.τ).loc Cert.HyOutIdeal.main_arg6) = m ((c.tc : Thread Cert.HyOutIdeal.nD Cert.HyOutIdeal.τ).loc Cert.HyOutIdeal.main_arg6))
      ∧ θ_run (Cert.HyOutRefIdeal.defs (F := Ideal)) (onTc (τ := Cert.HyOutRefIdeal.τ) (Cert.HyOutRefIdeal.main (F := Ideal))) ⟨m', fun _ => 0, g'⟩ (fun r => ∀ c : Dev Cert.HyOutRefIdeal.nD,
          r.2.mem ((c.tc : Thread Cert.HyOutRefIdeal.nD Cert.HyOutRefIdeal.τ).loc Cert.HyOutRefIdeal.main_v10) = v0 c
          ∧ r.2.mem ((c.tc : Thread Cert.HyOutRefIdeal.nD Cert.HyOutRefIdeal.τ).loc Cert.HyOutRefIdeal.main_arg0) = m' ((c.tc : Thread Cert.HyOutRefIdeal.nD Cert.HyOutRefIdeal.τ).loc Cert.HyOutRefIdeal.main_arg0)
          ∧ r.2.mem ((c.tc : Thread Cert.HyOutRefIdeal.nD Cert.HyOutRefIdeal.τ).loc Cert.HyOutRefIdeal.main_arg1) = m' ((c.tc : Thread Cert.HyOutRefIdeal.nD Cert.HyOutRefIdeal.τ).loc Cert.HyOutRefIdeal.main_arg1)
          ∧ r.2.mem ((c.tc : Thread Cert.HyOutRefIdeal.nD Cert.HyOutRefIdeal.τ).loc Cert.HyOutRefIdeal.main_arg2) = m' ((c.tc : Thread Cert.HyOutRefIdeal.nD Cert.HyOutRefIdeal.τ).loc Cert.HyOutRefIdeal.main_arg2)
          ∧ r.2.mem ((c.tc : Thread Cert.HyOutRefIdeal.nD Cert.HyOutRefIdeal.τ).loc Cert.HyOutRefIdeal.main_arg3) = m' ((c.tc : Thread Cert.HyOutRefIdeal.nD Cert.HyOutRefIdeal.τ).loc Cert.HyOutRefIdeal.main_arg3)
          ∧ r.2.mem ((c.tc : Thread Cert.HyOutRefIdeal.nD Cert.HyOutRefIdeal.τ).loc Cert.HyOutRefIdeal.main_arg4) = m' ((c.tc : Thread Cert.HyOutRefIdeal.nD Cert.HyOutRefIdeal.τ).loc Cert.HyOutRefIdeal.main_arg4)
          ∧ r.2.mem ((c.tc : Thread Cert.HyOutRefIdeal.nD Cert.HyOutRefIdeal.τ).loc Cert.HyOutRefIdeal.main_arg5) = m' ((c.tc : Thread Cert.HyOutRefIdeal.nD Cert.HyOutRefIdeal.τ).loc Cert.HyOutRefIdeal.main_arg5)
          ∧ r.2.mem ((c.tc : Thread Cert.HyOutRefIdeal.nD Cert.HyOutRefIdeal.τ).loc Cert.HyOutRefIdeal.main_arg6) = m' ((c.tc : Thread Cert.HyOutRefIdeal.nD Cert.HyOutRefIdeal.τ).loc Cert.HyOutRefIdeal.main_arg6))

def Claim : Prop :=
  ∃ (hScan : Cert.Scan.Facts) (hScanIdeal : Cert.ScanIdeal.Facts) (hScanRefIdeal : Cert.ScanRefIdeal.Facts) (hFfn : Cert.Ffn.Facts) (hFfnIdeal : Cert.FfnIdeal.Facts) (hFfnRefIdeal : Cert.FfnRefIdeal.Facts) (hMid : Cert.Mid.Facts) (hMidIdeal : Cert.MidIdeal.Facts) (hMidRefIdeal : Cert.MidRefIdeal.Facts) (hCtx : Cert.Ctx.Facts) (hCtxIdeal : Cert.CtxIdeal.Facts) (hCtxRefIdeal : Cert.CtxRefIdeal.Facts) (hProj : Cert.Proj.Facts) (hProjIdeal : Cert.ProjIdeal.Facts) (hProjRefIdeal : Cert.ProjRefIdeal.Facts) (hHyIn : Cert.HyIn.Facts) (hHyInIdeal : Cert.HyInIdeal.Facts) (hHyInRefIdeal : Cert.HyInRefIdeal.Facts) (hHyOut : Cert.HyOut.Facts) (hHyOutIdeal : Cert.HyOutIdeal.Facts) (hHyOutRefIdeal : Cert.HyOutRefIdeal.Facts),
    quiescent_Scan (hScan := hScan)
    ∧ quiescent_ScanIdeal (hScanIdeal := hScanIdeal)
    ∧ quiescent_ScanRefIdeal (hScanRefIdeal := hScanRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Mid (hMid := hMid)
    ∧ quiescent_MidIdeal (hMidIdeal := hMidIdeal)
    ∧ quiescent_MidRefIdeal (hMidRefIdeal := hMidRefIdeal)
    ∧ quiescent_Ctx (hCtx := hCtx)
    ∧ quiescent_CtxIdeal (hCtxIdeal := hCtxIdeal)
    ∧ quiescent_CtxRefIdeal (hCtxRefIdeal := hCtxRefIdeal)
    ∧ quiescent_Proj (hProj := hProj)
    ∧ quiescent_ProjIdeal (hProjIdeal := hProjIdeal)
    ∧ quiescent_ProjRefIdeal (hProjRefIdeal := hProjRefIdeal)
    ∧ quiescent_HyIn (hHyIn := hHyIn)
    ∧ quiescent_HyInIdeal (hHyInIdeal := hHyInIdeal)
    ∧ quiescent_HyInRefIdeal (hHyInRefIdeal := hHyInRefIdeal)
    ∧ quiescent_HyOut (hHyOut := hHyOut)
    ∧ quiescent_HyOutIdeal (hHyOutIdeal := hHyOutIdeal)
    ∧ quiescent_HyOutRefIdeal (hHyOutRefIdeal := hHyOutRefIdeal)
    ∧ preserves_Scan_ScanIdeal
    ∧ algebraic_ScanIdeal_ScanRefIdeal (hScanIdeal := hScanIdeal) (hScanRefIdeal := hScanRefIdeal)
    ∧ preserves_Ffn_FfnIdeal
    ∧ algebraic_FfnIdeal_FfnRefIdeal (hFfnIdeal := hFfnIdeal) (hFfnRefIdeal := hFfnRefIdeal)
    ∧ preserves_Mid_MidIdeal
    ∧ algebraic_MidIdeal_MidRefIdeal (hMidIdeal := hMidIdeal) (hMidRefIdeal := hMidRefIdeal)
    ∧ preserves_Ctx_CtxIdeal
    ∧ algebraic_CtxIdeal_CtxRefIdeal (hCtxIdeal := hCtxIdeal) (hCtxRefIdeal := hCtxRefIdeal)
    ∧ preserves_Proj_ProjIdeal
    ∧ algebraic_ProjIdeal_ProjRefIdeal (hProjIdeal := hProjIdeal) (hProjRefIdeal := hProjRefIdeal)
    ∧ preserves_HyIn_HyInIdeal
    ∧ algebraic_HyInIdeal_HyInRefIdeal (hHyInIdeal := hHyInIdeal) (hHyInRefIdeal := hHyInRefIdeal)
    ∧ preserves_HyOut_HyOutIdeal
    ∧ algebraic_HyOutIdeal_HyOutRefIdeal (hHyOutIdeal := hHyOutIdeal) (hHyOutRefIdeal := hHyOutRefIdeal)
-- ==== Scan.lean ====
abbrev S4x8448x512 : Shape := ⟨3, ![4, 8448, 512]⟩
abbrev S2x32x64 : Shape := ⟨3, ![2, 32, 64]⟩
abbrev S2x32x64x16 : Shape := ⟨4, ![2, 32, 64, 16]⟩
abbrev S2x32x16x64 : Shape := ⟨4, ![2, 32, 16, 64]⟩
abbrev S8x8 : Shape := ⟨2, ![8, 8]⟩
abbrev S_ : Shape := ⟨0, ![]⟩
abbrev S2x4x8x64x16 : Shape := ⟨5, ![2, 4, 8, 64, 16]⟩
abbrev S4x2x8x16x64 : Shape := ⟨5, ![4, 2, 8, 16, 64]⟩
abbrev S4x2x8x16x1x64 : Shape := ⟨6, ![4, 2, 8, 16, 1, 64]⟩
abbrev S1x1x8x1x8x1 : Shape := ⟨6, ![1, 1, 8, 1, 8, 1]⟩
abbrev S4x2x8x16x8x64 : Shape := ⟨6, ![4, 2, 8, 16, 8, 64]⟩
abbrev S4x256x512 : Shape := ⟨3, ![4, 256, 512]⟩
abbrev S4x256x1024 : Shape := ⟨3, ![4, 256, 1024]⟩
abbrev S2x4x8x16x64 : Shape := ⟨5, ![2, 4, 8, 16, 64]⟩
abbrev S4x64x2x8x16 : Shape := ⟨5, ![4, 64, 2, 8, 16]⟩
abbrev S4x1x64x2x8x16 : Shape := ⟨6, ![4, 1, 64, 2, 8, 16]⟩
abbrev S1x8x1x1x8x1 : Shape := ⟨6, ![1, 8, 1, 1, 8, 1]⟩
abbrev S4x8x64x2x8x16 : Shape := ⟨6, ![4, 8, 64, 2, 8, 16]⟩
abbrev S4x512x256 : Shape := ⟨3, ![4, 512, 256]⟩
abbrev S4x1024x256 : Shape := ⟨3, ![4, 1024, 256]⟩
abbrev S2x1x4x512 : Shape := ⟨4, ![2, 1, 4, 512]⟩
abbrev S2x4x4x512 : Shape := ⟨4, ![2, 4, 4, 512]⟩
abbrev S8x4x512 : Shape := ⟨3, ![8, 4, 512]⟩
abbrev S8x4x1024 : Shape := ⟨3, ![8, 4, 1024]⟩
abbrev S1x8x4096 : Shape := ⟨3, ![1, 8, 4096]⟩
abbrev S8448x4x512 : Shape := ⟨3, ![8448, 4, 512]⟩
abbrev S8448x8x512 : Shape := ⟨3, ![8448, 8, 512]⟩
abbrev S128x4x512 : Shape := ⟨3, ![128, 4, 512]⟩
abbrev S128x8x512 : Shape := ⟨3, ![128, 8, 512]⟩
abbrev S8x4096 : Shape := ⟨2, ![8, 4096]⟩
abbrev S1024x4096 : Shape := ⟨2, ![1024, 4096]⟩
abbrev S1x4x512 : Shape := ⟨3, ![1, 4, 512]⟩
abbrev S4x512 : Shape := ⟨2, ![4, 512]⟩
abbrev S128x8x128 : Shape := ⟨3, ![128, 8, 128]⟩
abbrev S128x8x256 : Shape := ⟨3, ![128, 8, 256]⟩
abbrev S1024x256 : Shape := ⟨2, ![1024, 256]⟩
abbrev S1x256x1024 : Shape := ⟨3, ![1, 256, 1024]⟩
abbrev S256x1024 : Shape := ⟨2, ![256, 1024]⟩
abbrev S1024x1024 : Shape := ⟨2, ![1024, 1024]⟩
abbrev S8x512 : Shape := ⟨2, ![8, 512]⟩
abbrev S1x8x512 : Shape := ⟨3, ![1, 8, 512]⟩
abbrev S1024x128 : Shape := ⟨2, ![1024, 128]⟩
abbrev S1x1024x256 : Shape := ⟨3, ![1, 1024, 256]⟩
abbrev S1024x512 : Shape := ⟨2, ![1024, 512]⟩

abbrev nBuf : Space → Nat
  | .hbm => 68
  | .vmem => 14
  | .smem => 0
  | _ => 0

abbrev bufTy : (tb : Table) → Fin (tcTables nBuf tb) → BufTy
  | .hbm, ⟨0, _⟩ => ⟨S4x8448x512, .f32⟩
  | .hbm, ⟨1, _⟩ => ⟨S2x32x64, .f32⟩
  | .hbm, ⟨2, _⟩ => ⟨S2x32x64, .f32⟩
  | .hbm, ⟨3, _⟩ => ⟨S2x32x64x16, .f32⟩
  | .hbm, ⟨4, _⟩ => ⟨S2x32x64x16, .f32⟩
  | .hbm, ⟨5, _⟩ => ⟨S2x32x16x64, .f32⟩
  | .hbm, ⟨6, _⟩ => ⟨S2x32x16x64, .f32⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .f32⟩
  | .hbm, ⟨14, _⟩ => ⟨S2x4x8x64x16, .f32⟩
  | .hbm, ⟨15, _⟩ => ⟨S4x2x8x16x64, .f32⟩
  | .hbm, ⟨16, _⟩ => ⟨S4x2x8x16x1x64, .f32⟩
  | .hbm, ⟨17, _⟩ => ⟨S1x1x8x1x8x1, .f32⟩
  | .hbm, ⟨18, _⟩ => ⟨S4x2x8x16x8x64, .f32⟩
  | .hbm, ⟨19, _⟩ => ⟨S4x2x8x16x8x64, .f32⟩
  | .hbm, ⟨20, _⟩ => ⟨S4x2x8x16x8x64, .f32⟩
  | .hbm, ⟨21, _⟩ => ⟨S4x256x512, .f32⟩
  | .hbm, ⟨22, _⟩ => ⟨S2x4x8x64x16, .f32⟩
  | .hbm, ⟨23, _⟩ => ⟨S4x2x8x16x64, .f32⟩
  | .hbm, ⟨24, _⟩ => ⟨S4x2x8x16x1x64, .f32⟩
  | .hbm, ⟨25, _⟩ => ⟨S1x1x8x1x8x1, .f32⟩
  | .hbm, ⟨26, _⟩ => ⟨S4x2x8x16x8x64, .f32⟩
  | .hbm, ⟨27, _⟩ => ⟨S4x2x8x16x8x64, .f32⟩
  | .hbm, ⟨28, _⟩ => ⟨S4x2x8x16x8x64, .f32⟩
  | .hbm, ⟨29, _⟩ => ⟨S4x256x512, .f32⟩
  | .hbm, ⟨30, _⟩ => ⟨S4x256x1024, .f32⟩
  | .hbm, ⟨31, _⟩ => ⟨S4x256x1024, .bf16⟩
  | .hbm, ⟨32, _⟩ => ⟨S2x4x8x16x64, .f32⟩
  | .hbm, ⟨33, _⟩ => ⟨S4x64x2x8x16, .f32⟩
  | .hbm, ⟨34, _⟩ => ⟨S4x1x64x2x8x16, .f32⟩
  | .hbm, ⟨35, _⟩ => ⟨S8x8, .f32⟩
  | .hbm, ⟨36, _⟩ => ⟨S1x8x1x1x8x1, .f32⟩
  | .hbm, ⟨37, _⟩ => ⟨S4x8x64x2x8x16, .f32⟩
  | .hbm, ⟨38, _⟩ => ⟨S4x8x64x2x8x16, .f32⟩
  | .hbm, ⟨39, _⟩ => ⟨S4x8x64x2x8x16, .f32⟩
  | .hbm, ⟨40, _⟩ => ⟨S4x512x256, .f32⟩
  | .hbm, ⟨41, _⟩ => ⟨S2x4x8x16x64, .f32⟩
  | .hbm, ⟨42, _⟩ => ⟨S4x64x2x8x16, .f32⟩
  | .hbm, ⟨43, _⟩ => ⟨S4x1x64x2x8x16, .f32⟩
  | .hbm, ⟨44, _⟩ => ⟨S8x8, .f32⟩
  | .hbm, ⟨45, _⟩ => ⟨S1x8x1x1x8x1, .f32⟩
  | .hbm, ⟨46, _⟩ => ⟨S4x8x64x2x8x16, .f32⟩
  | .hbm, ⟨47, _⟩ => ⟨S4x8x64x2x8x16, .f32⟩
  | .hbm, ⟨48, _⟩ => ⟨S4x8x64x2x8x16, .f32⟩
  | .hbm, ⟨49, _⟩ => ⟨S4x512x256, .f32⟩
  | .hbm, ⟨50, _⟩ => ⟨S4x512x256, .f32⟩
  | .hbm, ⟨51, _⟩ => ⟨S4x1024x256, .f32⟩
  | .hbm, ⟨52, _⟩ => ⟨S4x1024x256, .bf16⟩
  | .hbm, ⟨53, _⟩ => ⟨S2x1x4x512, .f32⟩
  | .hbm, ⟨54, _⟩ => ⟨S2x4x4x512, .f32⟩
  | .hbm, ⟨55, _⟩ => ⟨S8x4x512, .f32⟩
  | .hbm, ⟨56, _⟩ => ⟨S2x1x4x512, .f32⟩
  | .hbm, ⟨57, _⟩ => ⟨S2x4x4x512, .f32⟩
  | .hbm, ⟨58, _⟩ => ⟨S8x4x512, .f32⟩
  | .hbm, ⟨59, _⟩ => ⟨S8x4x1024, .f32⟩
  | .hbm, ⟨60, _⟩ => ⟨S1x8x4096, .f32⟩
  | .hbm, ⟨61, _⟩ => ⟨S8448x4x512, .f32⟩
  | .hbm, ⟨62, _⟩ => ⟨S8448x8x512, .f32⟩
  | .hbm, ⟨63, _⟩ => ⟨S8448x8x512, .f32⟩
  | .hbm, ⟨64, _⟩ => ⟨S8448x4x512, .f32⟩
  | .hbm, ⟨65, _⟩ => ⟨S8448x4x512, .f32⟩
  | .hbm, ⟨66, _⟩ => ⟨S8448x4x512, .f32⟩
  | .hbm, ⟨67, _⟩ => ⟨S4x8448x512, .f32⟩
  | .local _ .vmem, ⟨0, _⟩ => ⟨S128x4x512, .f32⟩
  | .local _ .vmem, ⟨1, _⟩ => ⟨S128x4x512, .f32⟩
  | .local _ .vmem, ⟨2, _⟩ => ⟨S128x4x512, .f32⟩
  | .local _ .vmem, ⟨3, _⟩ => ⟨S128x4x512, .f32⟩
  | .local _ .vmem, ⟨4, _⟩ => ⟨S4x256x1024, .bf16⟩
  | .local _ .vmem, ⟨5, _⟩ => ⟨S4x1024x256, .bf16⟩
  | .local _ .vmem, ⟨6, _⟩ => ⟨S1x8x4096, .f32⟩
  | .local _ .vmem, ⟨7, _⟩ => ⟨S128x8x512, .f32⟩
  | .local _ .vmem, ⟨8, _⟩ => ⟨S128x8x512, .f32⟩
  | .local _ .vmem, ⟨9, _⟩ => ⟨S128x8x512, .f32⟩
  | .local _ .vmem, ⟨10, _⟩ => ⟨S128x8x512, .f32⟩
  | .local _ .vmem, ⟨11, _⟩ => ⟨S8x4096, .f32⟩
  | .local _ .vmem, ⟨12, _⟩ => ⟨S1024x4096, .f32⟩
  | .local _ .vmem, ⟨13, _⟩ => ⟨S128x4x512, .f32⟩
  | _, _ => ⟨S4x8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54_0 : Ref sig .tc := ⟨.hbm, 62, rfl⟩
abbrev main_v54_1 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![66], ![false]⟩

@[reducible] def k0_t1_loop : Scf.Loop 32 :=
  let c0_i32_680 : BitVec 32 := 0#32
  let c128_i32 : BitVec 32 := 128#32
  let v701 : BitVec 32 := Scalar.addi c0_i32_680 c128_i32
  let c1_i32 : BitVec 32 := 1#32
  ⟨c0_i32_680, v701, c1_i32⟩
def k0_mult1 (k0_t1 : Fin k0_t1_loop.trips) : BitVec 32 :=
  let c0_i32_680 : BitVec 32 := 0#32
  let c1_i32 : BitVec 32 := 1#32
  let arg11 : BitVec 32 := Scf.iv c0_i32_680 c1_i32 k0_t1
  let c8_i32_1114 : BitVec 32 := 8#32
  let v1421 : BitVec 32 := Scalar.muli arg11 c8_i32_1114
  v1421
def k0_off1 (k0_t1 : Fin k0_t1_loop.trips) : Fin 2 → Nat :=
  let c0_i32_680 : BitVec 32 := 0#32
  let c1_i32 : BitVec 32 := 1#32
  let arg11 : BitVec 32 := Scf.iv c0_i32_680 c1_i32 k0_t1
  let c8_i32_1114 : BitVec 32 := 8#32
  let v1421 : BitVec 32 := Scalar.muli arg11 c8_i32_1114
  let v1422 : BitVec 32 := v1421
  let v1430 : Index := Scalar.indexCast v1422
  let c0_1121 : Index := 0#32
  ![v1430.toNat, 0]
def k0_off2 (k0_t1 : Fin k0_t1_loop.trips) : Fin 2 → Nat :=
  let c0_i32_680 : BitVec 32 := 0#32
  let c1_i32 : BitVec 32 := 1#32
  let arg11 : BitVec 32 := Scf.iv c0_i32_680 c1_i32 k0_t1
  let c8_i32_1114 : BitVec 32 := 8#32
  let v1421 : BitVec 32 := Scalar.muli arg11 c8_i32_1114
  let v1422 : BitVec 32 := v1421
  let v1436 : Index := Scalar.indexCast v1422
  let c512_1122 : Index := 512#32
  ![v1436.toNat, 512]
def k0_off3 (k0_t1 : Fin k0_t1_loop.trips) : Fin 2 → Nat :=
  let c0_i32_680 : BitVec 32 := 0#32
  let c1_i32 : BitVec 32 := 1#32
  let arg11 : BitVec 32 := Scf.iv c0_i32_680 c1_i32 k0_t1
  let c8_i32_1114 : BitVec 32 := 8#32
  let v1421 : BitVec 32 := Scalar.muli arg11 c8_i32_1114
  let v1422 : BitVec 32 := v1421
  let v1454 : Index := Scalar.indexCast v1422
  let c1024_1131 : Index := 1024#32
  ![v1454.toNat, 1024]
def k0_off4 (k0_t1 : Fin k0_t1_loop.trips) : Fin 2 → Nat :=
  let c0_i32_680 : BitVec 32 := 0#32
  let c1_i32 : BitVec 32 := 1#32
  let arg11 : BitVec 32 := Scf.iv c0_i32_680 c1_i32 k0_t1
  let c8_i32_1114 : BitVec 32 := 8#32
  let v1421 : BitVec 32 := Scalar.muli arg11 c8_i32_1114
  let v1422 : BitVec 32 := v1421
  let v1460 : Index := Scalar.indexCast v1422
  let c1536_1132 : Index := 1536#32
  ![v1460.toNat, 1536]
def k0_off5 (k0_t1 : Fin k0_t1_loop.trips) : Fin 2 → Nat :=
  let c0_i32_680 : BitVec 32 := 0#32
  let c1_i32 : BitVec 32 := 1#32
  let arg11 : BitVec 32 := Scf.iv c0_i32_680 c1_i32 k0_t1
  let c8_i32_1114 : BitVec 32 := 8#32
  let v1421 : BitVec 32 := Scalar.muli arg11 c8_i32_1114
  let v1422 : BitVec 32 := v1421
  let v1478 : Index := Scalar.indexCast v1422
  let c2048_1141 : Index := 2048#32
  ![v1478.toNat, 2048]
def k0_off6 (k0_t1 : Fin k0_t1_loop.trips) : Fin 2 → Nat :=
  let c0_i32_680 : BitVec 32 := 0#32
  let c1_i32 : BitVec 32 := 1#32
  let arg11 : BitVec 32 := Scf.iv c0_i32_680 c1_i32 k0_t1
  let c8_i32_1114 : BitVec 32 := 8#32
  let v1421 : BitVec 32 := Scalar.muli arg11 c8_i32_1114
  let v1422 : BitVec 32 := v1421
  let v1484 : Index := Scalar.indexCast v1422
  let c2560_1142 : Index := 2560#32
  ![v1484.toNat, 2560]
def k0_off7 (k0_t1 : Fin k0_t1_loop.trips) : Fin 2 → Nat :=
  let c0_i32_680 : BitVec 32 := 0#32
  let c1_i32 : BitVec 32 := 1#32
  let arg11 : BitVec 32 := Scf.iv c0_i32_680 c1_i32 k0_t1
  let c8_i32_1114 : BitVec 32 := 8#32
  let v1421 : BitVec 32 := Scalar.muli arg11 c8_i32_1114
  let v1422 : BitVec 32 := v1421
  let v1502 : Index := Scalar.indexCast v1422
  let c3072_1151 : Index := 3072#32
  ![v1502.toNat, 3072]
def k0_off8 (k0_t1 : Fin k0_t1_loop.trips) : Fin 2 → Nat :=
  let c0_i32_680 : BitVec 32 := 0#32
  let c1_i32 : BitVec 32 := 1#32
  let arg11 : BitVec 32 := Scf.iv c0_i32_680 c1_i32 k0_t1
  let c8_i32_1114 : BitVec 32 := 8#32
  let v1421 : BitVec 32 := Scalar.muli arg11 c8_i32_1114
  let v1422 : BitVec 32 := v1421
  let v1508 : Index := Scalar.indexCast v1422
  let c3584_1152 : Index := 3584#32
  ![v1508.toNat, 3584]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 1 := Scalar.cmpi .slt arg0 c2_i32
  let c1_i32 : BitVec 32 := 1#32
  let v1 : BitVec 32 := Scalar.subi c1_i32 arg0
  let c67_i32 : BitVec 32 := 67#32
  let v2 : BitVec 32 := Scalar.subi c67_i32 arg0
  let v3 : BitVec 32 := Scalar.select v0 v1 v2
  let c0_i32 : BitVec 32 := 0#32
  let c0_i32_0 : BitVec 32 := 0#32
  let c0_i32_1 : BitVec 32 := 0#32
  ![v3.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c2_i32 : BitVec 32 := 2#32
  let v0 : BitVec 1 := Scalar.cmpi .slt arg0 c2_i32
  let c1_i32 : BitVec 32 := 1#32
  let v1 : BitVec 32 := Scalar.subi c1_i32 arg0
  let c67_i32 : BitVec 32 := 67#32
  let v2 : BitVec 32 := Scalar.subi c67_i32 arg0
  let v3 : BitVec 32 := Scalar.select v0 v1 v2
  let c0_i32 : BitVec 32 := 0#32
  let c0_i32_0 : BitVec 32 := 0#32
  let c0_i32_1 : BitVec 32 := 0#32
  ![v3.toNat, c0_i32.toNat, c0_i32_0.toNat]

abbrev stage0_0 : Fin 2 → Memref sig .tc .vmem S128x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ScanRefIdeal.lean ====
abbrev S4x8448x512 : Shape := ⟨3, ![4, 8448, 512]⟩
abbrev S2x32x64 : Shape := ⟨3, ![2, 32, 64]⟩
abbrev S2x32x64x16 : Shape := ⟨4, ![2, 32, 64, 16]⟩
abbrev S2x32x16x64 : Shape := ⟨4, ![2, 32, 16, 64]⟩
abbrev S4x8448x32x16 : Shape := ⟨4, ![4, 8448, 32, 16]⟩
abbrev S4x256x32x16 : Shape := ⟨4, ![4, 256, 32, 16]⟩
abbrev S4x8192x32x16 : Shape := ⟨4, ![4, 8192, 32, 16]⟩
abbrev S1x4x8448x32x16 : Shape := ⟨5, ![1, 4, 8448, 32, 16]⟩
abbrev S2x4x8448x32x16 : Shape := ⟨5, ![2, 4, 8448, 32, 16]⟩
abbrev S2x32x4x8448x64 : Shape := ⟨5, ![2, 32, 4, 8448, 64]⟩
abbrev S8448x2x4x32x64 : Shape := ⟨5, ![8448, 2, 4, 32, 64]⟩
abbrev S2x1x32x64 : Shape := ⟨4, ![2, 1, 32, 64]⟩
abbrev S_ : Shape := ⟨0, ![]⟩
abbrev S2x4x32x64 : Shape := ⟨4, ![2, 4, 32, 64]⟩
abbrev S1x2x4x32x64 : Shape := ⟨5, ![1, 2, 4, 32, 64]⟩
abbrev S2x32x8448x4x16 : Shape := ⟨5, ![2, 32, 8448, 4, 16]⟩

abbrev nBuf : Space → Nat
  | .hbm => 95
  | .vmem => 0
  | .smem => 0
  | _ => 0

abbrev bufTy : (tb : Table) → Fin (tcTables nBuf tb) → BufTy
  | .hbm, ⟨0, _⟩ => ⟨S4x8448x512, .f32⟩
  | .hbm, ⟨1, _⟩ => ⟨S2x32x64, .f32⟩
  | .hbm, ⟨2, _⟩ => ⟨S2x32x64, .f32⟩
  | .hbm, ⟨3, _⟩ => ⟨S2x32x64x16, .f32⟩
  | .hbm, ⟨4, _⟩ => ⟨S2x32x64x16, .f32⟩
  | .hbm, ⟨5, _⟩ => ⟨S2x32x16x64, .f32⟩
  | .hbm, ⟨6, _⟩ => ⟨S2x32x16x64, .f32⟩
  | .hbm, ⟨7, _⟩ => ⟨S4x8448x32x16, .f32⟩
  | .hbm, ⟨8, _⟩ => ⟨S4x256x32x16, .f32⟩
  | .hbm, ⟨9, _⟩ => ⟨S4x256x32x16, .f32⟩
  | .hbm, ⟨10, _⟩ => ⟨S4x8192x32x16, .f32⟩
  | .hbm, ⟨11, _⟩ => ⟨S4x8192x32x16, .f32⟩
  | .hbm, ⟨12, _⟩ => ⟨S4x8448x32x16, .f32⟩
  | .hbm, ⟨13, _⟩ => ⟨S1x4x8448x32x16, .f32⟩
  | .hbm, ⟨14, _⟩ => ⟨S1x4x8448x32x16, .f32⟩
  | .hbm, ⟨15, _⟩ => ⟨S2x4x8448x32x16, .f32⟩
  | .hbm, ⟨16, _⟩ => ⟨S2x32x4x8448x64, .f32⟩
  | .hbm, ⟨17, _⟩ => ⟨S8448x2x4x32x64, .f32⟩
  | .hbm, ⟨18, _⟩ => ⟨S2x32x4x8448x64, .f32⟩
  | .hbm, ⟨19, _⟩ => ⟨S8448x2x4x32x64, .f32⟩
  | .hbm, ⟨20, _⟩ => ⟨S2x1x32x64, .f32⟩
  | .hbm, ⟨21, _⟩ => ⟨S2x1x32x64, .f32⟩
  | .hbm, ⟨22, _⟩ => ⟨S_, .f32⟩
  | .hbm, ⟨23, _⟩ => ⟨S2x4x32x64, .f32⟩
  | .hbm, ⟨24, _⟩ => ⟨S_, .f32⟩
  | .hbm, ⟨25, _⟩ => ⟨S8448x2x4x32x64, .f32⟩
  | .hbm, ⟨26, _⟩ => ⟨S_, .f32⟩
  | .hbm, ⟨27, _⟩ => ⟨S8448x2x4x32x64, .f32⟩
  | .hbm, ⟨28, _⟩ => ⟨S_, .i32⟩
  | .hbm, ⟨29, _⟩ => ⟨S8448x2x4x32x64, .f32⟩
  | .hbm, ⟨30, _⟩ => ⟨S8448x2x4x32x64, .f32⟩
  | .hbm, ⟨31, _⟩ => ⟨S2x1x32x64, .f32⟩
  | .hbm, ⟨32, _⟩ => ⟨S2x1x32x64, .f32⟩
  | .hbm, ⟨33, _⟩ => ⟨S_, .i32⟩
  | .hbm, ⟨34, _⟩ => ⟨S2x4x32x64, .f32⟩
  | .hbm, ⟨35, _⟩ => ⟨S2x4x32x64, .f32⟩
  | .hbm, ⟨36, _⟩ => ⟨S8448x2x4x32x64, .f32⟩
  | .hbm, ⟨37, _⟩ => ⟨S8448x2x4x32x64, .f32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x2x4x32x64, .f32⟩
  | .hbm, ⟨45, _⟩ => ⟨S2x4x32x64, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x2x4x32x64, .f32⟩
  | .hbm, ⟨51, _⟩ => ⟨S2x4x32x64, .f32⟩
  | .hbm, ⟨52, _⟩ => ⟨S2x4x32x64, .f32⟩
  | .hbm, ⟨53, _⟩ => ⟨S2x4x32x64, .f32⟩
  | .hbm, ⟨54, _⟩ => ⟨S2x4x32x64, .f32⟩
  | .hbm, ⟨55, _⟩ => ⟨S2x4x32x64, .f32⟩
  | .hbm, ⟨56, _⟩ => ⟨S2x4x32x64, .f32⟩
  | .hbm, ⟨57, _⟩ => ⟨S2x4x32x64, .f32⟩
  | .hbm, ⟨58, _⟩ => ⟨S2x4x32x64, .f32⟩
  | .hbm, ⟨59, _⟩ => ⟨S2x4x32x64, .f32⟩
  | .hbm, ⟨60, _⟩ => ⟨S2x4x32x64, .f32⟩
  | .hbm, ⟨61, _⟩ => ⟨S2x4x32x64, .f32⟩
  | .hbm, ⟨62, _⟩ => ⟨S2x4x32x64, .f32⟩
  | .hbm, ⟨63, _⟩ => ⟨S2x4x32x64, .f32⟩
  | .hbm, ⟨64, _⟩ => ⟨S1x2x4x32x64, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S8448x2x4x32x64, .f32⟩
  | .hbm, ⟨70, _⟩ => ⟨S1x2x4x32x64, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S8448x2x4x32x64, .f32⟩
  | .hbm, ⟨76, _⟩ => ⟨S_, .i32⟩
  | .hbm, ⟨77, _⟩ => ⟨S_, .i32⟩
  | .hbm, ⟨78, _⟩ => ⟨S2x32x8448x4x16, .f32⟩
  | .hbm, ⟨79, _⟩ => ⟨S2x4x8448x32x16, .f32⟩
  | .hbm, ⟨80, _⟩ => ⟨S2x32x16x64, .f32⟩
  | .hbm, ⟨81, _⟩ => ⟨S2x32x8448x4x16, .f32⟩
  | .hbm, ⟨82, _⟩ => ⟨S2x4x8448x32x16, .f32⟩
  | .hbm, ⟨83, _⟩ => ⟨S2x4x8448x32x16, .f32⟩
  | .hbm, ⟨84, _⟩ => ⟨S1x4x8448x32x16, .f32⟩
  | .hbm, ⟨85, _⟩ => ⟨S4x8448x32x16, .f32⟩
  | .hbm, ⟨86, _⟩ => ⟨S1x4x8448x32x16, .f32⟩
  | .hbm, ⟨87, _⟩ => ⟨S4x8448x32x16, .f32⟩
  | .hbm, ⟨88, _⟩ => ⟨S4x256x32x16, .f32⟩
  | .hbm, ⟨89, _⟩ => ⟨S4x256x32x16, .f32⟩
  | .hbm, ⟨90, _⟩ => ⟨S4x8192x32x16, .f32⟩
  | .hbm, ⟨91, _⟩ => ⟨S4x8192x32x16, .f32⟩
  | .hbm, ⟨92, _⟩ => ⟨S4x8448x32x16, .f32⟩
  | .hbm, ⟨93, _⟩ => ⟨S4x8448x32x16, .f32⟩
  | .hbm, ⟨94, _⟩ => ⟨S4x8448x512, .f32⟩
  | _, _ => ⟨S4x8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_c : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev main_v18_4 : Ref sig .tc := ⟨.hbm, 33, rfl⟩
abbrev main_v18_5 : Ref sig .tc := ⟨.hbm, 34, rfl⟩
abbrev main_v18_6 : Ref sig .tc := ⟨.hbm, 35, rfl⟩
abbrev main_v18_7 : Ref sig .tc := ⟨.hbm, 36, rfl⟩
abbrev main_v18_8 : Ref sig .tc := ⟨.hbm, 37, rfl⟩
abbrev main_while0c_c_10 : Ref sig .tc := ⟨.hbm, 38, rfl⟩
abbrev main_while0c_v36 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_c_1 : Ref sig .tc := ⟨.hbm, 42, rfl⟩
abbrev main_while0b_call0_c_2 : Ref sig .tc := ⟨.hbm, 43, rfl⟩
abbrev main_while0b_call0_v0 : Ref sig .tc := ⟨.hbm, 44, rfl⟩
abbrev main_while0b_v36 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_call1_c_1 : Ref sig .tc := ⟨.hbm, 48, rfl⟩
abbrev main_while0b_call1_c_2 : Ref sig .tc := ⟨.hbm, 49, rfl⟩
abbrev main_while0b_call1_v0 : Ref sig .tc := ⟨.hbm, 50, rfl⟩
abbrev main_while0b_v37 : Ref sig .tc := ⟨.hbm, 51, rfl⟩
abbrev main_while0b_v38 : Ref sig .tc := ⟨.hbm, 52, rfl⟩
abbrev main_while0b_v39 : Ref sig .tc := ⟨.hbm, 53, rfl⟩
abbrev main_while0b_v40 : Ref sig .tc := ⟨.hbm, 54, rfl⟩
abbrev main_while0b_v41 : Ref sig .tc := ⟨.hbm, 55, rfl⟩
abbrev main_while0b_v42 : Ref sig .tc := ⟨.hbm, 56, rfl⟩
abbrev main_while0b_v43 : Ref sig .tc := ⟨.hbm, 57, rfl⟩
abbrev main_while0b_v44 : Ref sig .tc := ⟨.hbm, 58, rfl⟩
abbrev main_while0b_v45 : Ref sig .tc := ⟨.hbm, 59, rfl⟩
abbrev main_while0b_v46 : Ref sig .tc := ⟨.hbm, 60, rfl⟩
abbrev main_while0b_v47 : Ref sig .tc := ⟨.hbm, 61, rfl⟩
abbrev main_while0b_v48 : Ref sig .tc := ⟨.hbm, 62, rfl⟩
abbrev main_while0b_v49 : Ref sig .tc := ⟨.hbm, 63, rfl⟩
abbrev main_while0b_call2_v0 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_call2_c_1 : Ref sig .tc := ⟨.hbm, 67, rfl⟩
abbrev main_while0b_call2_c_2 : Ref sig .tc := ⟨.hbm, 68, rfl⟩
abbrev main_while0b_v50 : Ref sig .tc := ⟨.hbm, 69, rfl⟩
abbrev main_while0b_call3_v0 : Ref sig .tc := ⟨.hbm, 70, rfl⟩
abbrev main_while0b_call3_c : Ref sig .tc := ⟨.hbm, 71, rfl⟩
abbrev main_while0b_call3_c_0 : Ref sig .tc := ⟨.hbm, 72, rfl⟩
abbrev main_while0b_call3_c_1 : Ref sig .tc := ⟨.hbm, 73, rfl⟩
abbrev main_while0b_call3_c_2 : Ref sig .tc := ⟨.hbm, 74, rfl⟩
abbrev main_while0b_v51 : Ref sig .tc := ⟨.hbm, 75, rfl⟩
abbrev main_while0b_c_10 : Ref sig .tc := ⟨.hbm, 76, rfl⟩
abbrev main_while0b_v52 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩

abbrev nD : Nat := 1
abbrev τ : Topo := Topo.v7x

variable {F : FTy → Type} [FloatOps F]

abbrev main_while0_count : Scf.Loop 32 := ⟨0#32, 8448#32, 1#32⟩
-- ==== Ffn.lean ====
abbrev S4x8192x1024 : Shape := ⟨3, ![4, 8192, 1024]⟩
abbrev S1024 : Shape := ⟨1, ![1024]⟩
abbrev S4x1x1024 : Shape := ⟨3, ![4, 1, 1024]⟩
abbrev S1024x2816 : Shape := ⟨2, ![1024, 2816]⟩
abbrev S2816x1024 : Shape := ⟨2, ![2816, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩
abbrev S1024x768 : Shape := ⟨2, ![1024, 768]⟩
abbrev S768x1024 : Shape := ⟨2, ![768, 1024]⟩

abbrev nBuf : Space → Nat
  | .hbm => 15
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S1x1024x1024, .f32⟩
  | .local _ .vmem, ⟨14, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S4x8192x1024 : Shape := ⟨3, ![4, 8192, 1024]⟩
abbrev S1024 : Shape := ⟨1, ![1024]⟩
abbrev S4x1x1024 : Shape := ⟨3, ![4, 1, 1024]⟩
abbrev S1024x2816 : Shape := ⟨2, ![1024, 2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩

abbrev nBuf : Space → Nat
  | .hbm => 67
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x8192x2816, .f32⟩
  | .hbm, ⟨36, _⟩ => ⟨S4x8192x2816, .f32⟩
  | .hbm, ⟨37, _⟩ => ⟨S4x8192x2816, .f32⟩
  | .hbm, ⟨38, _⟩ => ⟨S_, .f32⟩
  | .hbm, ⟨39, _⟩ => ⟨S4x8192x2816, .f32⟩
  | .hbm, ⟨40, _⟩ => ⟨S4x8192x2816, .f32⟩
  | .hbm, ⟨41, _⟩ => ⟨S_, .f32⟩
  | .hbm, ⟨42, _⟩ => ⟨S4x8192x2816, .f32⟩
  | .hbm, ⟨43, _⟩ => ⟨S4x8192x2816, .f32⟩
  | .hbm, ⟨44, _⟩ => ⟨S4x8192x2816, .f32⟩
  | .hbm, ⟨45, _⟩ => ⟨S4x8192x2816, .f32⟩
  | .hbm, ⟨46, _⟩ => ⟨S4x8192x2816, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S_, .f32⟩
  | .hbm, ⟨53, _⟩ => ⟨S4x8192, .f32⟩
  | .hbm, ⟨54, _⟩ => ⟨S4x8192x1, .f32⟩
  | .hbm, ⟨55, _⟩ => ⟨S_, .f32⟩
  | .hbm, ⟨56, _⟩ => ⟨S4x8192x1, .f32⟩
  | .hbm, ⟨57, _⟩ => ⟨S4x8192x1, .f32⟩
  | .hbm, ⟨58, _⟩ => ⟨S_, .f32⟩
  | .hbm, ⟨59, _⟩ => ⟨S4x8192x1, .f32⟩
  | .hbm, ⟨60, _⟩ => ⟨S4x8192x1, .f32⟩
  | .hbm, ⟨61, _⟩ => ⟨S4x8192x1, .f32⟩
  | .hbm, ⟨62, _⟩ => ⟨S4x8192x1024, .f32⟩
  | .hbm, ⟨63, _⟩ => ⟨S4x8192x1024, .f32⟩
  | .hbm, ⟨64, _⟩ => ⟨S1x1x1024, .f32⟩
  | .hbm, ⟨65, _⟩ => ⟨S4x8192x1024, .f32⟩
  | .hbm, ⟨66, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]
-- ==== Mid.lean ====
abbrev S4x8192x1024 : Shape := ⟨3, ![4, 8192, 1024]⟩
abbrev S1024 : Shape := ⟨1, ![1024]⟩
abbrev S4x1x1024 : Shape := ⟨3, ![4, 1, 1024]⟩
abbrev S1024x2816 : Shape := ⟨2, ![1024, 2816]⟩
abbrev S2816x1024 : Shape := ⟨2, ![2816, 1024]⟩
abbrev S_ : Shape := ⟨0, ![]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩
abbrev S1024x768 : Shape := ⟨2, ![1024, 768]⟩
abbrev S768x1024 : Shape := ⟨2, ![768, 1024]⟩

abbrev nBuf : Space → Nat
  | .hbm => 15
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S1x1024x1024, .f32⟩
  | .local _ .vmem, ⟨14, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MidIdeal.lean ====
abbrev S4x8192x1024 : Shape := ⟨3, ![4, 8192, 1024]⟩
abbrev S1024 : Shape := ⟨1, ![1024]⟩
abbrev S4x1x1024 : Shape := ⟨3, ![4, 1, 1024]⟩
abbrev S1024x2816 : Shape := ⟨2, ![1024, 2816]⟩
abbrev S2816x1024 : Shape := ⟨2, ![2816, 1024]⟩
abbrev S_ : Shape := ⟨0, ![]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩
abbrev S1024x768 : Shape := ⟨2, ![1024, 768]⟩
abbrev S768x1024 : Shape := ⟨2, ![768, 1024]⟩

abbrev nBuf : Space → Nat
  | .hbm => 15
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S1x1024x1024, .f32⟩
  | .local _ .vmem, ⟨14, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MidRefIdeal.lean ====
abbrev S4x8192x1024 : Shape := ⟨3, ![4, 8192, 1024]⟩
abbrev S1024 : Shape := ⟨1, ![1024]⟩
abbrev S4x1x1024 : Shape := ⟨3, ![4, 1, 1024]⟩
abbrev S1024x2816 : Shape := ⟨2, ![1024, 2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x8192x2816, .f32⟩
  | .hbm, ⟨35, _⟩ => ⟨S4x8192x2816, .f32⟩
  | .hbm, ⟨36, _⟩ => ⟨S4x8192x2816, .f32⟩
  | .hbm, ⟨37, _⟩ => ⟨S_, .f32⟩
  | .hbm, ⟨38, _⟩ => ⟨S4x8192x2816, .f32⟩
  | .hbm, ⟨39, _⟩ => ⟨S4x8192x2816, .f32⟩
  | .hbm, ⟨40, _⟩ => ⟨S_, .f32⟩
  | .hbm, ⟨41, _⟩ => ⟨S4x8192x2816, .f32⟩
  | .hbm, ⟨42, _⟩ => ⟨S4x8192x2816, .f32⟩
  | .hbm, ⟨43, _⟩ => ⟨S4x8192x2816, .f32⟩
  | .hbm, ⟨44, _⟩ => ⟨S4x8192x2816, .f32⟩
  | .hbm, ⟨45, _⟩ => ⟨S4x8192x2816, .f32⟩
  | .hbm, ⟨46, _⟩ => ⟨S4x8192x1024, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩

abbrev nD : Nat := 1
abbrev τ : Topo := Topo.v7x

variable {F : FTy → Type} [FloatOps F]
-- ==== Ctx.lean ====
abbrev S1x1024x1024 : Shape := ⟨3, ![1, 1024, 1024]⟩
abbrev S1024 : Shape := ⟨1, ![1024]⟩
abbrev S1x1x1024 : Shape := ⟨3, ![1, 1, 1024]⟩
abbrev S1024x2816 : Shape := ⟨2, ![1024, 2816]⟩
abbrev S2816x1024 : Shape := ⟨2, ![2816, 1024]⟩
abbrev S_ : Shape := ⟨0, ![]⟩
abbrev S1x1024 : Shape := ⟨2, ![1, 1024]⟩
abbrev S1024x1024 : Shape := ⟨2, ![1024, 1024]⟩
abbrev S1024x1 : Shape := ⟨2, ![1024, 1]⟩
abbrev S1024x768 : Shape := ⟨2, ![1024, 768]⟩
abbrev S768x1024 : Shape := ⟨2, ![768, 1024]⟩

abbrev nBuf : Space → Nat
  | .hbm => 15
  | .vmem => 10
  | .smem => 0
  | _ => 0

abbrev bufTy : (tb : Table) → Fin (tcTables nBuf tb) → BufTy
  | .hbm, ⟨0, _⟩ => ⟨S1x1024x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024x1024, .f32⟩
  | .local _ .vmem, ⟨0, _⟩ => ⟨S1x1024x1024, .f32⟩
  | .local _ .vmem, ⟨1, _⟩ => ⟨S1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1x1024x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]
-- ==== CtxRefIdeal.lean ====
abbrev S1x1024x1024 : Shape := ⟨3, ![1, 1024, 1024]⟩
abbrev S1024 : Shape := ⟨1, ![1024]⟩
abbrev S1x1x1024 : Shape := ⟨3, ![1, 1, 1024]⟩
abbrev S1024x2816 : Shape := ⟨2, ![1024, 2816]⟩
abbrev S2816x1024 : Shape := ⟨2, ![2816, 1024]⟩
abbrev S_ : Shape := ⟨0, ![]⟩
abbrev S1x1024 : Shape := ⟨2, ![1, 1024]⟩
abbrev S1x1024x1 : Shape := ⟨3, ![1, 1024, 1]⟩
abbrev S1x1024x2816 : Shape := ⟨3, ![1, 1024, 2816]⟩

abbrev nBuf : Space → Nat
  | .hbm => 50
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1x1024x1024, .f32⟩
  | .hbm, ⟨9, _⟩ => ⟨S_, .f32⟩
  | .hbm, ⟨10, _⟩ => ⟨S1x1024, .f32⟩
  | .hbm, ⟨11, _⟩ => ⟨S1x1024x1, .f32⟩
  | .hbm, ⟨12, _⟩ => ⟨S_, .f32⟩
  | .hbm, ⟨13, _⟩ => ⟨S1x1024x1, .f32⟩
  | .hbm, ⟨14, _⟩ => ⟨S1x1024x1, .f32⟩
  | .hbm, ⟨15, _⟩ => ⟨S_, .f32⟩
  | .hbm, ⟨16, _⟩ => ⟨S1x1024x1, .f32⟩
  | .hbm, ⟨17, _⟩ => ⟨S1x1024x1, .f32⟩
  | .hbm, ⟨18, _⟩ => ⟨S1x1024x1, .f32⟩
  | .hbm, ⟨19, _⟩ => ⟨S1x1024x1024, .f32⟩
  | .hbm, ⟨20, _⟩ => ⟨S1x1024x1024, .f32⟩
  | .hbm, ⟨21, _⟩ => ⟨S1x1x1024, .f32⟩
  | .hbm, ⟨22, _⟩ => ⟨S1x1024x1024, .f32⟩
  | .hbm, ⟨23, _⟩ => ⟨S1x1024x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x1024x1024, .f32⟩
  | .hbm, ⟨28, _⟩ => ⟨S1x1024x1024, .f32⟩
  | .hbm, ⟨29, _⟩ => ⟨S1x1024x1024, .f32⟩
  | .hbm, ⟨30, _⟩ => ⟨S1x1024x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S1x1024x2816, .f32⟩
  | .hbm, ⟨35, _⟩ => ⟨S1x1024x2816, .f32⟩
  | .hbm, ⟨36, _⟩ => ⟨S1x1024x2816, .f32⟩
  | .hbm, ⟨37, _⟩ => ⟨S_, .f32⟩
  | .hbm, ⟨38, _⟩ => ⟨S1x1024x2816, .f32⟩
  | .hbm, ⟨39, _⟩ => ⟨S1x1024x2816, .f32⟩
  | .hbm, ⟨40, _⟩ => ⟨S_, .f32⟩
  | .hbm, ⟨41, _⟩ => ⟨S1x1024x2816, .f32⟩
  | .hbm, ⟨42, _⟩ => ⟨S1x1024x2816, .f32⟩
  | .hbm, ⟨43, _⟩ => ⟨S1x1024x2816, .f32⟩
  | .hbm, ⟨44, _⟩ => ⟨S1x1024x2816, .f32⟩
  | .hbm, ⟨45, _⟩ => ⟨S1x1024x2816, .f32⟩
  | .hbm, ⟨46, _⟩ => ⟨S1x1024x1024, .f32⟩
  | .hbm, ⟨47, _⟩ => ⟨S1x1024x1024, .f32⟩
  | .hbm, ⟨48, _⟩ => ⟨S1x1024x1024, .f32⟩
  | .hbm, ⟨49, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩

abbrev nD : Nat := 1
abbrev τ : Topo := Topo.v7x

variable {F : FTy → Type} [FloatOps F]
-- ==== Proj.lean ====
abbrev S4x256x1024 : Shape := ⟨3, ![4, 256, 1024]⟩
abbrev S4x8192x1024 : Shape := ⟨3, ![4, 8192, 1024]⟩
abbrev S1024 : Shape := ⟨1, ![1024]⟩
abbrev S4x1x1024 : Shape := ⟨3, ![4, 1, 1024]⟩
abbrev S1024x2432 : Shape := ⟨2, ![1024, 2432]⟩
abbrev S1x1024 : Shape := ⟨2, ![1, 1024]⟩
abbrev S4x8448x1920 : Shape := ⟨3, ![4, 8448, 1920]⟩
abbrev S4x8448x512 : Shape := ⟨3, ![4, 8448, 512]⟩
abbrev S1x256x1024 : Shape := ⟨3, ![1, 256, 1024]⟩
abbrev S1x1x1024 : Shape := ⟨3, ![1, 1, 1024]⟩
abbrev S1x256x1920 : Shape := ⟨3, ![1, 256, 1920]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S1024x1920 : Shape := ⟨2, ![1024, 1920]⟩
abbrev S256x1920 : Shape := ⟨2, ![256, 1920]⟩
abbrev S1024x512 : Shape := ⟨2, ![1024, 512]⟩
abbrev S256x512 : Shape := ⟨2, ![256, 512]⟩

abbrev nBuf : Space → Nat
  | .hbm => 12
  | .vmem => 18
  | .smem => 0
  | _ => 0

abbrev bufTy : (tb : Table) → Fin (tcTables nBuf tb) → BufTy
  | .hbm, ⟨0, _⟩ => ⟨S4x256x1024, .f32⟩
  | .hbm, ⟨1, _⟩ => ⟨S4x8192x1024, .f32⟩
  | .hbm, ⟨2, _⟩ => ⟨S1024, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S1024x2432, .f32⟩
  | .hbm, ⟨8, _⟩ => ⟨S1024x2432, .bf16⟩
  | .hbm, ⟨9, _⟩ => ⟨S1x1024, .f32⟩
  | .hbm, ⟨10, _⟩ => ⟨S4x8448x1920, .f32⟩
  | .hbm, ⟨11, _⟩ => ⟨S4x8448x512, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x2432, .bf16⟩
  | .local _ .vmem, ⟨14, _⟩ => ⟨S1x256x1920, .f32⟩
  | .local _ .vmem, ⟨15, _⟩ => ⟨S1x256x1920, .f32⟩
  | .local _ .vmem, ⟨16, _⟩ => ⟨S1x256x512, .f32⟩
  | .local _ .vmem, ⟨17, _⟩ => ⟨S1x256x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x2432 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1920 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjRefIdeal.lean ====
abbrev S4x256x1024 : Shape := ⟨3, ![4, 256, 1024]⟩
abbrev S4x8192x1024 : Shape := ⟨3, ![4, 8192, 1024]⟩
abbrev S1024 : Shape := ⟨1, ![1024]⟩
abbrev S4x1x1024 : Shape := ⟨3, ![4, 1, 1024]⟩
abbrev S1024x2432 : Shape := ⟨2, ![1024, 2432]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x2432 : Shape := ⟨3, ![4, 256, 2432]⟩
abbrev S4x8192 : Shape := ⟨2, ![4, 8192]⟩
abbrev S4x8192x1 : Shape := ⟨3, ![4, 8192, 1]⟩
abbrev S4x8192x2432 : Shape := ⟨3, ![4, 8192, 2432]⟩
abbrev S4x8448x2432 : Shape := ⟨3, ![4, 8448, 2432]⟩
abbrev S4x8448x1920 : Shape := ⟨3, ![4, 8448, 1920]⟩
abbrev S4x8448x512 : Shape := ⟨3, ![4, 8448, 512]⟩

abbrev nBuf : Space → Nat
  | .hbm => 59
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x8192x1024, .f32⟩
  | .hbm, ⟨2, _⟩ => ⟨S1024, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S1024x2432, .f32⟩
  | .hbm, ⟨8, _⟩ => ⟨S4x256x1024, .f32⟩
  | .hbm, ⟨9, _⟩ => ⟨S_, .f32⟩
  | .hbm, ⟨10, _⟩ => ⟨S4x256, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S_, .f32⟩
  | .hbm, ⟨16, _⟩ => ⟨S4x256x1, .f32⟩
  | .hbm, ⟨17, _⟩ => ⟨S4x256x1, .f32⟩
  | .hbm, ⟨18, _⟩ => ⟨S4x256x1, .f32⟩
  | .hbm, ⟨19, _⟩ => ⟨S4x256x1024, .f32⟩
  | .hbm, ⟨20, _⟩ => ⟨S4x256x1024, .f32⟩
  | .hbm, ⟨21, _⟩ => ⟨S1x1x1024, .f32⟩
  | .hbm, ⟨22, _⟩ => ⟨S4x256x1024, .f32⟩
  | .hbm, ⟨23, _⟩ => ⟨S4x256x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S4x256x1024, .f32⟩
  | .hbm, ⟨31, _⟩ => ⟨S4x256x2432, .f32⟩
  | .hbm, ⟨32, _⟩ => ⟨S4x8192x1024, .f32⟩
  | .hbm, ⟨33, _⟩ => ⟨S_, .f32⟩
  | .hbm, ⟨34, _⟩ => ⟨S4x8192, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S_, .f32⟩
  | .hbm, ⟨40, _⟩ => ⟨S4x8192x1, .f32⟩
  | .hbm, ⟨41, _⟩ => ⟨S4x8192x1, .f32⟩
  | .hbm, ⟨42, _⟩ => ⟨S4x8192x1, .f32⟩
  | .hbm, ⟨43, _⟩ => ⟨S4x8192x1024, .f32⟩
  | .hbm, ⟨44, _⟩ => ⟨S4x8192x1024, .f32⟩
  | .hbm, ⟨45, _⟩ => ⟨S1x1x1024, .f32⟩
  | .hbm, ⟨46, _⟩ => ⟨S4x8192x1024, .f32⟩
  | .hbm, ⟨47, _⟩ => ⟨S4x8192x1024, .f32⟩
  | .hbm, ⟨48, _⟩ => ⟨S_, .f32⟩
  | .hbm, ⟨49, _⟩ => ⟨S4x1x1024, .f32⟩
  | .hbm, ⟨50, _⟩ => ⟨S4x1x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S4x8192x2432, .f32⟩
  | .hbm, ⟨56, _⟩ => ⟨S4x8448x2432, .f32⟩
  | .hbm, ⟨57, _⟩ => ⟨S4x8448x1920, .f32⟩
  | .hbm, ⟨58, _⟩ => ⟨S4x8448x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== HyIn.lean ====
abbrev S4x8192x1024 : Shape := ⟨3, ![4, 8192, 1024]⟩
abbrev S1024 : Shape := ⟨1, ![1024]⟩
abbrev S4x1x1024 : Shape := ⟨3, ![4, 1, 1024]⟩
abbrev S1024x3072 : Shape := ⟨2, ![1024, 3072]⟩
abbrev S3x3072 : Shape := ⟨2, ![3, 3072]⟩
abbrev S3072 : Shape := ⟨1, ![3072]⟩
abbrev S1x1024 : Shape := ⟨2, ![1, 1024]⟩
abbrev S1x3072 : Shape := ⟨2, ![1, 3072]⟩
abbrev S1x512x1024 : Shape := ⟨3, ![1, 512, 1024]⟩
abbrev S1x8x1024 : Shape := ⟨3, ![1, 8, 1024]⟩
abbrev S1x1x1024 : Shape := ⟨3, ![1, 1, 1024]⟩
abbrev S8x1024 : Shape := ⟨2, ![8, 1024]⟩
abbrev S8 : Shape := ⟨1, ![8]⟩
abbrev S8x1 : Shape := ⟨2, ![8, 1]⟩
abbrev S512x1024 : Shape := ⟨2, ![512, 1024]⟩
abbrev S512 : Shape := ⟨1, ![512]⟩
abbrev S512x1 : Shape := ⟨2, ![512, 1]⟩
abbrev S528x1024 : Shape := ⟨2, ![528, 1024]⟩
abbrev S1024x1024 : Shape := ⟨2, ![1024, 1024]⟩
abbrev S3x1024 : Shape := ⟨2, ![3, 1024]⟩

abbrev nBuf : Space → Nat
  | .hbm => 14
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x3072, .f32⟩
  | .hbm, ⟨5, _⟩ => ⟨S3x3072, .f32⟩
  | .hbm, ⟨6, _⟩ => ⟨S3072, .f32⟩
  | .hbm, ⟨7, _⟩ => ⟨S1024x3072, .bf16⟩
  | .hbm, ⟨8, _⟩ => ⟨S1x1024, .f32⟩
  | .hbm, ⟨9, _⟩ => ⟨S1x3072, .f32⟩
  | .hbm, ⟨10, _⟩ => ⟨S4x8192x1024, .f32⟩
  | .hbm, ⟨11, _⟩ => ⟨S4x8192x1024, .bf16⟩
  | .hbm, ⟨12, _⟩ => ⟨S4x8192x1024, .f32⟩
  | .hbm, ⟨13, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x3072, .bf16⟩
  | .local _ .vmem, ⟨12, _⟩ => ⟨S3x3072, .f32⟩
  | .local _ .vmem, ⟨13, _⟩ => ⟨S1x3072, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== HyInRefIdeal.lean ====
abbrev S4x8192x1024 : Shape := ⟨3, ![4, 8192, 1024]⟩
abbrev S1024 : Shape := ⟨1, ![1024]⟩
abbrev S4x1x1024 : Shape := ⟨3, ![4, 1, 1024]⟩
abbrev S1024x3072 : Shape := ⟨2, ![1024, 3072]⟩
abbrev S3x3072 : Shape := ⟨2, ![3, 3072]⟩
abbrev S3072 : Shape := ⟨1, ![3072]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S1x3072 : Shape := ⟨2, ![1, 3072]⟩
abbrev S4x8191x3072 : Shape := ⟨3, ![4, 8191, 3072]⟩
abbrev S1x1x3072 : Shape := ⟨3, ![1, 1, 3072]⟩

abbrev nBuf : Space → Nat
  | .hbm => 63
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x3072, .f32⟩
  | .hbm, ⟨5, _⟩ => ⟨S3x3072, .f32⟩
  | .hbm, ⟨6, _⟩ => ⟨S3072, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x3072, .f32⟩
  | .hbm, ⟨31, _⟩ => ⟨S1x3072, .f32⟩
  | .hbm, ⟨32, _⟩ => ⟨S3072, .f32⟩
  | .hbm, ⟨33, _⟩ => ⟨S4x8191x3072, .f32⟩
  | .hbm, ⟨34, _⟩ => ⟨S_, .i32⟩
  | .hbm, ⟨35, _⟩ => ⟨S_, .f32⟩
  | .hbm, ⟨36, _⟩ => ⟨S4x8192x3072, .f32⟩
  | .hbm, ⟨37, _⟩ => ⟨S1x1x3072, .f32⟩
  | .hbm, ⟨38, _⟩ => ⟨S4x8192x3072, .f32⟩
  | .hbm, ⟨39, _⟩ => ⟨S4x8192x3072, .f32⟩
  | .hbm, ⟨40, _⟩ => ⟨S1x3072, .f32⟩
  | .hbm, ⟨41, _⟩ => ⟨S3072, .f32⟩
  | .hbm, ⟨42, _⟩ => ⟨S1x1x3072, .f32⟩
  | .hbm, ⟨43, _⟩ => ⟨S4x8192x3072, .f32⟩
  | .hbm, ⟨44, _⟩ => ⟨S4x8192x3072, .f32⟩
  | .hbm, ⟨45, _⟩ => ⟨S4x8192x3072, .f32⟩
  | .hbm, ⟨46, _⟩ => ⟨S1x3072, .f32⟩
  | .hbm, ⟨47, _⟩ => ⟨S3072, .f32⟩
  | .hbm, ⟨48, _⟩ => ⟨S4x8191x3072, .f32⟩
  | .hbm, ⟨49, _⟩ => ⟨S_, .i32⟩
  | .hbm, ⟨50, _⟩ => ⟨S_, .f32⟩
  | .hbm, ⟨51, _⟩ => ⟨S4x8192x3072, .f32⟩
  | .hbm, ⟨52, _⟩ => ⟨S1x1x3072, .f32⟩
  | .hbm, ⟨53, _⟩ => ⟨S4x8192x3072, .f32⟩
  | .hbm, ⟨54, _⟩ => ⟨S4x8192x3072, .f32⟩
  | .hbm, ⟨55, _⟩ => ⟨S4x8192x3072, .f32⟩
  | .hbm, ⟨56, _⟩ => ⟨S1x1x3072, .f32⟩
  | .hbm, ⟨57, _⟩ => ⟨S4x8192x3072, .f32⟩
  | .hbm, ⟨58, _⟩ => ⟨S4x8192x3072, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_3 : Ref sig .tc := ⟨.hbm, 49, rfl⟩
abbrev main_call1_v0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== HyOut.lean ====
abbrev S4x8192x1024 : Shape := ⟨3, ![4, 8192, 1024]⟩
abbrev S4x128x64x1024 : Shape := ⟨4, ![4, 128, 64, 1024]⟩
abbrev S1024 : Shape := ⟨1, ![1024]⟩
abbrev S1024x1024 : Shape := ⟨2, ![1024, 1024]⟩
abbrev S4x1x1024 : Shape := ⟨3, ![4, 1, 1024]⟩
abbrev S1x1024 : Shape := ⟨2, ![1, 1024]⟩
abbrev S1x1024x1024 : Shape := ⟨3, ![1, 1024, 1024]⟩
abbrev S1x128x8x1024 : Shape := ⟨4, ![1, 128, 8, 1024]⟩
abbrev S1x1x1024 : Shape := ⟨3, ![1, 1, 1024]⟩
abbrev S1x128x1x1024 : Shape := ⟨4, ![1, 128, 1, 1024]⟩
abbrev S128x1024 : Shape := ⟨2, ![128, 1024]⟩

abbrev nBuf : Space → Nat
  | .hbm => 10
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x128x64x1024, .f32⟩
  | .hbm, ⟨2, _⟩ => ⟨S4x8192x1024, .f32⟩
  | .hbm, ⟨3, _⟩ => ⟨S4x8192x1024, .f32⟩
  | .hbm, ⟨4, _⟩ => ⟨S1024, .f32⟩
  | .hbm, ⟨5, _⟩ => ⟨S1024x1024, .f32⟩
  | .hbm, ⟨6, _⟩ => ⟨S4x1x1024, .f32⟩
  | .hbm, ⟨7, _⟩ => ⟨S1024x1024, .bf16⟩
  | .hbm, ⟨8, _⟩ => ⟨S1x1024, .f32⟩
  | .hbm, ⟨9, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x128x8x1024, .f32⟩
  | .local _ .vmem, ⟨3, _⟩ => ⟨S1x128x8x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024, .f32⟩
  | .local _ .vmem, ⟨9, _⟩ => ⟨S1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1024x1024, .f32⟩
  | .local _ .vmem, ⟨13, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== HyOutRefIdeal.lean ====
abbrev S4x8192x1024 : Shape := ⟨3, ![4, 8192, 1024]⟩
abbrev S4x128x64x1024 : Shape := ⟨4, ![4, 128, 64, 1024]⟩
abbrev S1024 : Shape := ⟨1, ![1024]⟩
abbrev S1024x1024 : Shape := ⟨2, ![1024, 1024]⟩
abbrev S4x1x1024 : Shape := ⟨3, ![4, 1, 1024]⟩
abbrev S4x64x128x1024 : Shape := ⟨4, ![4, 64, 128, 1024]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x128x64x1024, .f32⟩
  | .hbm, ⟨2, _⟩ => ⟨S4x8192x1024, .f32⟩
  | .hbm, ⟨3, _⟩ => ⟨S4x8192x1024, .f32⟩
  | .hbm, ⟨4, _⟩ => ⟨S1024, .f32⟩
  | .hbm, ⟨5, _⟩ => ⟨S1024x1024, .f32⟩
  | .hbm, ⟨6, _⟩ => ⟨S4x1x1024, .f32⟩
  | .hbm, ⟨7, _⟩ => ⟨S4x64x128x1024, .f32⟩
  | .hbm, ⟨8, _⟩ => ⟨S4x8192x1024, .f32⟩
  | .hbm, ⟨9, _⟩ => ⟨S1x1x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Proof.FfnValue.lean ====
module

public import proofs.«01_k».proof.Proof.Gen.FfnIdeal.Value
public import proofs.«01_k».proof.Proof.Gen.FfnRefIdeal.Run
public import Idealize.ShloMosaic.Lib.Pipeline.ValueKit

/- The half-step feed-forward: every row of the latents is its own problem.  `mid` is the gated hidden row, `half` the
   row after the half step, `outRow` the row after the last normalisation; the kernel's three chunks of the hidden
   width and the reference's one sum meet in `sum_chunks`. -/
@[expose] public section
set_option maxRecDepth 16384
noncomputable section
open Idealize.ShloMosaic Idealize.ShloMosaic.TcCoe Idealize.SL.Sem
open Idealize.ShloMosaic.Pipeline (Dat)
namespace Cert.FfnIdeal.Value
open Cert.FfnIdeal Cert.FfnIdeal.Gen

/-! ## One row -/

/-- The reciprocal root mean square of a row. -/
def scaleOf (x : Fin 1024 → EReal) : EReal :=
  Ideal.rsqrt (Ideal.div (∑ k, x k * x k) (Ideal.ofBits FTy.f32 1149239296#32) + Ideal.ofBits FTy.f32 897988541#32)

/-- The normalised and modulated row. -/
def modRow (x gain shift scale : Fin 1024 → EReal) (k : Fin 1024) : EReal :=
  x k * scaleOf x * gain k * (1 + scale k) + shift k

/-- The gated product of one hidden unit, from its two pre-activations. -/
def unit (g u : EReal) : EReal := g * Ideal.div 1 (1 + Ideal.exp (-g)) * u

/-- The hidden row. -/
def mid (h : Fin 1024 → EReal) (wg wu : Fin 1024 → Fin 2816 → EReal) (j : Fin 2816) : EReal :=
  unit (∑ k, h k * wg k j) (∑ k, h k * wu k j)

/-- The row after the half step. -/
def half (x gain shift scale gate : Fin 1024 → EReal) (wg wu : Fin 1024 → Fin 2816 → EReal)
    (wd : Fin 2816 → Fin 1024 → EReal) (l : Fin 1024) : EReal :=
  x l + Ideal.ofBits FTy.f32 1056964608#32 * gate l * ∑ j, mid (modRow x gain shift scale) wg wu j * wd j l

/-- The half step's row, normalised once more. -/
def outRow (y fg : Fin 1024 → EReal) (l : Fin 1024) : EReal := y l * scaleOf y * fg l

/-- A sum over the hidden width is the sum of its three chunks. -/
theorem sum_chunks (f : Fin 2816 → EReal) :
    ∑ j, f j = ((∑ j : Fin 1024, f ⟨j.val, by omega⟩) + ∑ j : Fin 1024, f ⟨1024 + j.val, by omega⟩)
      + ∑ j : Fin 768, f ⟨2048 + j.val, by omega⟩ := by
  rw [show (∑ j, f j) = ∑ j : Fin (2048 + 768), f (Fin.cast rfl j) from rfl, Fin.sum_univ_add,
    Fin.sum_univ_add (a := 1024) (b := 1024)]
  rfl

/-- A first normalised row at the kernel's block. -/
theorem pay3_at (v0 : Vec Ideal S1x1024x1024 .f32) (v2 : Vec Ideal S1x1024 .f32) (v4 v6 : Vec Ideal S1x1x1024 .f32)
    (r k : Fin 1024) : k0_pay3 v0 v2 v4 v6 (ix2 r k)
      = modRow (fun k => v0 (ix3 0 r k)) (fun k => v2 (ix2 0 k)) (fun k => v4 (ix3 0 0 k)) (fun k => v6 (ix3 0 0 k)) k := by
  pointwise [k0_pay3, k0_pay2]
  rfl

/-- The first chunk's and the second chunk's contribution. -/
theorem pay7_at (h : FVec Ideal S1024x1024 .bf16) (g u e : FVec Ideal S1024x1024 .f32)
    (d0 w1 z1 d1 : Vec Ideal S1024x1024 .bf16) (r l : Fin 1024) (he : ∀ k, e (ix2 r k) = Ideal.exp (-g (ix2 r k))) :
    k0_pay7 h g u e d0 w1 z1 d1 (ix2 r l)
      = (∑ j, unit (g (ix2 r j)) (u (ix2 r j)) * d0 (ix2 j l))
        + ∑ j, unit (∑ k, h (ix2 r k) * w1 (ix2 k j)) (∑ k, h (ix2 r k) * z1 (ix2 k j)) * d1 (ix2 j l) := by
  pointwise [k0_pay7]
  simp only [he, zero_sub, unit]

/-- The row before the last normalisation, from the three chunks. -/
def pre (v1 v65 : FVec Ideal S1024x1024 .f32) (v68 v71 : FVec Ideal S1024x768 .f32) (v82 : Vec Ideal S768x1024 .bf16)
    (v86 : Vec Ideal S1x1x1024 .f32) (r l : Fin 1024) : EReal :=
  v1 (ix2 r l) + Ideal.ofBits FTy.f32 1056964608#32 * v86 (ix3 0 0 l) *
    (v65 (ix2 r l) + ∑ j, unit (v68 (ix2 r j)) (v71 (ix2 r j)) * v82 (ix2 j l))

/-- What the body stores. -/
theorem pay1_at (v1 v65 : FVec Ideal S1024x1024 .f32) (v68 v71 : FVec Ideal S1024x768 .f32)
    (v82 : Vec Ideal S768x1024 .bf16) (v86 : Vec Ideal S1x1x1024 .f32) (v103 : Vec Ideal S1x1024 .f32) (r l : Fin 1024) :
    k0_pay1 v1 v65 v68 v71 (FloatOps.ofBits .f32 0#32) v82 v86 v103 (ix3 0 r l)
      = outRow (pre v1 v65 v68 v71 v82 v86 r) (fun k => v103 (ix2 0 k)) l := by
  pointwise [k0_pay1]
  simp only [zero_sub]
  rfl

/-- The row before the last normalisation, over the whole input blocks. -/
theorem pre_eq (x0 : Vec Ideal S1x1024x1024 .f32) (x1 : Vec Ideal S1x1024 .f32) (x2 x3 x4 : Vec Ideal S1x1x1024 .f32)
    (x5 x6 : Vec Ideal S1024x2816 .bf16) (x7 : Vec Ideal S2816x1024 .bf16) (r : Fin 1024) :
    pre (k0_pay2 x0)
      (k0_pay7 (k0_pay3 x0 x1 x2 x3) (k0_pay4 x0 x1 x2 x3 (View.ld x5 r0_3)) (k0_pay5 x0 x1 x2 x3 (View.ld x6 r0_3))
        (k0_pay6 x0 x1 x2 x3 (View.ld x5 r0_3)) (View.ld x7 r0_4) (View.ld x5 r0_5) (View.ld x6 r0_5) (View.ld x7 r0_6))
      (k0_pay8 (k0_pay3 x0 x1 x2 x3) (View.ld x5 r0_7)) (k0_pay9 (k0_pay3 x0 x1 x2 x3) (View.ld x6 r0_7))
      (View.ld x7 r0_8) x4 r
    = half (fun k => x0 (ix3 0 r k)) (fun k => x1 (ix2 0 k)) (fun k => x2 (ix3 0 0 k)) (fun k => x3 (ix3 0 0 k))
      (fun k => x4 (ix3 0 0 k)) (fun k j => x5 (ix2 k j)) (fun k j => x6 (ix2 k j)) (fun j l => x7 (ix2 j l)) := by
  funext l
  have w0_5 : ∀ (k : Fin 1024) (j : Fin 1024), View.ld x5 r0_3 (ix2 k j) = x5 (ix2 k ⟨j.val, by omega⟩) := by
    intro k j; exact View.ld_unit_apply_of _ _ _ _ _ _ (fun a => by fin_cases a <;> simp)
  have w0_6 : ∀ (k : Fin 1024) (j : Fin 1024), View.ld x6 r0_3 (ix2 k j) = x6 (ix2 k ⟨j.val, by omega⟩) := by
    intro k j; exact View.ld_unit_apply_of _ _ _ _ _ _ (fun a => by fin_cases a <;> simp)
  have w1_5 : ∀ (k : Fin 1024) (j : Fin 1024), View.ld x5 r0_5 (ix2 k j) = x5 (ix2 k ⟨1024 + j.val, by omega⟩) := by
    intro k j; exact View.ld_unit_apply_of _ _ _ _ _ _ (fun a => by fin_cases a <;> simp)
  have w1_6 : ∀ (k : Fin 1024) (j : Fin 1024), View.ld x6 r0_5 (ix2 k j) = x6 (ix2 k ⟨1024 + j.val, by omega⟩) := by
    intro k j; exact View.ld_unit_apply_of _ _ _ _ _ _ (fun a => by fin_cases a <;> simp)
  have w2_5 : ∀ (k : Fin 1024) (j : Fin 768), View.ld x5 r0_7 (ix2 k j) = x5 (ix2 k ⟨2048 + j.val, by omega⟩) := by
    intro k j; exact View.ld_unit_apply_of _ _ _ _ _ _ (fun a => by fin_cases a <;> simp)
  have w2_6 : ∀ (k : Fin 1024) (j : Fin 768), View.ld x6 r0_7 (ix2 k j) = x6 (ix2 k ⟨2048 + j.val, by omega⟩) := by
    intro k j; exact View.ld_unit_apply_of _ _ _ _ _ _ (fun a => by fin_cases a <;> simp)
  have d0 : ∀ (j l : Fin 1024), View.ld x7 r0_4 (ix2 j l) = x7 (ix2 ⟨j.val, by omega⟩ l) := by
    intro k j; exact View.ld_unit_apply_of _ _ _ _ _ _ (fun a => by fin_cases a <;> simp)
  have d1 : ∀ (j l : Fin 1024), View.ld x7 r0_6 (ix2 j l) = x7 (ix2 ⟨1024 + j.val, by omega⟩ l) := by
    intro k j; exact View.ld_unit_apply_of _ _ _ _ _ _ (fun a => by fin_cases a <;> simp)
  have d2 : ∀ (j : Fin 768) (l : Fin 1024), View.ld x7 r0_8 (ix2 j l) = x7 (ix2 ⟨2048 + j.val, by omega⟩ l) := by
    intro k j; exact View.ld_unit_apply_of _ _ _ _ _ _ (fun a => by fin_cases a <;> simp)
  have hx : k0_pay2 x0 (ix2 r l) = x0 (ix3 0 r l) := by pointwise [k0_pay2]
  have h4 : ∀ j, k0_pay4 x0 x1 x2 x3 (View.ld x5 r0_3) (ix2 r j)
      = ∑ k, k0_pay3 x0 x1 x2 x3 (ix2 r k) * View.ld x5 r0_3 (ix2 k j) := by intro j; pointwise [k0_pay4]
  have h5 : ∀ j, k0_pay5 x0 x1 x2 x3 (View.ld x6 r0_3) (ix2 r j)
      = ∑ k, k0_pay3 x0 x1 x2 x3 (ix2 r k) * View.ld x6 r0_3 (ix2 k j) := by intro j; pointwise [k0_pay5]
  have h6 : ∀ j, k0_pay6 x0 x1 x2 x3 (View.ld x5 r0_3) (ix2 r j)
      = Ideal.exp (-k0_pay4 x0 x1 x2 x3 (View.ld x5 r0_3) (ix2 r j)) := by
    intro j; rw [h4]; pointwise [k0_pay6, k0_pay4]; simp only [zero_sub]
  have h8 : ∀ j, k0_pay8 (k0_pay3 x0 x1 x2 x3) (View.ld x5 r0_7) (ix2 r j)
      = ∑ k, k0_pay3 x0 x1 x2 x3 (ix2 r k) * View.ld x5 r0_7 (ix2 k j) := by intro j; pointwise [k0_pay8]
  have h9 : ∀ j, k0_pay9 (k0_pay3 x0 x1 x2 x3) (View.ld x6 r0_7) (ix2 r j)
      = ∑ k, k0_pay3 x0 x1 x2 x3 (ix2 r k) * View.ld x6 r0_7 (ix2 k j) := by intro j; pointwise [k0_pay9]
  rw [pre, half, sum_chunks, pay7_at _ _ _ _ _ _ _ _ r l h6, hx]
  simp only [h4, h5, h8, h9, w0_5, w0_6, w1_5, w1_6, w2_5, w2_6, d0, d1, d2, pay3_at, mid]

variable (m : (ℓ : Loc nD τ sig) → Buf (Elt Ideal) ℓ)

/-- The whole result, of the arguments. -/
def G (X : FVec Ideal S4x8192x1024 .f32) (gain : FVec Ideal S1024 .f32) (shift scale gate : FVec Ideal S4x1x1024 .f32)
    (wg wu : FVec Ideal S1024x2816 .f32) (wd : FVec Ideal S2816x1024 .f32) (fg : FVec Ideal S1024 .f32)
    (b : Fin 4) (r : Fin 8192) (l : Fin 1024) : EReal :=
  outRow (half (fun k => X (ix3 b r k)) (fun k => gain (ix1 k)) (fun k => shift (ix3 b 0 k)) (fun k => scale (ix3 b 0 k))
    (fun k => gate (ix3 b 0 k)) (fun k j => wg (ix2 k j)) (fun k j => wu (ix2 k j)) (fun j l => wd (ix2 j l)))
    (fun k => fg (ix1 k)) l

/-- The whole result array, of the launch memory. -/
def GArr (c : Dev nD) : FVec Ideal S4x8192x1024 .f32 := fun i => G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (i 0) (i 1) (i 2)

theorem idx : ∀ t : Fin cfg0.N, win0_0.index t = ![t.val / 8, t.val % 8, 0] ∧ win0_1.index t = ![0, 0] ∧
    win0_2.index t = ![t.val / 8, 0, 0] ∧ win0_3.index t = ![t.val / 8, 0, 0] ∧ win0_4.index t = ![t.val / 8, 0, 0] ∧
    win0_5.index t = ![0, 0] ∧ win0_6.index t = ![0, 0] ∧ win0_7.index t = ![0, 0] ∧ win0_8.index t = ![0, 0] ∧
    win0_9.index t = ![t.val / 8, t.val % 8, 0] ∧ t.val / 8 < 4 :=
  (by decide +kernel : ∀ t : Fin grid0.N, _)

/-- The normalised rows the body keeps, over whole blocks. -/
theorem pay10_eq (x0 : Vec Ideal S1x1024x1024 .f32) (x1 : Vec Ideal S1x1024 .f32) (x2 x3 x4 : Vec Ideal S1x1x1024 .f32)
    (x5 x6 : Vec Ideal S1024x2816 .bf16) (x7 : Vec Ideal S2816x1024 .bf16) (x8 : Vec Ideal S1x1024 .f32) :
    k0_pay10 x0 x1 x2 x3 x4 x5 x6 x7 x8 = k0_pay3 x0 x1 x2 x3 := by
  unfold k0_pay10
  frame_out

/-- The kernel's block at a point, at one row and lane. -/
theorem point (c : Dev nD) (t : Fin cfg0.N) (r l : Fin 1024) :
    k0_pay1 (k0_pay2 (iblk m c 0 t))
      (k0_pay7 (k0_pay10 (iblk m c 0 t) (iblk m c 1 t) (iblk m c 2 t) (iblk m c 3 t) (iblk m c 4 t) (iblk m c 5 t)
          (iblk m c 6 t) (iblk m c 7 t) (iblk m c 8 t))
        (k0_pay4 (iblk m c 0 t) (iblk m c 1 t) (iblk m c 2 t) (iblk m c 3 t) (View.ld (iblk m c 5 t) r0_3))
        (k0_pay5 (iblk m c 0 t) (iblk m c 1 t) (iblk m c 2 t) (iblk m c 3 t) (View.ld (iblk m c 6 t) r0_3))
        (k0_pay6 (iblk m c 0 t) (iblk m c 1 t) (iblk m c 2 t) (iblk m c 3 t) (View.ld (iblk m c 5 t) r0_3))
        (View.ld (iblk m c 7 t) r0_4) (View.ld (iblk m c 5 t) r0_5) (View.ld (iblk m c 6 t) r0_5)
        (View.ld (iblk m c 7 t) r0_6))
      (k0_pay8 (k0_pay10 (iblk m c 0 t) (iblk m c 1 t) (iblk m c 2 t) (iblk m c 3 t) (iblk m c 4 t) (iblk m c 5 t)
          (iblk m c 6 t) (iblk m c 7 t) (iblk m c 8 t)) (View.ld (iblk m c 5 t) r0_7))
      (k0_pay9 (k0_pay10 (iblk m c 0 t) (iblk m c 1 t) (iblk m c 2 t) (iblk m c 3 t) (iblk m c 4 t) (iblk m c 5 t)
          (iblk m c 6 t) (iblk m c 7 t) (iblk m c 8 t)) (View.ld (iblk m c 6 t) r0_7))
      (FloatOps.ofBits FTy.f32 0#32) (View.ld (iblk m c 7 t) r0_8) (iblk m c 4 t) (iblk m c 8 t) (ix3 0 r l)
    = GArr m c (ix3 ⟨t.val / 8, (idx t).2.2.2.2.2.2.2.2.2.2⟩ ⟨t.val % 8 * 1024 + r.val, by omega⟩ l) := by
  rw [pay10_eq]
  refine (pay1_at _ _ _ _ _ _ _ r l).trans ?_
  refine (congrArg (fun p => outRow p _ l) (pre_eq _ _ _ _ _ _ _ _ r)).trans ?_
  have h0 : (fun k => iblk m c 0 t (ix3 0 r k))
      = fun k => m ((c : Thread nD τ).loc main_arg0) (ix3 ⟨t.val / 8, (idx t).2.2.2.2.2.2.2.2.2.2⟩ ⟨t.val % 8 * 1024 + r.val, by omega⟩ k) := by
    funext k; blk_point [iblk, V, idx t]
  have h1 : (fun k => iblk m c 1 t (ix2 0 k)) = fun k => m ((c : Thread nD τ).loc main_arg1) (ix1 k) := by
    funext k; blk_point [iblk, V, idx t]
  have h2 : (fun k => iblk m c 2 t (ix3 0 0 k))
      = fun k => m ((c : Thread nD τ).loc main_arg2) (ix3 ⟨t.val / 8, (idx t).2.2.2.2.2.2.2.2.2.2⟩ 0 k) := by
    funext k; blk_point [iblk, V, idx t]
  have h3 : (fun k => iblk m c 3 t (ix3 0 0 k))
      = fun k => m ((c : Thread nD τ).loc main_arg3) (ix3 ⟨t.val / 8, (idx t).2.2.2.2.2.2.2.2.2.2⟩ 0 k) := by
    funext k; blk_point [iblk, V, idx t]
  have h4 : (fun k => iblk m c 4 t (ix3 0 0 k))
      = fun k => m ((c : Thread nD τ).loc main_arg4) (ix3 ⟨t.val / 8, (idx t).2.2.2.2.2.2.2.2.2.2⟩ 0 k) := by
    funext k; blk_point [iblk, V, idx t]
  have h5 : (fun k j => iblk m c 5 t (ix2 k j)) = fun k j => m ((c : Thread nD τ).loc main_arg5) (ix2 k j) := by
    funext k j; blk_point [iblk, V, idx t]
  have h6 : (fun k j => iblk m c 6 t (ix2 k j)) = fun k j => m ((c : Thread nD τ).loc main_arg6) (ix2 k j) := by
    funext k j; blk_point [iblk, V, idx t]
  have h7 : (fun k j => iblk m c 7 t (ix2 k j)) = fun k j => m ((c : Thread nD τ).loc main_arg7) (ix2 k j) := by
    funext k j; blk_point [iblk, V, idx t]
  have h8 : (fun k => iblk m c 8 t (ix2 0 k)) = fun k => m ((c : Thread nD τ).loc main_arg8) (ix1 k) := by
    funext k; blk_point [iblk, V, idx t]
  rw [h0, h1, h2, h3, h4, h5, h6, h7, h8]
  rfl

/-- The result array after the run. -/
theorem final (c : Dev nD) : (dats m 0 c).arrAt 9 (cfgs 0).N = GArr m c := by
  refine (dats m 0 c).arrAt_eq_of_covers 9 _ (by decide +kernel) fun t _ y => ?_
  blk_simp
  rw [after0_9]; frame_out
  have hy : y = ix3 0 (y 1) (y 2) := by blk_ext []
  generalize y 1 = r at hy
  generalize y 2 = l at hy
  rw [hy]
  refine (point m c t r l).trans (congrArg (GArr m c) ?_)
  blk_ext [idx t]

/-- The reference's composed term is the same function of its arguments. -/
theorem ref_eq (m : (ℓ : Loc Cert.FfnRefIdeal.nD Cert.FfnRefIdeal.τ Cert.FfnRefIdeal.sig) → Buf (Elt Ideal) ℓ)
    (c : Dev Cert.FfnRefIdeal.nD) (i : S4x8192x1024.Idx) : Cert.FfnRefIdeal.Value.res_main_v41 m c i
    = G (m ((c.tc : Thread _ _).loc Cert.FfnRefIdeal.main_arg0)) (m ((c.tc : Thread _ _).loc Cert.FfnRefIdeal.main_arg1))
        (m ((c.tc : Thread _ _).loc Cert.FfnRefIdeal.main_arg2)) (m ((c.tc : Thread _ _).loc Cert.FfnRefIdeal.main_arg3))
        (m ((c.tc : Thread _ _).loc Cert.FfnRefIdeal.main_arg4)) (m ((c.tc : Thread _ _).loc Cert.FfnRefIdeal.main_arg5))
        (m ((c.tc : Thread _ _).loc Cert.FfnRefIdeal.main_arg6)) (m ((c.tc : Thread _ _).loc Cert.FfnRefIdeal.main_arg7))
        (m ((c.tc : Thread _ _).loc Cert.FfnRefIdeal.main_arg8)) (i 0) (i 1) (i 2) := by
  idx_vars i
  unfold Cert.FfnRefIdeal.Value.res_main_v41
  pointwise
  rfl

end Cert.FfnIdeal.Value
-- ==== Proof.FfnClaim.lean ====
/- The half-step feed-forward's claims. -/
module

public import proofs.«01_k».proof.Defs
public import proofs.«01_k».proof.Proof.Gen.Ffn.Frame
public import proofs.«01_k».proof.Proof.FfnValue

@[expose] public section
noncomputable section
namespace Cert.Proof
open Idealize.ShloMosaic Idealize.ShloMosaic.TcCoe Idealize.SL.Sem

theorem frame_Ffn : quiescent_Ffn (hFfn := Cert.Ffn.Gen.facts) := fun m ρ _ => Cert.Ffn.Gen.frame m ρ
theorem frame_FfnIdeal : quiescent_FfnIdeal (hFfnIdeal := Cert.FfnIdeal.Gen.facts) := fun m ρ _ => Cert.FfnIdeal.Gen.frame m ρ
/-- The reference declares no semaphore. -/
theorem frame_FfnRefIdeal : quiescent_FfnRefIdeal (hFfnRefIdeal := Cert.FfnRefIdeal.Gen.facts) := fun m ρ _ =>
  (θ_run _ _ _).mono (fun _ h => ⟨fun c => (h c).2, funext nofun⟩) (Cert.FfnRefIdeal.Value.run m ρ)

theorem value_Ffn : algebraic_FfnIdeal_FfnRefIdeal (hFfnIdeal := Cert.FfnIdeal.Gen.facts)
    (hFfnRefIdeal := Cert.FfnRefIdeal.Gen.facts) := fun m ρ m' ρ' _ hag =>
  ⟨fun c => Cert.FfnIdeal.Value.GArr m c,
    (θ_run _ _ _).mono (fun _ h c => ⟨(h c).1.trans (Cert.FfnIdeal.Value.final m c), (h c).2⟩) (Cert.FfnIdeal.Value.run_blocks m ρ),
    (θ_run _ _ _).mono (fun _ h c => ⟨(h c).1.trans (funext fun i => (Cert.FfnIdeal.Value.ref_eq m' c i).trans (by
        rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]
        rfl)), (h c).2⟩) (Cert.FfnRefIdeal.Value.run m' ρ')⟩

end Cert.Proof
-- ==== Proof.MidValue.lean ====
module

public import proofs.«01_k».proof.Proof.FfnValue
public import proofs.«01_k».proof.Proof.Gen.MidIdeal.Value
public import proofs.«01_k».proof.Proof.Gen.MidRefIdeal.Run

/- The half-step feed-forward without a last normalisation; the row functions are `FfnValue`'s. -/
@[expose] public section
set_option maxRecDepth 16384
noncomputable section
open Idealize.ShloMosaic Idealize.ShloMosaic.TcCoe Idealize.SL.Sem
open Idealize.ShloMosaic.Pipeline (Dat)
namespace Cert.MidIdeal.Value
open Cert.MidIdeal Cert.MidIdeal.Gen
open Cert.FfnIdeal.Value (scaleOf modRow unit mid half sum_chunks)

/-- A first normalised row at the kernel's block. -/
theorem pay3_at (v0 : Vec Ideal S1x1024x1024 .f32) (v2 : Vec Ideal S1x1024 .f32) (v4 v6 : Vec Ideal S1x1x1024 .f32)
    (r k : Fin 1024) : k0_pay3 v0 v2 v4 v6 (ix2 r k)
      = modRow (fun k => v0 (ix3 0 r k)) (fun k => v2 (ix2 0 k)) (fun k => v4 (ix3 0 0 k)) (fun k => v6 (ix3 0 0 k)) k := by
  pointwise [k0_pay3, k0_pay2]
  rfl

/-- The first chunk's and the second chunk's contribution. -/
theorem pay7_at (h : FVec Ideal S1024x1024 .bf16) (g u e : FVec Ideal S1024x1024 .f32)
    (d0 w1 z1 d1 : Vec Ideal S1024x1024 .bf16) (r l : Fin 1024) (he : ∀ k, e (ix2 r k) = Ideal.exp (-g (ix2 r k))) :
    k0_pay7 h g u e d0 w1 z1 d1 (ix2 r l)
      = (∑ j, unit (g (ix2 r j)) (u (ix2 r j)) * d0 (ix2 j l))
        + ∑ j, unit (∑ k, h (ix2 r k) * w1 (ix2 k j)) (∑ k, h (ix2 r k) * z1 (ix2 k j)) * d1 (ix2 j l) := by
  pointwise [k0_pay7]
  simp only [he, zero_sub, unit]

/-- The row after the half step, from the three chunks. -/
def pre (v1 v65 : FVec Ideal S1024x1024 .f32) (v68 v71 : FVec Ideal S1024x768 .f32) (v82 : Vec Ideal S768x1024 .bf16)
    (v86 : Vec Ideal S1x1x1024 .f32) (r l : Fin 1024) : EReal :=
  v1 (ix2 r l) + Ideal.ofBits FTy.f32 1056964608#32 * v86 (ix3 0 0 l) *
    (v65 (ix2 r l) + ∑ j, unit (v68 (ix2 r j)) (v71 (ix2 r j)) * v82 (ix2 j l))

/-- What the body stores. -/
theorem pay1_at (v1 v65 : FVec Ideal S1024x1024 .f32) (v68 v71 : FVec Ideal S1024x768 .f32)
    (v82 : Vec Ideal S768x1024 .bf16) (v86 : Vec Ideal S1x1x1024 .f32) (r l : Fin 1024) :
    k0_pay1 v1 v65 v68 v71 (FloatOps.ofBits .f32 0#32) v82 v86 (ix3 0 r l) = pre v1 v65 v68 v71 v82 v86 r l := by
  pointwise [k0_pay1]
  simp only [zero_sub]
  rfl

/-- The row after the half step, over the whole input blocks. -/
theorem pre_eq (x0 : Vec Ideal S1x1024x1024 .f32) (x1 : Vec Ideal S1x1024 .f32) (x2 x3 x4 : Vec Ideal S1x1x1024 .f32)
    (x5 x6 : Vec Ideal S1024x2816 .bf16) (x7 : Vec Ideal S2816x1024 .bf16) (r : Fin 1024) :
    pre (k0_pay2 x0)
      (k0_pay7 (k0_pay3 x0 x1 x2 x3) (k0_pay4 x0 x1 x2 x3 (View.ld x5 r0_3)) (k0_pay5 x0 x1 x2 x3 (View.ld x6 r0_3))
        (k0_pay6 x0 x1 x2 x3 (View.ld x5 r0_3)) (View.ld x7 r0_4) (View.ld x5 r0_5) (View.ld x6 r0_5) (View.ld x7 r0_6))
      (k0_pay8 (k0_pay3 x0 x1 x2 x3) (View.ld x5 r0_7)) (k0_pay9 (k0_pay3 x0 x1 x2 x3) (View.ld x6 r0_7))
      (View.ld x7 r0_8) x4 r
    = half (fun k => x0 (ix3 0 r k)) (fun k => x1 (ix2 0 k)) (fun k => x2 (ix3 0 0 k)) (fun k => x3 (ix3 0 0 k))
      (fun k => x4 (ix3 0 0 k)) (fun k j => x5 (ix2 k j)) (fun k j => x6 (ix2 k j)) (fun j l => x7 (ix2 j l)) := by
  funext l
  have w0_5 : ∀ (k : Fin 1024) (j : Fin 1024), View.ld x5 r0_3 (ix2 k j) = x5 (ix2 k ⟨j.val, by omega⟩) := by
    intro k j; exact View.ld_unit_apply_of _ _ _ _ _ _ (fun a => by fin_cases a <;> simp)
  have w0_6 : ∀ (k : Fin 1024) (j : Fin 1024), View.ld x6 r0_3 (ix2 k j) = x6 (ix2 k ⟨j.val, by omega⟩) := by
    intro k j; exact View.ld_unit_apply_of _ _ _ _ _ _ (fun a => by fin_cases a <;> simp)
  have w1_5 : ∀ (k : Fin 1024) (j : Fin 1024), View.ld x5 r0_5 (ix2 k j) = x5 (ix2 k ⟨1024 + j.val, by omega⟩) := by
    intro k j; exact View.ld_unit_apply_of _ _ _ _ _ _ (fun a => by fin_cases a <;> simp)
  have w1_6 : ∀ (k : Fin 1024) (j : Fin 1024), View.ld x6 r0_5 (ix2 k j) = x6 (ix2 k ⟨1024 + j.val, by omega⟩) := by
    intro k j; exact View.ld_unit_apply_of _ _ _ _ _ _ (fun a => by fin_cases a <;> simp)
  have w2_5 : ∀ (k : Fin 1024) (j : Fin 768), View.ld x5 r0_7 (ix2 k j) = x5 (ix2 k ⟨2048 + j.val, by omega⟩) := by
    intro k j; exact View.ld_unit_apply_of _ _ _ _ _ _ (fun a => by fin_cases a <;> simp)
  have w2_6 : ∀ (k : Fin 1024) (j : Fin 768), View.ld x6 r0_7 (ix2 k j) = x6 (ix2 k ⟨2048 + j.val, by omega⟩) := by
    intro k j; exact View.ld_unit_apply_of _ _ _ _ _ _ (fun a => by fin_cases a <;> simp)
  have d0 : ∀ (j l : Fin 1024), View.ld x7 r0_4 (ix2 j l) = x7 (ix2 ⟨j.val, by omega⟩ l) := by
    intro k j; exact View.ld_unit_apply_of _ _ _ _ _ _ (fun a => by fin_cases a <;> simp)
  have d1 : ∀ (j l : Fin 1024), View.ld x7 r0_6 (ix2 j l) = x7 (ix2 ⟨1024 + j.val, by omega⟩ l) := by
    intro k j; exact View.ld_unit_apply_of _ _ _ _ _ _ (fun a => by fin_cases a <;> simp)
  have d2 : ∀ (j : Fin 768) (l : Fin 1024), View.ld x7 r0_8 (ix2 j l) = x7 (ix2 ⟨2048 + j.val, by omega⟩ l) := by
    intro k j; exact View.ld_unit_apply_of _ _ _ _ _ _ (fun a => by fin_cases a <;> simp)
  have hx : k0_pay2 x0 (ix2 r l) = x0 (ix3 0 r l) := by pointwise [k0_pay2]
  have h4 : ∀ j, k0_pay4 x0 x1 x2 x3 (View.ld x5 r0_3) (ix2 r j)
      = ∑ k, k0_pay3 x0 x1 x2 x3 (ix2 r k) * View.ld x5 r0_3 (ix2 k j) := by intro j; pointwise [k0_pay4]
  have h5 : ∀ j, k0_pay5 x0 x1 x2 x3 (View.ld x6 r0_3) (ix2 r j)
      = ∑ k, k0_pay3 x0 x1 x2 x3 (ix2 r k) * View.ld x6 r0_3 (ix2 k j) := by intro j; pointwise [k0_pay5]
  have h6 : ∀ j, k0_pay6 x0 x1 x2 x3 (View.ld x5 r0_3) (ix2 r j)
      = Ideal.exp (-k0_pay4 x0 x1 x2 x3 (View.ld x5 r0_3) (ix2 r j)) := by
    intro j; rw [h4]; pointwise [k0_pay6, k0_pay4]; simp only [zero_sub]
  have h8 : ∀ j, k0_pay8 (k0_pay3 x0 x1 x2 x3) (View.ld x5 r0_7) (ix2 r j)
      = ∑ k, k0_pay3 x0 x1 x2 x3 (ix2 r k) * View.ld x5 r0_7 (ix2 k j) := by intro j; pointwise [k0_pay8]
  have h9 : ∀ j, k0_pay9 (k0_pay3 x0 x1 x2 x3) (View.ld x6 r0_7) (ix2 r j)
      = ∑ k, k0_pay3 x0 x1 x2 x3 (ix2 r k) * View.ld x6 r0_7 (ix2 k j) := by intro j; pointwise [k0_pay9]
  rw [pre, half, sum_chunks, pay7_at _ _ _ _ _ _ _ _ r l h6, hx]
  simp only [h4, h5, h8, h9, w0_5, w0_6, w1_5, w1_6, w2_5, w2_6, d0, d1, d2, pay3_at, mid]

variable (m : (ℓ : Loc nD τ sig) → Buf (Elt Ideal) ℓ)

/-- The whole result, of the arguments. -/
def G (X : FVec Ideal S4x8192x1024 .f32) (gain : FVec Ideal S1024 .f32) (shift scale gate : FVec Ideal S4x1x1024 .f32)
    (wg wu : FVec Ideal S1024x2816 .f32) (wd : FVec Ideal S2816x1024 .f32)
    (b : Fin 4) (r : Fin 8192) (l : Fin 1024) : EReal :=
  half (fun k => X (ix3 b r k)) (fun k => gain (ix1 k)) (fun k => shift (ix3 b 0 k)) (fun k => scale (ix3 b 0 k))
    (fun k => gate (ix3 b 0 k)) (fun k j => wg (ix2 k j)) (fun k j => wu (ix2 k j)) (fun j l => wd (ix2 j l)) l

/-- The whole result array, of the launch memory. -/
def GArr (c : Dev nD) : FVec Ideal S4x8192x1024 .f32 := fun i => G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (i 0) (i 1) (i 2)

theorem idx : ∀ t : Fin cfg0.N, win0_0.index t = ![t.val / 8, t.val % 8, 0] ∧ win0_1.index t = ![0, 0] ∧
    win0_2.index t = ![t.val / 8, 0, 0] ∧ win0_3.index t = ![t.val / 8, 0, 0] ∧ win0_4.index t = ![t.val / 8, 0, 0] ∧
    win0_5.index t = ![0, 0] ∧ win0_6.index t = ![0, 0] ∧ win0_7.index t = ![0, 0] ∧ win0_8.index t = ![0, 0] ∧
    win0_9.index t = ![t.val / 8, t.val % 8, 0] ∧ t.val / 8 < 4 :=
  (by decide +kernel : ∀ t : Fin grid0.N, _)

/-- The normalised rows the body keeps, over whole blocks. -/
theorem pay10_eq (x0 : Vec Ideal S1x1024x1024 .f32) (x1 : Vec Ideal S1x1024 .f32) (x2 x3 x4 : Vec Ideal S1x1x1024 .f32)
    (x5 x6 : Vec Ideal S1024x2816 .bf16) (x7 : Vec Ideal S2816x1024 .bf16) (x8 : Vec Ideal S1x1024 .f32) :
    k0_pay10 x0 x1 x2 x3 x4 x5 x6 x7 x8 = k0_pay3 x0 x1 x2 x3 := by
  unfold k0_pay10
  frame_out

/-- The kernel's block at a point, at one row and lane. -/
theorem point (c : Dev nD) (t : Fin cfg0.N) (r l : Fin 1024) :
    k0_pay1 (k0_pay2 (iblk m c 0 t))
      (k0_pay7 (k0_pay10 (iblk m c 0 t) (iblk m c 1 t) (iblk m c 2 t) (iblk m c 3 t) (iblk m c 4 t) (iblk m c 5 t)
          (iblk m c 6 t) (iblk m c 7 t) (iblk m c 8 t))
        (k0_pay4 (iblk m c 0 t) (iblk m c 1 t) (iblk m c 2 t) (iblk m c 3 t) (View.ld (iblk m c 5 t) r0_3))
        (k0_pay5 (iblk m c 0 t) (iblk m c 1 t) (iblk m c 2 t) (iblk m c 3 t) (View.ld (iblk m c 6 t) r0_3))
        (k0_pay6 (iblk m c 0 t) (iblk m c 1 t) (iblk m c 2 t) (iblk m c 3 t) (View.ld (iblk m c 5 t) r0_3))
        (View.ld (iblk m c 7 t) r0_4) (View.ld (iblk m c 5 t) r0_5) (View.ld (iblk m c 6 t) r0_5)
        (View.ld (iblk m c 7 t) r0_6))
      (k0_pay8 (k0_pay10 (iblk m c 0 t) (iblk m c 1 t) (iblk m c 2 t) (iblk m c 3 t) (iblk m c 4 t) (iblk m c 5 t)
          (iblk m c 6 t) (iblk m c 7 t) (iblk m c 8 t)) (View.ld (iblk m c 5 t) r0_7))
      (k0_pay9 (k0_pay10 (iblk m c 0 t) (iblk m c 1 t) (iblk m c 2 t) (iblk m c 3 t) (iblk m c 4 t) (iblk m c 5 t)
          (iblk m c 6 t) (iblk m c 7 t) (iblk m c 8 t)) (View.ld (iblk m c 6 t) r0_7))
      (FloatOps.ofBits FTy.f32 0#32) (View.ld (iblk m c 7 t) r0_8) (iblk m c 4 t) (ix3 0 r l)
    = GArr m c (ix3 ⟨t.val / 8, (idx t).2.2.2.2.2.2.2.2.2.2⟩ ⟨t.val % 8 * 1024 + r.val, by omega⟩ l) := by
  rw [pay10_eq]
  refine (pay1_at _ _ _ _ _ _ r l).trans ?_
  refine (congrFun (pre_eq _ _ _ _ _ _ _ _ r) l).trans ?_
  have h0 : (fun k => iblk m c 0 t (ix3 0 r k))
      = fun k => m ((c : Thread nD τ).loc main_arg0) (ix3 ⟨t.val / 8, (idx t).2.2.2.2.2.2.2.2.2.2⟩ ⟨t.val % 8 * 1024 + r.val, by omega⟩ k) := by
    funext k; blk_point [iblk, V, idx t]
  have h1 : (fun k => iblk m c 1 t (ix2 0 k)) = fun k => m ((c : Thread nD τ).loc main_arg1) (ix1 k) := by
    funext k; blk_point [iblk, V, idx t]
  have h2 : (fun k => iblk m c 2 t (ix3 0 0 k))
      = fun k => m ((c : Thread nD τ).loc main_arg2) (ix3 ⟨t.val / 8, (idx t).2.2.2.2.2.2.2.2.2.2⟩ 0 k) := by
    funext k; blk_point [iblk, V, idx t]
  have h3 : (fun k => iblk m c 3 t (ix3 0 0 k))
      = fun k => m ((c : Thread nD τ).loc main_arg3) (ix3 ⟨t.val / 8, (idx t).2.2.2.2.2.2.2.2.2.2⟩ 0 k) := by
    funext k; blk_point [iblk, V, idx t]
  have h4 : (fun k => iblk m c 4 t (ix3 0 0 k))
      = fun k => m ((c : Thread nD τ).loc main_arg4) (ix3 ⟨t.val / 8, (idx t).2.2.2.2.2.2.2.2.2.2⟩ 0 k) := by
    funext k; blk_point [iblk, V, idx t]
  have h5 : (fun k j => iblk m c 5 t (ix2 k j)) = fun k j => m ((c : Thread nD τ).loc main_arg5) (ix2 k j) := by
    funext k j; blk_point [iblk, V, idx t]
  have h6 : (fun k j => iblk m c 6 t (ix2 k j)) = fun k j => m ((c : Thread nD τ).loc main_arg6) (ix2 k j) := by
    funext k j; blk_point [iblk, V, idx t]
  have h7 : (fun k j => iblk m c 7 t (ix2 k j)) = fun k j => m ((c : Thread nD τ).loc main_arg7) (ix2 k j) := by
    funext k j; blk_point [iblk, V, idx t]
  rw [h0, h1, h2, h3, h4, h5, h6, h7]
  rfl

/-- The result array after the run. -/
theorem final (c : Dev nD) : (dats m 0 c).arrAt 9 (cfgs 0).N = GArr m c := by
  refine (dats m 0 c).arrAt_eq_of_covers 9 _ (by decide +kernel) fun t _ y => ?_
  blk_simp
  rw [after0_9]; frame_out
  have hy : y = ix3 0 (y 1) (y 2) := by blk_ext []
  generalize y 1 = r at hy
  generalize y 2 = l at hy
  rw [hy]
  refine (point m c t r l).trans (congrArg (GArr m c) ?_)
  blk_ext [idx t]

/-- The reference's composed term is the same function of its arguments. -/
theorem ref_eq (m : (ℓ : Loc Cert.MidRefIdeal.nD Cert.MidRefIdeal.τ Cert.MidRefIdeal.sig) → Buf (Elt Ideal) ℓ)
    (c : Dev Cert.MidRefIdeal.nD) (i : S4x8192x1024.Idx) : Cert.MidRefIdeal.Value.res_main_v28 m c i
    = G (m ((c.tc : Thread _ _).loc Cert.MidRefIdeal.main_arg0)) (m ((c.tc : Thread _ _).loc Cert.MidRefIdeal.main_arg1))
        (m ((c.tc : Thread _ _).loc Cert.MidRefIdeal.main_arg2)) (m ((c.tc : Thread _ _).loc Cert.MidRefIdeal.main_arg3))
        (m ((c.tc : Thread _ _).loc Cert.MidRefIdeal.main_arg4)) (m ((c.tc : Thread _ _).loc Cert.MidRefIdeal.main_arg5))
        (m ((c.tc : Thread _ _).loc Cert.MidRefIdeal.main_arg6)) (m ((c.tc : Thread _ _).loc Cert.MidRefIdeal.main_arg7)) (i 0) (i 1) (i 2) := by
  idx_vars i
  unfold Cert.MidRefIdeal.Value.res_main_v28
  pointwise
  rfl

end Cert.MidIdeal.Value
-- ==== Proof.MidClaim.lean ====
/- The claims of the half-step feed-forward without a last normalisation. -/
module

public import proofs.«01_k».proof.Defs
public import proofs.«01_k».proof.Proof.Gen.Mid.Frame
public import proofs.«01_k».proof.Proof.MidValue

@[expose] public section
noncomputable section
namespace Cert.Proof
open Idealize.ShloMosaic Idealize.ShloMosaic.TcCoe Idealize.SL.Sem

theorem frame_Mid : quiescent_Mid (hMid := Cert.Mid.Gen.facts) := fun m ρ _ => Cert.Mid.Gen.frame m ρ
theorem frame_MidIdeal : quiescent_MidIdeal (hMidIdeal := Cert.MidIdeal.Gen.facts) := fun m ρ _ => Cert.MidIdeal.Gen.frame m ρ
/-- The reference declares no semaphore. -/
theorem frame_MidRefIdeal : quiescent_MidRefIdeal (hMidRefIdeal := Cert.MidRefIdeal.Gen.facts) := fun m ρ _ =>
  (θ_run _ _ _).mono (fun _ h => ⟨fun c => (h c).2, funext nofun⟩) (Cert.MidRefIdeal.Value.run m ρ)

theorem value_Mid : algebraic_MidIdeal_MidRefIdeal (hMidIdeal := Cert.MidIdeal.Gen.facts)
    (hMidRefIdeal := Cert.MidRefIdeal.Gen.facts) := fun m ρ m' ρ' _ hag =>
  ⟨fun c => Cert.MidIdeal.Value.GArr m c,
    (θ_run _ _ _).mono (fun _ h c => ⟨(h c).1.trans (Cert.MidIdeal.Value.final m c), (h c).2⟩) (Cert.MidIdeal.Value.run_blocks m ρ),
    (θ_run _ _ _).mono (fun _ h c => ⟨(h c).1.trans (funext fun i => (Cert.MidIdeal.Value.ref_eq m' c i).trans (by
        rw [(hag c).1, (hag c).2.1, (hag c).2.2.1, (hag c).2.2.2.1, (hag c).2.2.2.2.1, (hag c).2.2.2.2.2.1, (hag c).2.2.2.2.2.2.1, (hag c).2.2.2.2.2.2.2]
        rfl)), (h c).2⟩) (Cert.MidRefIdeal.Value.run m' ρ')⟩

end Cert.Proof
-- ==== Proof.CtxValue.lean ====
module

public import proofs.«01_k».proof.Proof.FfnValue
public import proofs.«01_k».proof.Proof.Gen.CtxIdeal.Value
public import proofs.«01_k».proof.Proof.Gen.CtxRefIdeal.Run

/- The half-step feed-forward on the context; the row functions are `FfnValue`'s. -/
@[expose] public section
set_option maxRecDepth 16384
noncomputable section
open Idealize.ShloMosaic Idealize.ShloMosaic.TcCoe Idealize.SL.Sem
open Idealize.ShloMosaic.Pipeline (Dat)
namespace Cert.CtxIdeal.Value
open Cert.CtxIdeal Cert.CtxIdeal.Gen
open Cert.FfnIdeal.Value (scaleOf modRow unit mid half sum_chunks)

/-- A first normalised row at the kernel's block. -/
theorem pay3_at (v0 : Vec Ideal S1x1024x1024 .f32) (v2 : Vec Ideal S1x1024 .f32) (v4 v6 : Vec Ideal S1x1x1024 .f32)
    (r k : Fin 1024) : k0_pay3 v0 v2 v4 v6 (ix2 r k)
      = modRow (fun k => v0 (ix3 0 r k)) (fun k => v2 (ix2 0 k)) (fun k => v4 (ix3 0 0 k)) (fun k => v6 (ix3 0 0 k)) k := by
  pointwise [k0_pay3, k0_pay2]
  rfl

/-- The first chunk's and the second chunk's contribution. -/
theorem pay7_at (h : FVec Ideal S1024x1024 .bf16) (g u e : FVec Ideal S1024x1024 .f32)
    (d0 w1 z1 d1 : Vec Ideal S1024x1024 .bf16) (r l : Fin 1024) (he : ∀ k, e (ix2 r k) = Ideal.exp (-g (ix2 r k))) :
    k0_pay7 h g u e d0 w1 z1 d1 (ix2 r l)
      = (∑ j, unit (g (ix2 r j)) (u (ix2 r j)) * d0 (ix2 j l))
        + ∑ j, unit (∑ k, h (ix2 r k) * w1 (ix2 k j)) (∑ k, h (ix2 r k) * z1 (ix2 k j)) * d1 (ix2 j l) := by
  pointwise [k0_pay7]
  simp only [he, zero_sub, unit]

/-- The row after the half step, from the three chunks. -/
def pre (v1 v65 : FVec Ideal S1024x1024 .f32) (v68 v71 : FVec Ideal S1024x768 .f32) (v82 : Vec Ideal S768x1024 .bf16)
    (v86 : Vec Ideal S1x1x1024 .f32) (r l : Fin 1024) : EReal :=
  v1 (ix2 r l) + Ideal.ofBits FTy.f32 1056964608#32 * v86 (ix3 0 0 l) *
    (v65 (ix2 r l) + ∑ j, unit (v68 (ix2 r j)) (v71 (ix2 r j)) * v82 (ix2 j l))

/-- What the body stores. -/
theorem pay1_at (v1 v65 : FVec Ideal S1024x1024 .f32) (v68 v71 : FVec Ideal S1024x768 .f32)
    (v82 : Vec Ideal S768x1024 .bf16) (v86 : Vec Ideal S1x1x1024 .f32) (r l : Fin 1024) :
    k0_pay1 v1 v65 v68 v71 (FloatOps.ofBits .f32 0#32) v82 v86 (ix3 0 r l) = pre v1 v65 v68 v71 v82 v86 r l := by
  pointwise [k0_pay1]
  simp only [zero_sub]
  rfl

/-- The row after the half step, over the whole input blocks. -/
theorem pre_eq (x0 : Vec Ideal S1x1024x1024 .f32) (x1 : Vec Ideal S1x1024 .f32) (x2 x3 x4 : Vec Ideal S1x1x1024 .f32)
    (x5 x6 : Vec Ideal S1024x2816 .bf16) (x7 : Vec Ideal S2816x1024 .bf16) (r : Fin 1024) :
    pre (k0_pay2 x0)
      (k0_pay7 (k0_pay3 x0 x1 x2 x3) (k0_pay4 x0 x1 x2 x3 (View.ld x5 r0_3)) (k0_pay5 x0 x1 x2 x3 (View.ld x6 r0_3))
        (k0_pay6 x0 x1 x2 x3 (View.ld x5 r0_3)) (View.ld x7 r0_4) (View.ld x5 r0_5) (View.ld x6 r0_5) (View.ld x7 r0_6))
      (k0_pay8 (k0_pay3 x0 x1 x2 x3) (View.ld x5 r0_7)) (k0_pay9 (k0_pay3 x0 x1 x2 x3) (View.ld x6 r0_7))
      (View.ld x7 r0_8) x4 r
    = half (fun k => x0 (ix3 0 r k)) (fun k => x1 (ix2 0 k)) (fun k => x2 (ix3 0 0 k)) (fun k => x3 (ix3 0 0 k))
      (fun k => x4 (ix3 0 0 k)) (fun k j => x5 (ix2 k j)) (fun k j => x6 (ix2 k j)) (fun j l => x7 (ix2 j l)) := by
  funext l
  have w0_5 : ∀ (k : Fin 1024) (j : Fin 1024), View.ld x5 r0_3 (ix2 k j) = x5 (ix2 k ⟨j.val, by omega⟩) := by
    intro k j; exact View.ld_unit_apply_of _ _ _ _ _ _ (fun a => by fin_cases a <;> simp)
  have w0_6 : ∀ (k : Fin 1024) (j : Fin 1024), View.ld x6 r0_3 (ix2 k j) = x6 (ix2 k ⟨j.val, by omega⟩) := by
    intro k j; exact View.ld_unit_apply_of _ _ _ _ _ _ (fun a => by fin_cases a <;> simp)
  have w1_5 : ∀ (k : Fin 1024) (j : Fin 1024), View.ld x5 r0_5 (ix2 k j) = x5 (ix2 k ⟨1024 + j.val, by omega⟩) := by
    intro k j; exact View.ld_unit_apply_of _ _ _ _ _ _ (fun a => by fin_cases a <;> simp)
  have w1_6 : ∀ (k : Fin 1024) (j : Fin 1024), View.ld x6 r0_5 (ix2 k j) = x6 (ix2 k ⟨1024 + j.val, by omega⟩) := by
    intro k j; exact View.ld_unit_apply_of _ _ _ _ _ _ (fun a => by fin_cases a <;> simp)
  have w2_5 : ∀ (k : Fin 1024) (j : Fin 768), View.ld x5 r0_7 (ix2 k j) = x5 (ix2 k ⟨2048 + j.val, by omega⟩) := by
    intro k j; exact View.ld_unit_apply_of _ _ _ _ _ _ (fun a => by fin_cases a <;> simp)
  have w2_6 : ∀ (k : Fin 1024) (j : Fin 768), View.ld x6 r0_7 (ix2 k j) = x6 (ix2 k ⟨2048 + j.val, by omega⟩) := by
    intro k j; exact View.ld_unit_apply_of _ _ _ _ _ _ (fun a => by fin_cases a <;> simp)
  have d0 : ∀ (j l : Fin 1024), View.ld x7 r0_4 (ix2 j l) = x7 (ix2 ⟨j.val, by omega⟩ l) := by
    intro k j; exact View.ld_unit_apply_of _ _ _ _ _ _ (fun a => by fin_cases a <;> simp)
  have d1 : ∀ (j l : Fin 1024), View.ld x7 r0_6 (ix2 j l) = x7 (ix2 ⟨1024 + j.val, by omega⟩ l) := by
    intro k j; exact View.ld_unit_apply_of _ _ _ _ _ _ (fun a => by fin_cases a <;> simp)
  have d2 : ∀ (j : Fin 768) (l : Fin 1024), View.ld x7 r0_8 (ix2 j l) = x7 (ix2 ⟨2048 + j.val, by omega⟩ l) := by
    intro k j; exact View.ld_unit_apply_of _ _ _ _ _ _ (fun a => by fin_cases a <;> simp)
  have hx : k0_pay2 x0 (ix2 r l) = x0 (ix3 0 r l) := by pointwise [k0_pay2]
  have h4 : ∀ j, k0_pay4 x0 x1 x2 x3 (View.ld x5 r0_3) (ix2 r j)
      = ∑ k, k0_pay3 x0 x1 x2 x3 (ix2 r k) * View.ld x5 r0_3 (ix2 k j) := by intro j; pointwise [k0_pay4]
  have h5 : ∀ j, k0_pay5 x0 x1 x2 x3 (View.ld x6 r0_3) (ix2 r j)
      = ∑ k, k0_pay3 x0 x1 x2 x3 (ix2 r k) * View.ld x6 r0_3 (ix2 k j) := by intro j; pointwise [k0_pay5]
  have h6 : ∀ j, k0_pay6 x0 x1 x2 x3 (View.ld x5 r0_3) (ix2 r j)
      = Ideal.exp (-k0_pay4 x0 x1 x2 x3 (View.ld x5 r0_3) (ix2 r j)) := by
    intro j; rw [h4]; pointwise [k0_pay6, k0_pay4]; simp only [zero_sub]
  have h8 : ∀ j, k0_pay8 (k0_pay3 x0 x1 x2 x3) (View.ld x5 r0_7) (ix2 r j)
      = ∑ k, k0_pay3 x0 x1 x2 x3 (ix2 r k) * View.ld x5 r0_7 (ix2 k j) := by intro j; pointwise [k0_pay8]
  have h9 : ∀ j, k0_pay9 (k0_pay3 x0 x1 x2 x3) (View.ld x6 r0_7) (ix2 r j)
      = ∑ k, k0_pay3 x0 x1 x2 x3 (ix2 r k) * View.ld x6 r0_7 (ix2 k j) := by intro j; pointwise [k0_pay9]
  rw [pre, half, sum_chunks, pay7_at _ _ _ _ _ _ _ _ r l h6, hx]
  simp only [h4, h5, h8, h9, w0_5, w0_6, w1_5, w1_6, w2_5, w2_6, d0, d1, d2, pay3_at, mid]

variable (m : (ℓ : Loc nD τ sig) → Buf (Elt Ideal) ℓ)

/-- The whole result, of the arguments. -/
def G (X : FVec Ideal S1x1024x1024 .f32) (gain : FVec Ideal S1024 .f32) (shift scale gate : FVec Ideal S1x1x1024 .f32)
    (wg wu : FVec Ideal S1024x2816 .f32) (wd : FVec Ideal S2816x1024 .f32)
    (b : Fin 1) (r : Fin 1024) (l : Fin 1024) : EReal :=
  half (fun k => X (ix3 b r k)) (fun k => gain (ix1 k)) (fun k => shift (ix3 b 0 k)) (fun k => scale (ix3 b 0 k))
    (fun k => gate (ix3 b 0 k)) (fun k j => wg (ix2 k j)) (fun k j => wu (ix2 k j)) (fun j l => wd (ix2 j l)) l

/-- The whole result array, of the launch memory. -/
def GArr (c : Dev nD) : FVec Ideal S1x1024x1024 .f32 := fun i => G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (i 0) (i 1) (i 2)

theorem idx : ∀ t : Fin cfg0.N, win0_0.index t = ![0, 0, 0] ∧ win0_1.index t = ![0, 0] ∧
    win0_2.index t = ![0, 0, 0] ∧ win0_3.index t = ![0, 0, 0] ∧ win0_4.index t = ![0, 0, 0] ∧
    win0_5.index t = ![0, 0] ∧ win0_6.index t = ![0, 0] ∧ win0_7.index t = ![0, 0] ∧ win0_8.index t = ![0, 0] ∧
    win0_9.index t = ![0, 0, 0] :=
  (by decide +kernel : ∀ t : Fin grid0.N, _)

/-- The normalised rows the body keeps, over whole blocks. -/
theorem pay10_eq (x0 : Vec Ideal S1x1024x1024 .f32) (x1 : Vec Ideal S1x1024 .f32) (x2 x3 x4 : Vec Ideal S1x1x1024 .f32)
    (x5 x6 : Vec Ideal S1024x2816 .bf16) (x7 : Vec Ideal S2816x1024 .bf16) (x8 : Vec Ideal S1x1024 .f32) :
    k0_pay10 x0 x1 x2 x3 x4 x5 x6 x7 x8 = k0_pay3 x0 x1 x2 x3 := by
  unfold k0_pay10
  frame_out

/-- The kernel's block at a point, at one row and lane. -/
theorem point (c : Dev nD) (t : Fin cfg0.N) (r l : Fin 1024) :
    k0_pay1 (k0_pay2 (iblk m c 0 t))
      (k0_pay7 (k0_pay10 (iblk m c 0 t) (iblk m c 1 t) (iblk m c 2 t) (iblk m c 3 t) (iblk m c 4 t) (iblk m c 5 t)
          (iblk m c 6 t) (iblk m c 7 t) (iblk m c 8 t))
        (k0_pay4 (iblk m c 0 t) (iblk m c 1 t) (iblk m c 2 t) (iblk m c 3 t) (View.ld (iblk m c 5 t) r0_3))
        (k0_pay5 (iblk m c 0 t) (iblk m c 1 t) (iblk m c 2 t) (iblk m c 3 t) (View.ld (iblk m c 6 t) r0_3))
        (k0_pay6 (iblk m c 0 t) (iblk m c 1 t) (iblk m c 2 t) (iblk m c 3 t) (View.ld (iblk m c 5 t) r0_3))
        (View.ld (iblk m c 7 t) r0_4) (View.ld (iblk m c 5 t) r0_5) (View.ld (iblk m c 6 t) r0_5)
        (View.ld (iblk m c 7 t) r0_6))
      (k0_pay8 (k0_pay10 (iblk m c 0 t) (iblk m c 1 t) (iblk m c 2 t) (iblk m c 3 t) (iblk m c 4 t) (iblk m c 5 t)
          (iblk m c 6 t) (iblk m c 7 t) (iblk m c 8 t)) (View.ld (iblk m c 5 t) r0_7))
      (k0_pay9 (k0_pay10 (iblk m c 0 t) (iblk m c 1 t) (iblk m c 2 t) (iblk m c 3 t) (iblk m c 4 t) (iblk m c 5 t)
          (iblk m c 6 t) (iblk m c 7 t) (iblk m c 8 t)) (View.ld (iblk m c 6 t) r0_7))
      (FloatOps.ofBits FTy.f32 0#32) (View.ld (iblk m c 7 t) r0_8) (iblk m c 4 t) (ix3 0 r l)
    = GArr m c (ix3 0 r l) := by
  rw [pay10_eq]
  refine (pay1_at _ _ _ _ _ _ r l).trans ?_
  refine (congrFun (pre_eq _ _ _ _ _ _ _ _ r) l).trans ?_
  have h0 : (fun k => iblk m c 0 t (ix3 0 r k))
      = fun k => m ((c : Thread nD τ).loc main_arg0) (ix3 0 r k) := by
    funext k; blk_point [iblk, V, idx t]
  have h1 : (fun k => iblk m c 1 t (ix2 0 k)) = fun k => m ((c : Thread nD τ).loc main_arg1) (ix1 k) := by
    funext k; blk_point [iblk, V, idx t]
  have h2 : (fun k => iblk m c 2 t (ix3 0 0 k))
      = fun k => m ((c : Thread nD τ).loc main_arg2) (ix3 0 0 k) := by
    funext k; blk_point [iblk, V, idx t]
  have h3 : (fun k => iblk m c 3 t (ix3 0 0 k))
      = fun k => m ((c : Thread nD τ).loc main_arg3) (ix3 0 0 k) := by
    funext k; blk_point [iblk, V, idx t]
  have h4 : (fun k => iblk m c 4 t (ix3 0 0 k))
      = fun k => m ((c : Thread nD τ).loc main_arg4) (ix3 0 0 k) := by
    funext k; blk_point [iblk, V, idx t]
  have h5 : (fun k j => iblk m c 5 t (ix2 k j)) = fun k j => m ((c : Thread nD τ).loc main_arg5) (ix2 k j) := by
    funext k j; blk_point [iblk, V, idx t]
  have h6 : (fun k j => iblk m c 6 t (ix2 k j)) = fun k j => m ((c : Thread nD τ).loc main_arg6) (ix2 k j) := by
    funext k j; blk_point [iblk, V, idx t]
  have h7 : (fun k j => iblk m c 7 t (ix2 k j)) = fun k j => m ((c : Thread nD τ).loc main_arg7) (ix2 k j) := by
    funext k j; blk_point [iblk, V, idx t]
  rw [h0, h1, h2, h3, h4, h5, h6, h7]
  rfl

/-- The result array after the run. -/
theorem final (c : Dev nD) : (dats m 0 c).arrAt 9 (cfgs 0).N = GArr m c := by
  refine (dats m 0 c).arrAt_eq_of_covers 9 _ (by decide +kernel) fun t _ y => ?_
  blk_simp
  rw [after0_9]; frame_out
  have hy : y = ix3 0 (y 1) (y 2) := by blk_ext []
  generalize y 1 = r at hy
  generalize y 2 = l at hy
  rw [hy]
  refine (point m c t r l).trans (congrArg (GArr m c) ?_)
  blk_ext [idx t]

/-- The reference's composed term is the same function of its arguments. -/
theorem ref_eq (m : (ℓ : Loc Cert.CtxRefIdeal.nD Cert.CtxRefIdeal.τ Cert.CtxRefIdeal.sig) → Buf (Elt Ideal) ℓ)
    (c : Dev Cert.CtxRefIdeal.nD) (i : S1x1024x1024.Idx) : Cert.CtxRefIdeal.Value.res_main_v28 m c i
    = G (m ((c.tc : Thread _ _).loc Cert.CtxRefIdeal.main_arg0)) (m ((c.tc : Thread _ _).loc Cert.CtxRefIdeal.main_arg1))
        (m ((c.tc : Thread _ _).loc Cert.CtxRefIdeal.main_arg2)) (m ((c.tc : Thread _ _).loc Cert.CtxRefIdeal.main_arg3))
        (m ((c.tc : Thread _ _).loc Cert.CtxRefIdeal.main_arg4)) (m ((c.tc : Thread _ _).loc Cert.CtxRefIdeal.main_arg5))
        (m ((c.tc : Thread _ _).loc Cert.CtxRefIdeal.main_arg6)) (m ((c.tc : Thread _ _).loc Cert.CtxRefIdeal.main_arg7)) (i 0) (i 1) (i 2) := by
  idx_vars i
  obtain rfl : i0 = 0 := Subsingleton.elim _ _
  unfold Cert.CtxRefIdeal.Value.res_main_v28
  pointwise
  rfl

end Cert.CtxIdeal.Value
-- ==== Proof.CtxClaim.lean ====
/- The claims of the half-step feed-forward on the context. -/
module

public import proofs.«01_k».proof.Defs
public import proofs.«01_k».proof.Proof.Gen.Ctx.Frame
public import proofs.«01_k».proof.Proof.CtxValue

@[expose] public section
noncomputable section
namespace Cert.Proof
open Idealize.ShloMosaic Idealize.ShloMosaic.TcCoe Idealize.SL.Sem

theorem frame_Ctx : quiescent_Ctx (hCtx := Cert.Ctx.Gen.facts) := fun m ρ _ => Cert.Ctx.Gen.frame m ρ
theorem frame_CtxIdeal : quiescent_CtxIdeal (hCtxIdeal := Cert.CtxIdeal.Gen.facts) := fun m ρ _ => Cert.CtxIdeal.Gen.frame m ρ
/-- The reference declares no semaphore. -/
theorem frame_CtxRefIdeal : quiescent_CtxRefIdeal (hCtxRefIdeal := Cert.CtxRefIdeal.Gen.facts) := fun m ρ _ =>
  (θ_run _ _ _).mono (fun _ h => ⟨fun c => (h c).2, funext nofun⟩) (Cert.CtxRefIdeal.Value.run m ρ)

theorem value_Ctx : algebraic_CtxIdeal_CtxRefIdeal (hCtxIdeal := Cert.CtxIdeal.Gen.facts)
    (hCtxRefIdeal := Cert.CtxRefIdeal.Gen.facts) := fun m ρ m' ρ' _ hag =>
  ⟨fun c => Cert.CtxIdeal.Value.GArr m c,
    (θ_run _ _ _).mono (fun _ h c => ⟨(h c).1.trans (Cert.CtxIdeal.Value.final m c), (h c).2⟩) (Cert.CtxIdeal.Value.run_blocks m ρ),
    (θ_run _ _ _).mono (fun _ h c => ⟨(h c).1.trans (funext fun i => (Cert.CtxIdeal.Value.ref_eq m' c i).trans (by
        rw [(hag c).1, (hag c).2.1, (hag c).2.2.1, (hag c).2.2.2.1, (hag c).2.2.2.2.1, (hag c).2.2.2.2.2.1, (hag c).2.2.2.2.2.2.1, (hag c).2.2.2.2.2.2.2]
        rfl)), (h c).2⟩) (Cert.CtxRefIdeal.Value.run m' ρ')⟩

end Cert.Proof
-- ==== Proof.ProjValue.lean ====
module

public import proofs.«01_k».proof.Proof.FfnValue
public import proofs.«01_k».proof.Proof.Gen.ProjIdeal.Value
public import proofs.«01_k».proof.Proof.Gen.ProjRefIdeal.Run

/- The mixer's first projection, of the context's rows and of the latents'; the row functions are `FfnValue`'s. -/
@[expose] public section
set_option maxRecDepth 16384
noncomputable section
open Idealize.ShloMosaic Idealize.ShloMosaic.TcCoe Idealize.SL.Sem
open Idealize.ShloMosaic.Pipeline (Dat)
namespace Cert.ProjIdeal.Value
open Cert.ProjIdeal Cert.ProjIdeal.Gen
open Cert.FfnIdeal.Value (scaleOf modRow)

/-- The test that tells the context's block from the latents'. -/
theorem test_at : ∀ n : Fin 33, Scalar.cmpi .slt (BitVec.ofNat 32 n.val) 1#32 = if n.val = 0 then 1#1 else 0#1 := by
  decide +kernel

theorem test_ctx (i : grid0.Coords) (h : (i 1).val = 0) : Scalar.cmpi .slt (BitVec.ofNat 32 (i 1).val) 1#32 = 1#1 :=
  (test_at (i 1)).trans (if_pos h)

theorem test_lat (i : grid0.Coords) (h : (i 1).val ≠ 0) : Scalar.cmpi .slt (BitVec.ofNat 32 (i 1).val) 1#32 = 0#1 :=
  (test_at (i 1)).trans (if_neg h)

theorem sel_one {s : Shape} (a b : FVec Ideal s .f32) : Scalar.select 1#1 a b = a := rfl
theorem sel_zero {s : Shape} (a b : FVec Ideal s .f32) : Scalar.select 0#1 a b = b := rfl

/-- The rows that the body multiplies, at the context's block. -/
theorem row_ctx (i : grid0.Coords) (h : (i 1).val = 0) (x0 x1 : Vec Ideal S1x256x1024 .f32) (x2 : Vec Ideal S1x1024 .f32)
    (x3 x4 x5 x6 : Vec Ideal S1x1x1024 .f32) (r : Fin 256) (k : Fin 1024) :
    k0_pay1 (k0_pay4 i x3 x5) (k0_pay5 i x0 x1 x2) (k0_pay6 i x4 x6) (ix2 r k)
      = modRow (fun k => x0 (ix3 0 r k)) (fun k => x2 (ix2 0 k)) (fun k => x3 (ix3 0 0 k)) (fun k => x4 (ix3 0 0 k)) k := by
  unfold k0_pay1 k0_pay4 k0_pay5 k0_pay6
  simp only [test_ctx i h, sel_one]
  pointwise
  rfl

/-- The rows that the body multiplies, at a block of the latents. -/
theorem row_lat (i : grid0.Coords) (h : (i 1).val ≠ 0) (x0 x1 : Vec Ideal S1x256x1024 .f32) (x2 : Vec Ideal S1x1024 .f32)
    (x3 x4 x5 x6 : Vec Ideal S1x1x1024 .f32) (r : Fin 256) (k : Fin 1024) :
    k0_pay1 (k0_pay4 i x3 x5) (k0_pay5 i x0 x1 x2) (k0_pay6 i x4 x6) (ix2 r k)
      = modRow (fun k => x1 (ix3 0 r k)) (fun k => x2 (ix2 0 k)) (fun k => x5 (ix3 0 0 k)) (fun k => x6 (ix3 0 0 k)) k := by
  unfold k0_pay1 k0_pay4 k0_pay5 k0_pay6
  simp only [test_lat i h, sel_zero]
  pointwise
  rfl

/-- The two stored products. -/
theorem pay2_at (a : FVec Ideal S1x1024 .f32) (b d : FVec Ideal S256x1024 .f32) (x7 : Vec Ideal S1024x2432 .bf16) (r : Fin 256) (n : Fin 1920) :
    k0_pay2 a b d (View.ld x7 r0_3) (ix3 0 r n) = ∑ k : Fin 1024, k0_pay1 a b d (ix2 r k) * x7 (ix2 k ⟨n.val, by omega⟩) := by
  have w : ∀ (k : Fin 1024) (j : Fin 1920), View.ld x7 r0_3 (ix2 k j) = x7 (ix2 k ⟨j.val, by omega⟩) := by
    intro k j; exact View.ld_unit_apply_of _ _ _ _ _ _ (fun a => by fin_cases a <;> simp)
  generalize View.ld x7 r0_3 = y at w
  pointwise [k0_pay2]
  simp only [w]

theorem pay3_at (a : FVec Ideal S1x1024 .f32) (b d : FVec Ideal S256x1024 .f32) (x7 : Vec Ideal S1024x2432 .bf16) (r : Fin 256) (n : Fin 512) :
    k0_pay3 a b d (View.ld x7 r0_5) (ix3 0 r n) = ∑ k : Fin 1024, k0_pay1 a b d (ix2 r k) * x7 (ix2 k ⟨1920 + n.val, by omega⟩) := by
  have w : ∀ (k : Fin 1024) (j : Fin 512), View.ld x7 r0_5 (ix2 k j) = x7 (ix2 k ⟨1920 + j.val, by omega⟩) := by
    intro k j; exact View.ld_unit_apply_of _ _ _ _ _ _ (fun a => by fin_cases a <;> simp)
  generalize View.ld x7 r0_5 = y at w
  pointwise [k0_pay3]
  simp only [w]

theorem pay7_eq (i : grid0.Coords) (x0 x1 : Vec Ideal S1x256x1024 .f32) (x2 : Vec Ideal S1x1024 .f32)
    (x3 x4 x5 x6 : Vec Ideal S1x1x1024 .f32) (x7 : Vec Ideal S1024x2432 .bf16) :
    k0_pay7 i x0 x1 x2 x3 x4 x5 x6 x7 = k0_pay4 i x3 x5 := by
  unfold k0_pay7
  frame_out
theorem pay8_eq (i : grid0.Coords) (x0 x1 : Vec Ideal S1x256x1024 .f32) (x2 : Vec Ideal S1x1024 .f32)
    (x3 x4 x5 x6 : Vec Ideal S1x1x1024 .f32) (x7 : Vec Ideal S1024x2432 .bf16) :
    k0_pay8 i x0 x1 x2 x3 x4 x5 x6 x7 = k0_pay5 i x0 x1 x2 := by
  unfold k0_pay8
  frame_out
theorem pay9_eq (i : grid0.Coords) (x0 x1 : Vec Ideal S1x256x1024 .f32) (x2 : Vec Ideal S1x1024 .f32)
    (x3 x4 x5 x6 : Vec Ideal S1x1x1024 .f32) (x7 : Vec Ideal S1024x2432 .bf16) :
    k0_pay9 i x0 x1 x2 x3 x4 x5 x6 x7 = k0_pay6 i x4 x6 := by
  unfold k0_pay9
  frame_out

/-- A projected row. -/
def proj (x gain shift scale : Fin 1024 → EReal) (w : FVec Ideal S1024x2432 .f32) (n : Fin 2432) : EReal :=
  ∑ k, modRow x gain shift scale k * w (ix2 k n)

/-- The whole result, of the arguments: the context's rows, then the latents'. -/
def G (X : FVec Ideal S4x256x1024 .f32) (Y : FVec Ideal S4x8192x1024 .f32) (gain : FVec Ideal S1024 .f32)
    (sc cc sl cl : FVec Ideal S4x1x1024 .f32) (w : FVec Ideal S1024x2432 .f32) (b : Fin 4) (r : Fin 8448) (n : Fin 2432) : EReal :=
  if h : r.val < 256 then
    proj (fun k => X (ix3 b ⟨r.val, h⟩ k)) (fun k => gain (ix1 k)) (fun k => sc (ix3 b 0 k)) (fun k => cc (ix3 b 0 k)) w n
  else
    proj (fun k => Y (ix3 b ⟨r.val - 256, by omega⟩ k)) (fun k => gain (ix1 k)) (fun k => sl (ix3 b 0 k)) (fun k => cl (ix3 b 0 k)) w n

variable (m : (ℓ : Loc nD τ sig) → Buf (Elt Ideal) ℓ)

/-- The result at an index, of the launch memory. -/
def GM (c : Dev nD) (b : Fin 4) (r : Fin 8448) (n : Fin 2432) : EReal :=
  G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) b r n

/-- The two result arrays. -/
def G8 (c : Dev nD) : FVec Ideal S4x8448x1920 .f32 := fun i => GM m c (i 0) (i 1) ⟨(i 2).val, by have : (i 2).val < 1920 := (i 2).isLt; omega⟩
def G9 (c : Dev nD) : FVec Ideal S4x8448x512 .f32 := fun i => GM m c (i 0) (i 1) ⟨1920 + (i 2).val, by have : (i 2).val < 512 := (i 2).isLt; omega⟩

theorem idx : ∀ t : Fin cfg0.N, win0_0.index t = ![t.val / 33, 0, 0] ∧ win0_1.index t = ![t.val / 33, t.val % 33 - 1, 0] ∧
    win0_2.index t = ![0, 0] ∧ win0_3.index t = ![t.val / 33, 0, 0] ∧ win0_4.index t = ![t.val / 33, 0, 0] ∧
    win0_5.index t = ![t.val / 33, 0, 0] ∧ win0_6.index t = ![t.val / 33, 0, 0] ∧ win0_7.index t = ![0, 0] ∧
    win0_8.index t = ![t.val / 33, t.val % 33, 0] ∧ win0_9.index t = ![t.val / 33, t.val % 33, 0] ∧ t.val / 33 < 4 :=
  (by decide +kernel : ∀ t : Fin grid0.N, _)

theorem coord : ∀ t : Fin cfg0.N, (grid0.coords t 1).val = t.val % 33 :=
  (by decide +kernel : ∀ t : Fin grid0.N, _)

/-- A row of the product at a point, against any column of the weights. -/
theorem point (c : Dev nD) (t : Fin cfg0.N) (r : Fin 256) (n : Fin 2432) :
    (∑ k : Fin 1024, k0_pay1 (k0_pay4 (grid0.coords t) (iblk m c 3 t) (iblk m c 5 t))
        (k0_pay5 (grid0.coords t) (iblk m c 0 t) (iblk m c 1 t) (iblk m c 2 t))
        (k0_pay6 (grid0.coords t) (iblk m c 4 t) (iblk m c 6 t)) (ix2 r k) * iblk m c 7 t (ix2 k n) : EReal)
      = GM m c ⟨t.val / 33, (idx t).2.2.2.2.2.2.2.2.2.2⟩ ⟨t.val % 33 * 256 + r.val, by omega⟩ n := by
  have hb := (idx t).2.2.2.2.2.2.2.2.2.2
  have h2 : (fun k => iblk m c 2 t (ix2 0 k)) = fun k => m ((c : Thread nD τ).loc main_arg2) (ix1 k) := by
    funext k; blk_point [iblk, V, idx t]
  have h3 : (fun k => iblk m c 3 t (ix3 0 0 k)) = fun k => m ((c : Thread nD τ).loc main_arg3) (ix3 ⟨t.val / 33, hb⟩ 0 k) := by
    funext k; blk_point [iblk, V, idx t]
  have h4 : (fun k => iblk m c 4 t (ix3 0 0 k)) = fun k => m ((c : Thread nD τ).loc main_arg4) (ix3 ⟨t.val / 33, hb⟩ 0 k) := by
    funext k; blk_point [iblk, V, idx t]
  have h5 : (fun k => iblk m c 5 t (ix3 0 0 k)) = fun k => m ((c : Thread nD τ).loc main_arg5) (ix3 ⟨t.val / 33, hb⟩ 0 k) := by
    funext k; blk_point [iblk, V, idx t]
  have h6 : (fun k => iblk m c 6 t (ix3 0 0 k)) = fun k => m ((c : Thread nD τ).loc main_arg6) (ix3 ⟨t.val / 33, hb⟩ 0 k) := by
    funext k; blk_point [iblk, V, idx t]
  have h7 : ∀ k, iblk m c 7 t (ix2 k n) = m ((c : Thread nD τ).loc main_arg7) (ix2 k n) := by
    intro k; blk_point [iblk, V, idx t]
  by_cases h : t.val % 33 = 0
  · have h0 : (fun k => iblk m c 0 t (ix3 0 r k)) = fun k => m ((c : Thread nD τ).loc main_arg0) (ix3 ⟨t.val / 33, hb⟩ r k) := by
      funext k; blk_point [iblk, V, idx t]
    refine (Finset.sum_congr rfl fun k _ => congrArg₂ HMul.hMul (row_ctx _ ((coord t).trans h) _ _ _ _ _ _ _ r k) (h7 k)).trans ?_
    rw [h0, h2, h3, h4]
    refine Eq.symm ((dif_pos (show t.val % 33 * 256 + r.val < 256 by omega)).trans ?_)
    rw [show (⟨(⟨t.val % 33 * 256 + r.val, by omega⟩ : Fin 8448).val, by show t.val % 33 * 256 + r.val < 256; omega⟩ : Fin 256) = r from Fin.ext (by show t.val % 33 * 256 + r.val = r.val; omega)]
    rfl
  · have h0 : (fun k => iblk m c 1 t (ix3 0 r k)) = fun k => m ((c : Thread nD τ).loc main_arg1) (ix3 ⟨t.val / 33, hb⟩ ⟨(t.val % 33 - 1) * 256 + r.val, by omega⟩ k) := by
      funext k; blk_point [iblk, V, idx t]
    refine (Finset.sum_congr rfl fun k _ => congrArg₂ HMul.hMul (row_lat _ (fun e => h ((coord t).symm.trans e)) _ _ _ _ _ _ _ r k) (h7 k)).trans ?_
    rw [h0, h2, h5, h6]
    refine Eq.symm ((dif_neg (show ¬ t.val % 33 * 256 + r.val < 256 by omega)).trans ?_)
    rw [show (⟨(⟨t.val % 33 * 256 + r.val, by omega⟩ : Fin 8448).val - 256, by show t.val % 33 * 256 + r.val - 256 < 8192; omega⟩ : Fin 8192) = ⟨(t.val % 33 - 1) * 256 + r.val, by omega⟩ from Fin.ext (by show t.val % 33 * 256 + r.val - 256 = (t.val % 33 - 1) * 256 + r.val; omega)]
    rfl

theorem final8 (c : Dev nD) : (dats m 0 c).arrAt 8 (cfgs 0).N = G8 m c := by
  refine (dats m 0 c).arrAt_eq_of_covers 8 _ (by decide +kernel) fun t _ y => ?_
  blk_simp
  rw [after0_8]; frame_out
  have hy : y = ix3 0 (y 1) (y 2) := by blk_ext []
  generalize y 1 = r at hy
  generalize y 2 = l at hy
  rw [hy]
  have hl : l.val < 1920 := l.isLt
  have hr : r.val < 256 := r.isLt
  have hb := (idx t).2.2.2.2.2.2.2.2.2.2
  rw [pay7_eq, pay8_eq, pay9_eq]
  refine (pay2_at _ _ _ _ r l).trans ((point m c t r _).trans ?_)
  refine Eq.trans (b := G8 m c (ix3 ⟨t.val / 33, hb⟩ ⟨t.val % 33 * 256 + r.val, by omega⟩ l)) rfl (congrArg (G8 m c) ?_)
  blk_ext [idx t]

theorem final9 (c : Dev nD) : (dats m 0 c).arrAt 9 (cfgs 0).N = G9 m c := by
  refine (dats m 0 c).arrAt_eq_of_covers 9 _ (by decide +kernel) fun t _ y => ?_
  blk_simp
  rw [after0_9]; frame_out
  have hy : y = ix3 0 (y 1) (y 2) := by blk_ext []
  generalize y 1 = r at hy
  generalize y 2 = l at hy
  rw [hy]
  have hl : l.val < 512 := l.isLt
  have hr : r.val < 256 := r.isLt
  have hb := (idx t).2.2.2.2.2.2.2.2.2.2
  rw [pay7_eq, pay8_eq, pay9_eq]
  refine (pay3_at _ _ _ _ r l).trans ((point m c t r _).trans ?_)
  refine Eq.trans (b := G9 m c (ix3 ⟨t.val / 33, hb⟩ ⟨t.val % 33 * 256 + r.val, by omega⟩ l)) rfl (congrArg (G9 m c) ?_)
  blk_ext [idx t]

end Cert.ProjIdeal.Value
-- ==== Proof.ProjClaim.lean ====
/- The claims of the mixer's first projection. -/
module

public import proofs.«01_k».proof.Defs
public import proofs.«01_k».proof.Proof.Gen.Proj.Frame
public import proofs.«01_k».proof.Proof.ProjValue

@[expose] public section
noncomputable section
namespace Cert.Proof
open Idealize.ShloMosaic Idealize.ShloMosaic.TcCoe Idealize.SL.Sem

theorem frame_Proj : quiescent_Proj (hProj := Cert.Proj.Gen.facts) := fun m ρ _ => Cert.Proj.Gen.frame m ρ
theorem frame_ProjIdeal : quiescent_ProjIdeal (hProjIdeal := Cert.ProjIdeal.Gen.facts) := fun m ρ _ => Cert.ProjIdeal.Gen.frame m ρ
/-- The reference declares no semaphore. -/
theorem frame_ProjRefIdeal : quiescent_ProjRefIdeal (hProjRefIdeal := Cert.ProjRefIdeal.Gen.facts) := fun m ρ _ =>
  (θ_run _ _ _).mono (fun _ h => ⟨fun c => (h c).2.2, funext nofun⟩) (Cert.ProjRefIdeal.Value.run m ρ)

theorem value_Proj : algebraic_ProjIdeal_ProjRefIdeal (hProjIdeal := Cert.ProjIdeal.Gen.facts)
    (hProjRefIdeal := Cert.ProjRefIdeal.Gen.facts) := fun m ρ m' ρ' _ hag =>
  ⟨fun c => Cert.ProjIdeal.Value.G8 m c, fun c => Cert.ProjIdeal.Value.G9 m c,
    (θ_run _ _ _).mono (fun _ h c => ⟨(h c).1.trans (Cert.ProjIdeal.Value.final8 m c), (h c).2.1.trans (Cert.ProjIdeal.Value.final9 m c), (h c).2.2⟩)
      (Cert.ProjIdeal.Value.run_blocks m ρ),
    (θ_run _ _ _).mono (fun _ h c => ⟨(h c).1.trans (funext fun i => by
        rw [(hag c).1, (hag c).2.1, (hag c).2.2.1, (hag c).2.2.2.1, (hag c).2.2.2.2.1, (hag c).2.2.2.2.2.1, (hag c).2.2.2.2.2.2.1, (hag c).2.2.2.2.2.2.2]
        idx_vars i
        pointwise
        by_cases hr : i1.val < 256
        · simp only [hr, ↓reduceDIte]
          refine Eq.trans ?_ (dif_pos hr).symm
          rfl
        · simp only [hr, ↓reduceDIte]
          refine Eq.trans ?_ (dif_neg hr).symm
          rfl),
      (h c).2.1.trans (funext fun i => by
        rw [(hag c).1, (hag c).2.1, (hag c).2.2.1, (hag c).2.2.2.1, (hag c).2.2.2.2.1, (hag c).2.2.2.2.2.1, (hag c).2.2.2.2.2.2.1, (hag c).2.2.2.2.2.2.2]
        idx_vars i
        pointwise
        by_cases hr : i1.val < 256
        · simp only [hr, ↓reduceDIte]
          refine Eq.trans ?_ (dif_pos hr).symm
          rfl
        · simp only [hr, ↓reduceDIte]
          refine Eq.trans ?_ (dif_neg hr).symm
          rfl), (h c).2.2⟩) (Cert.ProjRefIdeal.Value.run m' ρ')⟩

end Cert.Proof
-- ==== Proof.HyInValue.lean ====
module

public import proofs.«01_k».proof.Proof.FfnValue
public import proofs.«01_k».proof.Proof.Gen.HyInIdeal.Value
public import proofs.«01_k».proof.Proof.Gen.HyInRefIdeal.Run

/- The convolution mixer's first projection and its short convolution; the row functions are `FfnValue`'s. -/
@[expose] public section
set_option maxRecDepth 16384
noncomputable section
open Idealize.ShloMosaic Idealize.ShloMosaic.TcCoe Idealize.SL.Sem
open Idealize.ShloMosaic.Pipeline (Dat)
namespace Cert.HyInIdeal.Value
open Cert.HyInIdeal Cert.HyInIdeal.Gen
open Cert.FfnIdeal.Value (scaleOf modRow)

/-! The tests of a row and of a grid coordinate, decided. -/

theorem first_row : ∀ r : Fin 512, IntOp.cmpi .eq (BitVec.ofNat 32 r.val) 0#32 = if r.val = 0 then 1#1 else 0#1 := by
  decide +kernel
theorem last_row : ∀ r : Fin 512, IntOp.cmpi .eq (BitVec.ofNat 32 r.val) 511#32 = if r.val = 511 then 1#1 else 0#1 := by
  decide +kernel
theorem first_blk : ∀ q : Fin 16, Scalar.cmpi .sgt (BitVec.ofNat 32 q.val) 0#32 = if q.val = 0 then 0#1 else 1#1 := by
  decide +kernel
theorem last_blk : ∀ q : Fin 16, Scalar.cmpi .slt (BitVec.ofNat 32 q.val) 15#32 = if q.val = 15 then 0#1 else 1#1 := by
  decide +kernel

theorem sel_one {α : Type} (a b : α) : Scalar.select 1#1 a b = a := rfl
theorem sel_zero {α : Type} (a b : α) : Scalar.select 0#1 a b = b := rfl

theorem sel_first (r : Fin 512) (a b : EReal) :
    Scalar.select (IntOp.cmpi .eq (BitVec.ofNat 32 r.val) 0#32) a b = if r.val = 0 then a else b := by
  rw [first_row]; split <;> rfl
theorem sel_last (r : Fin 512) (a b : EReal) :
    Scalar.select (IntOp.cmpi .eq (BitVec.ofNat 32 r.val) 511#32) a b = if r.val = 511 then a else b := by
  rw [last_row]; split <;> rfl

/-- The row before a block's first, zero before the sequence. -/
abbrev lo (q : Fin 16) (E : FVec Ideal S528x1024 .f32) : FVec Ideal S1x1024 .f32 :=
  Scalar.select (Scalar.cmpi .sgt (BitVec.ofNat 32 q.val) 0#32) (extractStridedSlice S1x1024 ![7, 0] E slices_S528x1024_o7_0_S1x1024)
    (broadcast S1x1024 (Scalar.ofBits .f32 0x00000000#32 : Ideal .f32))
/-- The row after a block's last, zero after the sequence. -/
abbrev hi (q : Fin 16) (E : FVec Ideal S528x1024 .f32) : FVec Ideal S1x1024 .f32 :=
  Scalar.select (Scalar.cmpi .slt (BitVec.ofNat 32 q.val) 15#32) (extractStridedSlice S1x1024 ![520, 0] E slices_S528x1024_o520_0_S1x1024)
    (broadcast S1x1024 (Scalar.ofBits .f32 0x00000000#32 : Ideal .f32))

theorem lo_at (q : Fin 16) (E : FVec Ideal S528x1024 .f32) (n : Fin 1024) :
    lo q E (ix2 0 n) = if q.val = 0 then 0 else E (ix2 7 n) := by
  unfold lo
  by_cases h : q.val = 0
  · rw [first_blk]
    simp only [h, ↓reduceIte, sel_zero]
    pointwise
  · rw [first_blk]
    simp only [h, ↓reduceIte, sel_one]
    pointwise

theorem hi_at (q : Fin 16) (E : FVec Ideal S528x1024 .f32) (n : Fin 1024) :
    hi q E (ix2 0 n) = if q.val = 15 then 0 else E (ix2 520 n) := by
  unfold hi
  by_cases h : q.val = 15
  · rw [last_blk]
    simp only [h, ↓reduceIte, sel_zero]
    pointwise
  · rw [last_blk]
    simp only [h, ↓reduceIte, sel_one]
    pointwise

/-- The short convolution of a block's rows, given with eight rows on either side. -/
def conv (q : ℕ) (E : FVec Ideal S528x1024 .f32) (y : Vec Ideal S3x1024 .f32) (z : Vec Ideal S1x1024 .f32) (r : Fin 512) (n : Fin 1024) : EReal :=
  y (ix2 0 n) * (if r.val = 0 ∧ q = 0 then 0 else E (ix2 ⟨7 + r.val, by omega⟩ n)) + y (ix2 1 n) * E (ix2 ⟨8 + r.val, by omega⟩ n)
    + y (ix2 2 n) * (if r.val = 511 ∧ q = 15 then 0 else E (ix2 ⟨9 + r.val, by omega⟩ n)) + z (ix2 0 n)

theorem part_at (q : Fin 16) (E : FVec Ideal S528x1024 .f32) (y : Vec Ideal S3x1024 .f32) (z : Vec Ideal S1x1024 .f32) (r : Fin 512) (n : Fin 1024) :
    k0_pay14 (iota .tc S512x1024 32 [0] iota_S512x1024_d0_w32) (extractStridedSlice S512x1024 ![8, 0] E slices_S528x1024_o8_0_S512x1024)
      (lo q E) (hi q E) 0#32 y z (ix3 0 r n) = conv q.val E y z r n := by
  have e1 := lo_at q E n
  have e2 := hi_at q E n
  generalize lo q E = a at e1 ⊢
  generalize hi q E = b at e2 ⊢
  pointwise [k0_pay14, k0_pay13]
  rw [sel_first, sel_last, e1, e2]
  unfold conv
  have h1 : (if r.val = 0 then (if q.val = 0 then 0 else E (ix2 7 n)) else E (ix2 ⟨8 + (r.val + 512 - 1) % 512, by omega⟩ n) : EReal)
      = if r.val = 0 ∧ q.val = 0 then 0 else E (ix2 ⟨7 + r.val, by omega⟩ n) := by
    by_cases h : r.val = 0
    · by_cases g : q.val = 0
      · simp only [h, g, and_self, ↓reduceIte]
      · simp only [h, g, and_false, ↓reduceIte]; rfl
    · simp only [h, false_and, ↓reduceIte]
      exact congrArg (fun j => E (ix2 j n)) (Fin.ext (by show 8 + (r.val + 512 - 1) % 512 = 7 + r.val; omega))
  have h2 : (if r.val = 511 then (if q.val = 15 then 0 else E (ix2 520 n)) else E (ix2 ⟨8 + (r.val + 512 - 511) % 512, by omega⟩ n) : EReal)
      = if r.val = 511 ∧ q.val = 15 then 0 else E (ix2 ⟨9 + r.val, by omega⟩ n) := by
    by_cases h : r.val = 511
    · by_cases g : q.val = 15
      · simp only [h, g, and_self, ↓reduceIte]
      · simp only [h, g, and_false, ↓reduceIte]; rfl
    · simp only [h, false_and, ↓reduceIte]
      exact congrArg (fun j => E (ix2 j n)) (Fin.ext (by show 8 + (r.val + 512 - 511) % 512 = 9 + r.val; omega))
  rw [← h1, ← h2]

/-- The product. -/
theorem prod_at (H : FVec Ideal S528x1024 .bf16) (W : Vec Ideal S1024x1024 .bf16) (j : Fin 528) (n : Fin 1024) :
    k0_pay16 H W (ix2 j n) = ∑ k : Fin 1024, H (ix2 j k) * W (ix2 k n) := by
  pointwise [k0_pay16]

/-- The block's rows, modulated. -/
abbrev rows (x0 : Vec Ideal S1x512x1024 .f32) (x1 x2 : Vec Ideal S1x8x1024 .f32) (x3 : Vec Ideal S1x1024 .f32)
    (x4 x5 : Vec Ideal S1x1x1024 .f32) : FVec Ideal S528x1024 .bf16 :=
  k0_pay8 (k0_pay2 x3) (k0_pay3 x4) (k0_pay4 x5) (k0_pay5 x3 x4 x5 x1) (k0_pay6 x0) (k0_pay7 x0) x2

theorem rows_lo (x0 : Vec Ideal S1x512x1024 .f32) (x1 x2 : Vec Ideal S1x8x1024 .f32) (x3 : Vec Ideal S1x1024 .f32)
    (x4 x5 : Vec Ideal S1x1x1024 .f32) (k : Fin 1024) : rows x0 x1 x2 x3 x4 x5 (ix2 7 k)
      = modRow (fun k => x1 (ix3 0 7 k)) (fun k => x3 (ix2 0 k)) (fun k => x4 (ix3 0 0 k)) (fun k => x5 (ix3 0 0 k)) k := by
  pointwise [k0_pay8, k0_pay2, k0_pay3, k0_pay4, k0_pay5, k0_pay6, k0_pay7]
  rfl

theorem rows_mid (x0 : Vec Ideal S1x512x1024 .f32) (x1 x2 : Vec Ideal S1x8x1024 .f32) (x3 : Vec Ideal S1x1024 .f32)
    (x4 x5 : Vec Ideal S1x1x1024 .f32) (j : Fin 512) (k : Fin 1024) : rows x0 x1 x2 x3 x4 x5 (ix2 ⟨8 + j.val, by omega⟩ k)
      = modRow (fun k => x0 (ix3 0 j k)) (fun k => x3 (ix2 0 k)) (fun k => x4 (ix3 0 0 k)) (fun k => x5 (ix3 0 0 k)) k := by
  pointwise [k0_pay8, k0_pay2, k0_pay3, k0_pay4, k0_pay5, k0_pay6, k0_pay7]
  rfl

theorem rows_hi (x0 : Vec Ideal S1x512x1024 .f32) (x1 x2 : Vec Ideal S1x8x1024 .f32) (x3 : Vec Ideal S1x1024 .f32)
    (x4 x5 : Vec Ideal S1x1x1024 .f32) (k : Fin 1024) : rows x0 x1 x2 x3 x4 x5 (ix2 520 k)
      = modRow (fun k => x2 (ix3 0 0 k)) (fun k => x3 (ix2 0 k)) (fun k => x4 (ix3 0 0 k)) (fun k => x5 (ix3 0 0 k)) k := by
  pointwise [k0_pay8, k0_pay2, k0_pay3, k0_pay4, k0_pay5, k0_pay6, k0_pay7]
  rfl

theorem pay29_eq (i : grid0.Coords) (x0 : Vec Ideal S1x512x1024 .f32) (x1 x2 : Vec Ideal S1x8x1024 .f32) (x3 : Vec Ideal S1x1024 .f32)
    (x4 x5 : Vec Ideal S1x1x1024 .f32) (x6 : Vec Ideal S1024x3072 .bf16) (x7 : Vec Ideal S3x3072 .f32) (x8 : Vec Ideal S1x3072 .f32) :
    k0_pay29 i x0 x1 x2 x3 x4 x5 x6 x7 x8 = rows x0 x1 x2 x3 x4 x5 := by
  unfold k0_pay29 k0_pay27 k0_pay26 k0_pay25 k0_pay24 k0_pay23 k0_pay22
  frame_out

/-- A projected row, by its number; zero outside the sequence. -/
def P (X : FVec Ideal S4x8192x1024 .f32) (gain : FVec Ideal S1024 .f32) (sh sc : FVec Ideal S4x1x1024 .f32) (w : FVec Ideal S1024x3072 .f32)
    (b : Fin 4) (t : ℕ) (n : Fin 3072) : EReal :=
  if h : t < 8192 then ∑ k : Fin 1024, modRow (fun k => X (ix3 b ⟨t, h⟩ k)) (fun k => gain (ix1 k)) (fun k => sh (ix3 b 0 k)) (fun k => sc (ix3 b 0 k)) k * w (ix2 k n)
  else 0

/-- The short convolution of the projected rows. -/
def Q (X : FVec Ideal S4x8192x1024 .f32) (gain : FVec Ideal S1024 .f32) (sh sc : FVec Ideal S4x1x1024 .f32) (w : FVec Ideal S1024x3072 .f32)
    (cw : FVec Ideal S3x3072 .f32) (cb : FVec Ideal S3072 .f32) (b : Fin 4) (t : Fin 8192) (n : Fin 3072) : EReal :=
  cw (ix2 0 n) * (if t.val = 0 then 0 else P X gain sh sc w b (t.val - 1) n) + cw (ix2 1 n) * P X gain sh sc w b t.val n
    + cw (ix2 2 n) * P X gain sh sc w b (t.val + 1) n + cb (ix1 n)

variable (m : (ℓ : Loc nD τ sig) → Buf (Elt Ideal) ℓ)

/-- The projected row and the convolution, of the launch memory. -/
def PM (c : Dev nD) (b : Fin 4) (t : ℕ) (n : Fin 3072) : EReal :=
  P (m ((c : Thread nD τ).loc main_arg0)) (m ((c : Thread nD τ).loc main_arg1)) (m ((c : Thread nD τ).loc main_arg2))
      (m ((c : Thread nD τ).loc main_arg3)) (m ((c : Thread nD τ).loc main_arg4)) b t n
def QM (c : Dev nD) (b : Fin 4) (t : Fin 8192) (n : Fin 3072) : EReal :=
  Q (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) b t n

/-- The columns of the three parts. -/
def col0 (n : Fin 1024) : Fin 3072 := ⟨n.val, by omega⟩
def col1 (n : Fin 1024) : Fin 3072 := ⟨1024 + n.val, by omega⟩
def col2 (n : Fin 1024) : Fin 3072 := ⟨2048 + n.val, by omega⟩

/-- The result arrays. -/
def G9 (c : Dev nD) : FVec Ideal S4x8192x1024 .f32 := fun i => QM m c (i 0) (i 1) (col0 (i 2))
def G10 (c : Dev nD) : FVec Ideal S4x8192x1024 .bf16 := fun i => QM m c (i 0) (i 1) (col0 (i 2))
def G11 (c : Dev nD) : FVec Ideal S4x8192x1024 .f32 := fun i => QM m c (i 0) (i 1) (col1 (i 2))
def G12 (c : Dev nD) : FVec Ideal S4x8192x1024 .f32 := fun i => QM m c (i 0) (i 1) (col2 (i 2))

theorem idx : ∀ t : Fin cfg0.N, win0_0.index t = ![t.val / 16, t.val % 16, 0] ∧ win0_1.index t = ![t.val / 16, t.val % 16 * 64 - 1, 0] ∧
    win0_2.index t = ![t.val / 16, min ((t.val % 16 + 1) * 64) 1023, 0] ∧ win0_3.index t = ![0, 0] ∧ win0_4.index t = ![t.val / 16, 0, 0] ∧
    win0_5.index t = ![t.val / 16, 0, 0] ∧ win0_6.index t = ![0, 0] ∧ win0_7.index t = ![0, 0] ∧ win0_8.index t = ![0, 0] ∧
    win0_9.index t = ![t.val / 16, t.val % 16, 0] ∧ win0_10.index t = ![t.val / 16, t.val % 16, 0] ∧
    win0_11.index t = ![t.val / 16, t.val % 16, 0] ∧ win0_12.index t = ![t.val / 16, t.val % 16, 0] ∧ t.val / 16 < 4 :=
  (by decide +kernel : ∀ t : Fin grid0.N, _)

theorem coord : ∀ t : Fin cfg0.N, (grid0.coords t 1).val = t.val % 16 :=
  (by decide +kernel : ∀ t : Fin grid0.N, _)

theorem lt4 (t : Fin cfg0.N) : t.val / 16 < 4 := (idx t).2.2.2.2.2.2.2.2.2.2.2.2.2

/-- The modulated rows of a point's blocks. -/
abbrev pt (c : Dev nD) (t : Fin cfg0.N) : FVec Ideal S528x1024 .bf16 :=
  rows (iblk m c 0 t) (iblk m c 1 t) (iblk m c 2 t) (iblk m c 3 t) (iblk m c 4 t) (iblk m c 5 t)

/-- A row of the launch memory, modulated. -/
def rowM (c : Dev nD) (b : Fin 4) (t : Fin 8192) (k : Fin 1024) : EReal :=
  modRow (fun k => m ((c : Thread nD τ).loc main_arg0) (ix3 b t k)) (fun k => m ((c : Thread nD τ).loc main_arg1) (ix1 k))
    (fun k => m ((c : Thread nD τ).loc main_arg2) (ix3 b 0 k)) (fun k => m ((c : Thread nD τ).loc main_arg3) (ix3 b 0 k)) k

section
variable (c : Dev nD) (t : Fin cfg0.N)

theorem b3 : (fun k => iblk m c 3 t (ix2 0 k)) = fun k => m ((c : Thread nD τ).loc main_arg1) (ix1 k) := by
  funext k; blk_point [iblk, V, idx t]
theorem b4 : (fun k => iblk m c 4 t (ix3 0 0 k)) = fun k => m ((c : Thread nD τ).loc main_arg2) (ix3 ⟨t.val / 16, lt4 t⟩ 0 k) := by
  have hb := lt4 t
  funext k; blk_point [iblk, V, idx t]
theorem b5 : (fun k => iblk m c 5 t (ix3 0 0 k)) = fun k => m ((c : Thread nD τ).loc main_arg3) (ix3 ⟨t.val / 16, lt4 t⟩ 0 k) := by
  have hb := lt4 t
  funext k; blk_point [iblk, V, idx t]

theorem pt_mid (j : Fin 512) (k : Fin 1024) :
    pt m c t (ix2 ⟨8 + j.val, by omega⟩ k) = rowM m c ⟨t.val / 16, lt4 t⟩ ⟨t.val % 16 * 512 + j.val, by omega⟩ k := by
  have hb := lt4 t
  have h0 : (fun k => iblk m c 0 t (ix3 0 j k)) = fun k => m ((c : Thread nD τ).loc main_arg0) (ix3 ⟨t.val / 16, hb⟩ ⟨t.val % 16 * 512 + j.val, by omega⟩ k) := by
    funext k; blk_point [iblk, V, idx t]
  refine (rows_mid _ _ _ _ _ _ j k).trans ?_
  rw [h0, b3, b4, b5]
  rfl

theorem pt_lo (h : t.val % 16 ≠ 0) (k : Fin 1024) :
    pt m c t (ix2 7 k) = rowM m c ⟨t.val / 16, lt4 t⟩ ⟨t.val % 16 * 512 - 1, by omega⟩ k := by
  have hb := lt4 t
  have h0 : (fun k => iblk m c 1 t (ix3 0 7 k)) = fun k => m ((c : Thread nD τ).loc main_arg0) (ix3 ⟨t.val / 16, hb⟩ ⟨(t.val % 16 * 64 - 1) * 8 + 7, by omega⟩ k) := by
    funext k; blk_point [iblk, V, idx t]
  refine (rows_lo _ _ _ _ _ _ k).trans ?_
  rw [h0, b3, b4, b5]
  rw [show (⟨(t.val % 16 * 64 - 1) * 8 + 7, by omega⟩ : Fin 8192) = ⟨t.val % 16 * 512 - 1, by omega⟩ from Fin.ext (by show (t.val % 16 * 64 - 1) * 8 + 7 = t.val % 16 * 512 - 1; omega)]
  rfl

theorem pt_hi (h : t.val % 16 ≠ 15) (k : Fin 1024) :
    pt m c t (ix2 520 k) = rowM m c ⟨t.val / 16, lt4 t⟩ ⟨t.val % 16 * 512 + 512, by omega⟩ k := by
  have hb := lt4 t
  have h0 : (fun k => iblk m c 2 t (ix3 0 0 k)) = fun k => m ((c : Thread nD τ).loc main_arg0) (ix3 ⟨t.val / 16, hb⟩ ⟨min ((t.val % 16 + 1) * 64) 1023 * 8, by omega⟩ k) := by
    funext k; blk_point [iblk, V, idx t]
  refine (rows_hi _ _ _ _ _ _ k).trans ?_
  rw [h0, b3, b4, b5]
  rw [show (⟨min ((t.val % 16 + 1) * 64) 1023 * 8, by omega⟩ : Fin 8192) = ⟨t.val % 16 * 512 + 512, by omega⟩ from Fin.ext (by show min ((t.val % 16 + 1) * 64) 1023 * 8 = t.val % 16 * 512 + 512; omega)]
  rfl

variable (W : Vec Ideal S1024x1024 .bf16) (col : Fin 1024 → Fin 3072)
  (hW : ∀ k n, W (ix2 k n) = m ((c : Thread nD τ).loc main_arg4) (ix2 k (col n)))
include hW

/-- A row of the product of a point's rows, as a row of the whole projection. -/
theorem prod_row (j : Fin 528) (s : ℕ) (hs : s < 8192) (n : Fin 1024)
    (h : ∀ k, pt m c t (ix2 j k) = rowM m c ⟨t.val / 16, lt4 t⟩ ⟨s, hs⟩ k) :
    k0_pay16 (pt m c t) W (ix2 j n) = PM m c ⟨t.val / 16, lt4 t⟩ s (col n) := by
  refine (prod_at _ _ _ _).trans ?_
  refine Eq.trans ?_ (dif_pos hs).symm
  exact Finset.sum_congr rfl fun k _ => congrArg₂ (fun a b : EReal => a * b) (h k) (hW k n)

/-- A point's convolution. -/
theorem point (y : Vec Ideal S3x1024 .f32) (z : Vec Ideal S1x1024 .f32)
    (hy : ∀ a n, y (ix2 a n) = m ((c : Thread nD τ).loc main_arg5) (ix2 a (col n)))
    (hz : ∀ n, z (ix2 0 n) = m ((c : Thread nD τ).loc main_arg6) (ix1 (col n))) (r : Fin 512) (n : Fin 1024) :
    conv (t.val % 16) (k0_pay16 (pt m c t) W) y z r n = QM m c ⟨t.val / 16, lt4 t⟩ ⟨t.val % 16 * 512 + r.val, by omega⟩ (col n) := by
  have hr : r.val < 512 := r.isLt
  have hlo : (if r.val = 0 ∧ t.val % 16 = 0 then 0 else k0_pay16 (pt m c t) W (ix2 ⟨7 + r.val, by omega⟩ n) : EReal)
      = if t.val % 16 * 512 + r.val = 0 then 0 else PM m c ⟨t.val / 16, lt4 t⟩ (t.val % 16 * 512 + r.val - 1) (col n) := by
    by_cases h : t.val % 16 * 512 + r.val = 0
    · exact (if_pos ⟨by omega, by omega⟩).trans (if_pos h).symm
    · refine (if_neg (by omega)).trans (Eq.trans ?_ (if_neg h).symm)
      refine prod_row m c t W col hW _ _ (by omega) n fun k => ?_
      by_cases g : r.val = 0
      · refine (congrArg (fun j => pt m c t (ix2 j k)) (Fin.ext (by show 7 + r.val = 7; omega))).trans ((pt_lo m c t (by omega) k).trans ?_)
        exact congrArg (fun s => rowM m c ⟨t.val / 16, lt4 t⟩ s k) (Fin.ext (by show t.val % 16 * 512 - 1 = t.val % 16 * 512 + r.val - 1; omega))
      · refine (congrArg (fun j => pt m c t (ix2 j k)) (Fin.ext (by show 7 + r.val = 8 + (r.val - 1); omega))).trans ((pt_mid m c t ⟨r.val - 1, by omega⟩ k).trans ?_)
        exact congrArg (fun s => rowM m c ⟨t.val / 16, lt4 t⟩ s k) (Fin.ext (by show t.val % 16 * 512 + (r.val - 1) = t.val % 16 * 512 + r.val - 1; omega))
  have hmid : k0_pay16 (pt m c t) W (ix2 ⟨8 + r.val, by omega⟩ n) = PM m c ⟨t.val / 16, lt4 t⟩ (t.val % 16 * 512 + r.val) (col n) :=
    prod_row m c t W col hW _ _ (by omega) n fun k => pt_mid m c t r k
  have hhi : (if r.val = 511 ∧ t.val % 16 = 15 then 0 else k0_pay16 (pt m c t) W (ix2 ⟨9 + r.val, by omega⟩ n) : EReal)
      = PM m c ⟨t.val / 16, lt4 t⟩ (t.val % 16 * 512 + r.val + 1) (col n) := by
    by_cases h : r.val = 511 ∧ t.val % 16 = 15
    · refine (if_pos h).trans (Eq.symm ?_)
      unfold PM P
      exact dif_neg (show ¬ t.val % 16 * 512 + r.val + 1 < 8192 by omega)
    · refine (if_neg h).trans ?_
      refine prod_row m c t W col hW _ _ (by omega) n fun k => ?_
      by_cases g : r.val = 511
      · refine (congrArg (fun j => pt m c t (ix2 j k)) (Fin.ext (by show 9 + r.val = 520; omega))).trans ((pt_hi m c t (by omega) k).trans ?_)
        exact congrArg (fun s => rowM m c ⟨t.val / 16, lt4 t⟩ s k) (Fin.ext (by show t.val % 16 * 512 + 512 = t.val % 16 * 512 + r.val + 1; omega))
      · refine (congrArg (fun j => pt m c t (ix2 j k)) (Fin.ext (by show 9 + r.val = 8 + (r.val + 1); omega))).trans ((pt_mid m c t ⟨r.val + 1, by omega⟩ k).trans ?_)
        exact congrArg (fun s => rowM m c ⟨t.val / 16, lt4 t⟩ s k) (Fin.ext (by show t.val % 16 * 512 + (r.val + 1) = t.val % 16 * 512 + r.val + 1; omega))
  unfold conv
  rw [hlo, hmid, hhi, hy, hy, hy, hz]
  rfl
end

theorem w0 (c : Dev nD) (t : Fin cfg0.N) (k n : Fin 1024) :
    View.ld (iblk m c 6 t : Vec Ideal S1024x3072 .bf16) r0_4 (ix2 k n) = m ((c : Thread nD τ).loc main_arg4) (ix2 k (col0 n)) := by
  refine (View.ld_unit_apply_of _ _ _ _ _ (ix2 k (col0 n)) (fun a => by fin_cases a <;> simp [col0])).trans ?_
  blk_point [iblk, V, idx t]
theorem y0 (c : Dev nD) (t : Fin cfg0.N) (a : Fin 3) (n : Fin 1024) :
    View.ld (iblk m c 7 t : Vec Ideal S3x3072 .f32) r0_5 (ix2 a n) = m ((c : Thread nD τ).loc main_arg5) (ix2 a (col0 n)) := by
  refine (View.ld_unit_apply_of _ _ _ _ _ (ix2 a (col0 n)) (fun a => by fin_cases a <;> simp [col0])).trans ?_
  blk_point [iblk, V, idx t]
theorem z0 (c : Dev nD) (t : Fin cfg0.N) (n : Fin 1024) :
    View.ld (iblk m c 8 t : Vec Ideal S1x3072 .f32) r0_6 (ix2 0 n) = m ((c : Thread nD τ).loc main_arg6) (ix1 (col0 n)) := by
  refine (View.ld_unit_apply_of _ _ _ _ _ (ix2 0 (col0 n)) (fun a => by fin_cases a <;> simp [col0])).trans ?_
  blk_point [iblk, V, idx t]

theorem w1 (c : Dev nD) (t : Fin cfg0.N) (k n : Fin 1024) :
    View.ld (iblk m c 6 t : Vec Ideal S1024x3072 .bf16) r0_7 (ix2 k n) = m ((c : Thread nD τ).loc main_arg4) (ix2 k (col1 n)) := by
  refine (View.ld_unit_apply_of _ _ _ _ _ (ix2 k (col1 n)) (fun a => by fin_cases a <;> simp [col1])).trans ?_
  blk_point [iblk, V, idx t]
theorem y1 (c : Dev nD) (t : Fin cfg0.N) (a : Fin 3) (n : Fin 1024) :
    View.ld (iblk m c 7 t : Vec Ideal S3x3072 .f32) r0_8 (ix2 a n) = m ((c : Thread nD τ).loc main_arg5) (ix2 a (col1 n)) := by
  refine (View.ld_unit_apply_of _ _ _ _ _ (ix2 a (col1 n)) (fun a => by fin_cases a <;> simp [col1])).trans ?_
  blk_point [iblk, V, idx t]
theorem z1 (c : Dev nD) (t : Fin cfg0.N) (n : Fin 1024) :
    View.ld (iblk m c 8 t : Vec Ideal S1x3072 .f32) r0_9 (ix2 0 n) = m ((c : Thread nD τ).loc main_arg6) (ix1 (col1 n)) := by
  refine (View.ld_unit_apply_of _ _ _ _ _ (ix2 0 (col1 n)) (fun a => by fin_cases a <;> simp [col1])).trans ?_
  blk_point [iblk, V, idx t]

theorem w2 (c : Dev nD) (t : Fin cfg0.N) (k n : Fin 1024) :
    View.ld (iblk m c 6 t : Vec Ideal S1024x3072 .bf16) r0_10 (ix2 k n) = m ((c : Thread nD τ).loc main_arg4) (ix2 k (col2 n)) := by
  refine (View.ld_unit_apply_of _ _ _ _ _ (ix2 k (col2 n)) (fun a => by fin_cases a <;> simp [col2])).trans ?_
  blk_point [iblk, V, idx t]
theorem y2 (c : Dev nD) (t : Fin cfg0.N) (a : Fin 3) (n : Fin 1024) :
    View.ld (iblk m c 7 t : Vec Ideal S3x3072 .f32) r0_11 (ix2 a n) = m ((c : Thread nD τ).loc main_arg5) (ix2 a (col2 n)) := by
  refine (View.ld_unit_apply_of _ _ _ _ _ (ix2 a (col2 n)) (fun a => by fin_cases a <;> simp [col2])).trans ?_
  blk_point [iblk, V, idx t]
theorem z2 (c : Dev nD) (t : Fin cfg0.N) (n : Fin 1024) :
    View.ld (iblk m c 8 t : Vec Ideal S1x3072 .f32) r0_12 (ix2 0 n) = m ((c : Thread nD τ).loc main_arg6) (ix1 (col2 n)) := by
  refine (View.ld_unit_apply_of _ _ _ _ _ (ix2 0 (col2 n)) (fun a => by fin_cases a <;> simp [col2])).trans ?_
  blk_point [iblk, V, idx t]

theorem final9 (c : Dev nD) : (dats m 0 c).arrAt 9 (cfgs 0).N = G9 m c := by
  refine (dats m 0 c).arrAt_eq_of_covers 9 _ (by decide +kernel) fun t _ x => ?_
  blk_simp
  rw [after0_9]; frame_out
  have hx : x = ix3 0 (x 1) (x 2) := by blk_ext []
  generalize x 1 = r at hx
  generalize x 2 = l at hx
  rw [hx]
  have hl : l.val < 1024 := l.isLt
  have hr : r.val < 512 := r.isLt
  have hb := lt4 t
  refine Eq.trans (part_at (grid0.coords t 1) (k0_pay16 (k0_pay29 (grid0.coords t) (iblk m c 0 t) (iblk m c 1 t) (iblk m c 2 t) (iblk m c 3 t) (iblk m c 4 t) (iblk m c 5 t) (iblk m c 6 t) (iblk m c 7 t) (iblk m c 8 t)) (View.ld (iblk m c 6 t) r0_4))
    (View.ld (iblk m c 7 t) r0_5) (View.ld (iblk m c 8 t) r0_6) r l) ?_
  rw [coord t, pay29_eq]
  refine (point m c t _ col0 (w0 m c t) _ _ (y0 m c t) (z0 m c t) r l).trans ?_
  refine Eq.trans (b := G9 m c (ix3 ⟨t.val / 16, hb⟩ ⟨t.val % 16 * 512 + r.val, by omega⟩ l)) rfl (congrArg (G9 m c) ?_)
  blk_ext [idx t]

theorem final10 (c : Dev nD) : (dats m 0 c).arrAt 10 (cfgs 0).N = G10 m c := by
  refine (dats m 0 c).arrAt_eq_of_covers 10 _ (by decide +kernel) fun t _ x => ?_
  blk_simp
  rw [after0_10]; frame_out
  have hx : x = ix3 0 (x 1) (x 2) := by blk_ext []
  generalize x 1 = r at hx
  generalize x 2 = l at hx
  rw [hx]
  have hl : l.val < 1024 := l.isLt
  have hr : r.val < 512 := r.isLt
  have hb := lt4 t
  refine Eq.trans (part_at (grid0.coords t 1) (k0_pay16 (k0_pay29 (grid0.coords t) (iblk m c 0 t) (iblk m c 1 t) (iblk m c 2 t) (iblk m c 3 t) (iblk m c 4 t) (iblk m c 5 t) (iblk m c 6 t) (iblk m c 7 t) (iblk m c 8 t)) (View.ld (iblk m c 6 t) r0_4))
    (View.ld (iblk m c 7 t) r0_5) (View.ld (iblk m c 8 t) r0_6) r l) ?_
  rw [coord t, pay29_eq]
  refine (point m c t _ col0 (w0 m c t) _ _ (y0 m c t) (z0 m c t) r l).trans ?_
  refine Eq.trans (b := G10 m c (ix3 ⟨t.val / 16, hb⟩ ⟨t.val % 16 * 512 + r.val, by omega⟩ l)) rfl (congrArg (G10 m c) ?_)
  blk_ext [idx t]

theorem final11 (c : Dev nD) : (dats m 0 c).arrAt 11 (cfgs 0).N = G11 m c := by
  refine (dats m 0 c).arrAt_eq_of_covers 11 _ (by decide +kernel) fun t _ x => ?_
  blk_simp
  rw [after0_11]; frame_out
  have hx : x = ix3 0 (x 1) (x 2) := by blk_ext []
  generalize x 1 = r at hx
  generalize x 2 = l at hx
  rw [hx]
  have hl : l.val < 1024 := l.isLt
  have hr : r.val < 512 := r.isLt
  have hb := lt4 t
  refine Eq.trans (part_at (grid0.coords t 1) (k0_pay16 (k0_pay29 (grid0.coords t) (iblk m c 0 t) (iblk m c 1 t) (iblk m c 2 t) (iblk m c 3 t) (iblk m c 4 t) (iblk m c 5 t) (iblk m c 6 t) (iblk m c 7 t) (iblk m c 8 t)) (View.ld (iblk m c 6 t) r0_7))
    (View.ld (iblk m c 7 t) r0_8) (View.ld (iblk m c 8 t) r0_9) r l) ?_
  rw [coord t, pay29_eq]
  refine (point m c t _ col1 (w1 m c t) _ _ (y1 m c t) (z1 m c t) r l).trans ?_
  refine Eq.trans (b := G11 m c (ix3 ⟨t.val / 16, hb⟩ ⟨t.val % 16 * 512 + r.val, by omega⟩ l)) rfl (congrArg (G11 m c) ?_)
  blk_ext [idx t]

theorem final12 (c : Dev nD) : (dats m 0 c).arrAt 12 (cfgs 0).N = G12 m c := by
  refine (dats m 0 c).arrAt_eq_of_covers 12 _ (by decide +kernel) fun t _ x => ?_
  blk_simp
  rw [after0_12]; frame_out
  have hx : x = ix3 0 (x 1) (x 2) := by blk_ext []
  generalize x 1 = r at hx
  generalize x 2 = l at hx
  rw [hx]
  have hl : l.val < 1024 := l.isLt
  have hr : r.val < 512 := r.isLt
  have hb := lt4 t
  refine Eq.trans (part_at (grid0.coords t 1) (k0_pay16 (k0_pay29 (grid0.coords t) (iblk m c 0 t) (iblk m c 1 t) (iblk m c 2 t) (iblk m c 3 t) (iblk m c 4 t) (iblk m c 5 t) (iblk m c 6 t) (iblk m c 7 t) (iblk m c 8 t)) (View.ld (iblk m c 6 t) r0_10))
    (View.ld (iblk m c 7 t) r0_11) (View.ld (iblk m c 8 t) r0_12) r l) ?_
  rw [coord t, pay29_eq]
  refine (point m c t _ col2 (w2 m c t) _ _ (y2 m c t) (z2 m c t) r l).trans ?_
  refine Eq.trans (b := G12 m c (ix3 ⟨t.val / 16, hb⟩ ⟨t.val % 16 * 512 + r.val, by omega⟩ l)) rfl (congrArg (G12 m c) ?_)
  blk_ext [idx t]

end Cert.HyInIdeal.Value
-- ==== Proof.HyInRefValue.lean ====
module

public import proofs.«01_k».proof.Proof.HyInValue

/- The reference of the convolution mixer's first projection, at an index. -/
@[expose] public section
set_option maxRecDepth 16384
noncomputable section
open Idealize.ShloMosaic Idealize.ShloMosaic.TcCoe Idealize.SL.Sem
namespace Cert.HyInRefIdeal.Value
open Cert.HyInRefIdeal
open Cert.FfnIdeal.Value (scaleOf modRow)
variable (m : (ℓ : Loc nD τ sig) → Buf (Elt Ideal) ℓ)

/-- The padding word's value. -/
theorem zero_word : (FloatOps.sitofp .f32 (0#32 : BitVec 32) : Ideal .f32) = 0 := by
  show ((((0#32 : BitVec 32).toInt : ℤ) : ℝ) : EReal) = 0
  simp

section
variable (X : FVec Ideal S4x8192x1024 .f32) (gain : FVec Ideal S1024 .f32) (sh sc : FVec Ideal S4x1x1024 .f32) (w : FVec Ideal S1024x3072 .f32)
  (cw : FVec Ideal S3x3072 .f32) (cb : FVec Ideal S3072 .f32) (b : Fin 4) (r : Fin 8192) (n : Fin 3072)

/-- A projected row. -/
def row (t : Fin 8192) : EReal :=
  ∑ k : Fin 1024, modRow (fun k => X (ix3 b t k)) (fun k => gain (ix1 k)) (fun k => sh (ix3 b 0 k)) (fun k => sc (ix3 b 0 k)) k * w (ix2 k n)

theorem P_row (t : ℕ) (h : t < 8192) : HyInIdeal.Value.P X gain sh sc w b t n = row X gain sh sc w b n ⟨t, h⟩ := by
  unfold HyInIdeal.Value.P
  simp only [h, ↓reduceDIte]
  rfl

/-- The convolution with its ends tested as the padding tests them. -/
theorem of_pads (d : ℕ) (hd : d < 3072) :
    cw (ix2 0 n) * (if h : (1 ≤ r.val ∧ r.val - 1 < 8191) ∧ d < 3072 then row X gain sh sc w b n ⟨r.val - 1, by omega⟩ else 0)
      + cw (ix2 1 n) * row X gain sh sc w b n r
      + cw (ix2 2 n) * (if h : r.val < 8191 ∧ d < 3072 then row X gain sh sc w b n ⟨1 + r.val, by omega⟩ else 0) + cb (ix1 n)
    = HyInIdeal.Value.Q X gain sh sc w cw cb b r n := by
  have hr : r.val < 8192 := r.isLt
  unfold HyInIdeal.Value.Q
  have h1 : (if h : (1 ≤ r.val ∧ r.val - 1 < 8191) ∧ d < 3072 then row X gain sh sc w b n ⟨r.val - 1, by omega⟩ else 0)
      = if r.val = 0 then 0 else HyInIdeal.Value.P X gain sh sc w b (r.val - 1) n := by
    by_cases g : r.val = 0
    · exact (dif_neg (fun e => by have := e.1.1; omega)).trans (if_pos g).symm
    · refine (dif_pos ⟨⟨by omega, by omega⟩, hd⟩).trans (Eq.trans ?_ (if_neg g).symm)
      exact (P_row X gain sh sc w b n _ (by omega)).symm
  have h2 : row X gain sh sc w b n r = HyInIdeal.Value.P X gain sh sc w b r.val n := (P_row X gain sh sc w b n _ hr).symm
  have h3 : (if h : r.val < 8191 ∧ d < 3072 then row X gain sh sc w b n ⟨1 + r.val, by omega⟩ else 0)
      = HyInIdeal.Value.P X gain sh sc w b (r.val + 1) n := by
    by_cases g : r.val < 8191
    · refine (dif_pos ⟨g, hd⟩).trans (Eq.trans ?_ (P_row X gain sh sc w b n (r.val + 1) (by omega)).symm)
      exact congrArg (row X gain sh sc w b n) (Fin.ext (by show 1 + r.val = r.val + 1; omega))
    · refine (dif_neg (fun e => g e.1)).trans (Eq.symm ?_)
      unfold HyInIdeal.Value.P
      exact dif_neg (show ¬ r.val + 1 < 8192 by omega)
  rw [h1, h2, h3]
end

theorem ref9 (c : Dev nD) (b : Fin 4) (r : Fin 8192) (n : Fin 1024) : res_out0 m c (ix3 b r n)
    = HyInIdeal.Value.Q (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b r (HyInIdeal.Value.col0 n) := by
  refine Eq.trans ?_ (of_pads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b r (HyInIdeal.Value.col0 n) (n.val) (by omega))
  unfold res_out0 res_main_v44
  pointwise
  simp only [zero_word]
  rfl

theorem ref10 (c : Dev nD) (b : Fin 4) (r : Fin 8192) (n : Fin 1024) : res_out1 m c (ix3 b r n)
    = HyInIdeal.Value.Q (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b r (HyInIdeal.Value.col0 n) := by
  refine Eq.trans ?_ (of_pads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b r (HyInIdeal.Value.col0 n) (n.val) (by omega))
  unfold res_out1 res_main_v47
  pointwise
  simp only [zero_word]
  rfl

theorem ref11 (c : Dev nD) (b : Fin 4) (r : Fin 8192) (n : Fin 1024) : res_out2 m c (ix3 b r n)
    = HyInIdeal.Value.Q (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b r (HyInIdeal.Value.col1 n) := by
  refine Eq.trans ?_ (of_pads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b r (HyInIdeal.Value.col1 n) (1024 + n.val) (by omega))
  unfold res_out2 res_main_v45
  pointwise
  simp only [zero_word]
  rfl

theorem ref12 (c : Dev nD) (b : Fin 4) (r : Fin 8192) (n : Fin 1024) : res_out3 m c (ix3 b r n)
    = HyInIdeal.Value.Q (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b r (HyInIdeal.Value.col2 n) := by
  refine Eq.trans ?_ (of_pads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b r (HyInIdeal.Value.col2 n) (2048 + n.val) (by omega))
  unfold res_out3 res_main_v46
  pointwise
  simp only [zero_word]
  rfl

end Cert.HyInRefIdeal.Value
-- ==== Proof.HyInClaim.lean ====
/- The claims of the convolution mixer's first projection. -/
module

public import proofs.«01_k».proof.Defs
public import proofs.«01_k».proof.Proof.Gen.HyIn.Frame
public import proofs.«01_k».proof.Proof.HyInValue
public import proofs.«01_k».proof.Proof.HyInRefValue

@[expose] public section
noncomputable section
namespace Cert.Proof
open Idealize.ShloMosaic Idealize.ShloMosaic.TcCoe Idealize.SL.Sem

theorem frame_HyIn : quiescent_HyIn (hHyIn := Cert.HyIn.Gen.facts) := fun m ρ _ => Cert.HyIn.Gen.frame m ρ
theorem frame_HyInIdeal : quiescent_HyInIdeal (hHyInIdeal := Cert.HyInIdeal.Gen.facts) := fun m ρ _ => Cert.HyInIdeal.Gen.frame m ρ
/-- The reference declares no semaphore. -/
theorem frame_HyInRefIdeal : quiescent_HyInRefIdeal (hHyInRefIdeal := Cert.HyInRefIdeal.Gen.facts) := fun m ρ _ =>
  (θ_run _ _ _).mono (fun _ h => ⟨fun c => (h c).2.2.2.2, funext nofun⟩) (Cert.HyInRefIdeal.Value.run m ρ)

theorem value_HyIn : algebraic_HyInIdeal_HyInRefIdeal (hHyInIdeal := Cert.HyInIdeal.Gen.facts)
    (hHyInRefIdeal := Cert.HyInRefIdeal.Gen.facts) := fun m ρ m' ρ' _ hag =>
  ⟨fun c => Cert.HyInIdeal.Value.G9 m c, fun c => Cert.HyInIdeal.Value.G10 m c, fun c => Cert.HyInIdeal.Value.G11 m c, fun c => Cert.HyInIdeal.Value.G12 m c,
    (θ_run _ _ _).mono (fun _ h c => ⟨(h c).1.trans (Cert.HyInIdeal.Value.final9 m c), (h c).2.1.trans (Cert.HyInIdeal.Value.final10 m c),
        (h c).2.2.1.trans (Cert.HyInIdeal.Value.final11 m c), (h c).2.2.2.1.trans (Cert.HyInIdeal.Value.final12 m c), (h c).2.2.2.2⟩)
      (Cert.HyInIdeal.Value.run_blocks m ρ),
    (θ_run _ _ _).mono (fun _ h c => ⟨(h c).1.trans (funext fun i => by
          idx_vars i
          refine (Cert.HyInRefIdeal.Value.ref9 m' c i0 i1 i2).trans ?_
          rw [(hag c).1, (hag c).2.1, (hag c).2.2.1, (hag c).2.2.2.1, (hag c).2.2.2.2.1, (hag c).2.2.2.2.2.1, (hag c).2.2.2.2.2.2]
          rfl),
        (h c).2.1.trans (funext fun i => by
          idx_vars i
          refine (Cert.HyInRefIdeal.Value.ref10 m' c i0 i1 i2).trans ?_
          rw [(hag c).1, (hag c).2.1, (hag c).2.2.1, (hag c).2.2.2.1, (hag c).2.2.2.2.1, (hag c).2.2.2.2.2.1, (hag c).2.2.2.2.2.2]
          rfl),
        (h c).2.2.1.trans (funext fun i => by
          idx_vars i
          refine (Cert.HyInRefIdeal.Value.ref11 m' c i0 i1 i2).trans ?_
          rw [(hag c).1, (hag c).2.1, (hag c).2.2.1, (hag c).2.2.2.1, (hag c).2.2.2.2.1, (hag c).2.2.2.2.2.1, (hag c).2.2.2.2.2.2]
          rfl),
        (h c).2.2.2.1.trans (funext fun i => by
          idx_vars i
          refine (Cert.HyInRefIdeal.Value.ref12 m' c i0 i1 i2).trans ?_
          rw [(hag c).1, (hag c).2.1, (hag c).2.2.1, (hag c).2.2.2.1, (hag c).2.2.2.2.1, (hag c).2.2.2.2.2.1, (hag c).2.2.2.2.2.2]
          rfl), (h c).2.2.2.2⟩) (Cert.HyInRefIdeal.Value.run m' ρ')⟩

end Cert.Proof
-- ==== Proof.HyOutValue.lean ====
module

public import proofs.«01_k».proof.Proof.FfnValue
public import proofs.«01_k».proof.Proof.Gen.HyOutIdeal.Value
public import proofs.«01_k».proof.Proof.Gen.HyOutRefIdeal.Run

/- The convolution mixer's last gate and output projection. -/
@[expose] public section
set_option maxRecDepth 16384
noncomputable section
open Idealize.ShloMosaic Idealize.ShloMosaic.TcCoe Idealize.SL.Sem
open Idealize.ShloMosaic.Pipeline (Dat)
namespace Cert.HyOutIdeal.Value
open Cert.HyOutIdeal Cert.HyOutIdeal.Gen

/-- The convolution's rows put one after the other. -/
theorem cat_at (x1 : Vec Ideal S1x128x8x1024 .f32) (r : Fin 1024) (n : Fin 1024) :
    k0_pay3 (View.ld x1 r0_1) (View.ld x1 r0_2) (View.ld x1 r0_3) (View.ld x1 r0_4) (View.ld x1 r0_5) (View.ld x1 r0_6) (View.ld x1 r0_7)
      (View.ld x1 r0_8) (ix2 r n) = x1 (ix4 0 ⟨r.val % 128, by omega⟩ ⟨r.val / 128, by omega⟩ n) := by
  have w0 : ∀ (s : Fin 128) (j : Fin 1024), View.ld x1 r0_1 (ix4 0 s 0 j) = x1 (ix4 0 s 0 j) := by
    intro s j; exact View.ld_unit_apply_of _ _ _ _ _ _ (fun a => by fin_cases a <;> simp)
  have w1 : ∀ (s : Fin 128) (j : Fin 1024), View.ld x1 r0_2 (ix4 0 s 0 j) = x1 (ix4 0 s 1 j) := by
    intro s j; exact View.ld_unit_apply_of _ _ _ _ _ _ (fun a => by fin_cases a <;> simp)
  have w2 : ∀ (s : Fin 128) (j : Fin 1024), View.ld x1 r0_3 (ix4 0 s 0 j) = x1 (ix4 0 s 2 j) := by
    intro s j; exact View.ld_unit_apply_of _ _ _ _ _ _ (fun a => by fin_cases a <;> simp)
  have w3 : ∀ (s : Fin 128) (j : Fin 1024), View.ld x1 r0_4 (ix4 0 s 0 j) = x1 (ix4 0 s 3 j) := by
    intro s j; exact View.ld_unit_apply_of _ _ _ _ _ _ (fun a => by fin_cases a <;> simp)
  have w4 : ∀ (s : Fin 128) (j : Fin 1024), View.ld x1 r0_5 (ix4 0 s 0 j) = x1 (ix4 0 s 4 j) := by
    intro s j; exact View.ld_unit_apply_of _ _ _ _ _ _ (fun a => by fin_cases a <;> simp)
  have w5 : ∀ (s : Fin 128) (j : Fin 1024), View.ld x1 r0_6 (ix4 0 s 0 j) = x1 (ix4 0 s 5 j) := by
    intro s j; exact View.ld_unit_apply_of _ _ _ _ _ _ (fun a => by fin_cases a <;> simp)
  have w6 : ∀ (s : Fin 128) (j : Fin 1024), View.ld x1 r0_7 (ix4 0 s 0 j) = x1 (ix4 0 s 6 j) := by
    intro s j; exact View.ld_unit_apply_of _ _ _ _ _ _ (fun a => by fin_cases a <;> simp)
  have w7 : ∀ (s : Fin 128) (j : Fin 1024), View.ld x1 r0_8 (ix4 0 s 0 j) = x1 (ix4 0 s 7 j) := by
    intro s j; exact View.ld_unit_apply_of _ _ _ _ _ _ (fun a => by fin_cases a <;> simp)
  generalize View.ld x1 r0_1 = a0 at w0 ⊢
  generalize View.ld x1 r0_2 = a1 at w1 ⊢
  generalize View.ld x1 r0_3 = a2 at w2 ⊢
  generalize View.ld x1 r0_4 = a3 at w3 ⊢
  generalize View.ld x1 r0_5 = a4 at w4 ⊢
  generalize View.ld x1 r0_6 = a5 at w5 ⊢
  generalize View.ld x1 r0_7 = a6 at w6 ⊢
  generalize View.ld x1 r0_8 = a7 at w7 ⊢
  pointwise [k0_pay3]
  simp only [w0, w1, w2, w3, w4, w5, w6, w7]
  have e : ∀ (s : Fin 128) (k : Fin 8), s.val = r.val % 128 → k.val = r.val / 128 →
      x1 (ix4 0 s k n) = x1 (ix4 0 ⟨r.val % 128, by omega⟩ ⟨r.val / 128, by omega⟩ n) :=
    fun s k hs hk => congrArg₂ (fun s k => x1 (ix4 0 s k n)) (Fin.ext hs) (Fin.ext hk)
  have hr : r.val < 1024 := r.isLt
  split_ifs <;> exact e _ _ (by dsimp only; omega) (by dsimp; omega)

/-- Those rows, named. -/
abbrev x1cat (x1 : Vec Ideal S1x128x8x1024 .f32) : FVec Ideal S1024x1024 .f32 :=
  k0_pay3 (View.ld x1 r0_1) (View.ld x1 r0_2) (View.ld x1 r0_3) (View.ld x1 r0_4) (View.ld x1 r0_5) (View.ld x1 r0_6) (View.ld x1 r0_7)
    (View.ld x1 r0_8)

/-- A point's result, of its blocks. -/
theorem pay1_at (g z x : Vec Ideal S1x1024x1024 .f32) (C : FVec Ideal S1024x1024 .f32) (b : Vec Ideal S1x1024 .f32) (w : Vec Ideal S1024x1024 .bf16)
    (m5 : Vec Ideal S1x1x1024 .f32) (r n : Fin 1024) :
    k0_pay1 (k0_pay2 g) C (k0_pay4 b) z x m5 w (ix3 0 r n)
      = x (ix3 0 r n) + m5 (ix3 0 0 n) * ∑ k : Fin 1024, g (ix3 0 r k) * (C (ix2 r k) + b (ix2 0 k) * z (ix3 0 r k)) * w (ix2 k n) := by
  pointwise [k0_pay1, k0_pay2, k0_pay4]

/-- The whole result, of the arguments. -/
def G (X : FVec Ideal S4x8192x1024 .f32) (C : FVec Ideal S4x128x64x1024 .f32) (z g : FVec Ideal S4x8192x1024 .f32) (b : FVec Ideal S1024 .f32)
    (w : FVec Ideal S1024x1024 .f32) (m5 : FVec Ideal S4x1x1024 .f32) (d : Fin 4) (t : Fin 8192) (n : Fin 1024) : EReal :=
  X (ix3 d t n) + m5 (ix3 d 0 n) * ∑ k : Fin 1024,
    g (ix3 d t k) * (C (ix4 d ⟨t.val % 128, by omega⟩ ⟨t.val / 128, by omega⟩ k) + b (ix1 k) * z (ix3 d t k)) * w (ix2 k n)

variable (m : (ℓ : Loc nD τ sig) → Buf (Elt Ideal) ℓ)

/-- The result array, of the launch memory. -/
def G7 (c : Dev nD) : FVec Ideal S4x8192x1024 .f32 := fun i =>
  G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (i 0) (i 1) (i 2)

theorem idx : ∀ t : Fin cfg0.N, win0_0.index t = ![t.val / 8, t.val % 8, 0] ∧ win0_1.index t = ![t.val / 8, 0, t.val % 8, 0] ∧
    win0_2.index t = ![t.val / 8, t.val % 8, 0] ∧ win0_3.index t = ![t.val / 8, t.val % 8, 0] ∧ win0_4.index t = ![0, 0] ∧
    win0_5.index t = ![0, 0] ∧ win0_6.index t = ![t.val / 8, 0, 0] ∧ win0_7.index t = ![t.val / 8, t.val % 8, 0] ∧ t.val / 8 < 4 :=
  (by decide +kernel : ∀ t : Fin grid0.N, _)

theorem lt4 (t : Fin cfg0.N) : t.val / 8 < 4 := (idx t).2.2.2.2.2.2.2.2

section
variable (c : Dev nD) (t : Fin cfg0.N) (r n : Fin 1024)
theorem b0 : iblk m c 0 t (ix3 0 r n) = m ((c : Thread nD τ).loc main_arg0) (ix3 ⟨t.val / 8, lt4 t⟩ ⟨t.val % 8 * 1024 + r.val, by omega⟩ n) := by
  have hb := lt4 t
  blk_point [iblk, V, idx t]
theorem b1 (s : Fin 128) (k : Fin 8) : iblk m c 1 t (ix4 0 s k n)
    = m ((c : Thread nD τ).loc main_arg1) (ix4 ⟨t.val / 8, lt4 t⟩ s ⟨t.val % 8 * 8 + k.val, by omega⟩ n) := by
  have hb := lt4 t
  blk_point [iblk, V, idx t]
theorem b2 : iblk m c 2 t (ix3 0 r n) = m ((c : Thread nD τ).loc main_arg2) (ix3 ⟨t.val / 8, lt4 t⟩ ⟨t.val % 8 * 1024 + r.val, by omega⟩ n) := by
  have hb := lt4 t
  blk_point [iblk, V, idx t]
theorem b3 : iblk m c 3 t (ix3 0 r n) = m ((c : Thread nD τ).loc main_arg3) (ix3 ⟨t.val / 8, lt4 t⟩ ⟨t.val % 8 * 1024 + r.val, by omega⟩ n) := by
  have hb := lt4 t
  blk_point [iblk, V, idx t]
theorem b4 : iblk m c 4 t (ix2 0 n) = m ((c : Thread nD τ).loc main_arg4) (ix1 n) := by blk_point [iblk, V, idx t]
theorem b5 : iblk m c 5 t (ix2 r n) = m ((c : Thread nD τ).loc main_arg5) (ix2 r n) := by blk_point [iblk, V, idx t]
theorem b6 : iblk m c 6 t (ix3 0 0 n) = m ((c : Thread nD τ).loc main_arg6) (ix3 ⟨t.val / 8, lt4 t⟩ 0 n) := by
  have hb := lt4 t
  blk_point [iblk, V, idx t]

/-- A point's convolution rows, of the launch memory. -/
theorem cat_blk : x1cat (iblk m c 1 t) (ix2 r n) = m ((c : Thread nD τ).loc main_arg1)
    (ix4 ⟨t.val / 8, lt4 t⟩ ⟨(t.val % 8 * 1024 + r.val) % 128, by omega⟩ ⟨(t.val % 8 * 1024 + r.val) / 128, by omega⟩ n) := by
  have hb := lt4 t
  refine (cat_at _ r n).trans ((b1 m c t n _ _).trans ?_)
  rw [show (⟨r.val % 128, by omega⟩ : Fin 128) = ⟨(t.val % 8 * 1024 + r.val) % 128, by omega⟩ from Fin.ext (by show r.val % 128 = (t.val % 8 * 1024 + r.val) % 128; omega),
    show (⟨t.val % 8 * 8 + r.val / 128, by omega⟩ : Fin 64) = ⟨(t.val % 8 * 1024 + r.val) / 128, by omega⟩ from Fin.ext (by show t.val % 8 * 8 + r.val / 128 = (t.val % 8 * 1024 + r.val) / 128; omega)]
end

theorem final7 (c : Dev nD) : (dats m 0 c).arrAt 7 (cfgs 0).N = G7 m c := by
  refine (dats m 0 c).arrAt_eq_of_covers 7 _ (by decide +kernel) fun t _ x => ?_
  blk_simp
  rw [after0_7]; frame_out
  have hx : x = ix3 0 (x 1) (x 2) := by blk_ext []
  generalize x 1 = r at hx
  generalize x 2 = l at hx
  rw [hx]
  have hl : l.val < 1024 := l.isLt
  have hr : r.val < 1024 := r.isLt
  have hb := lt4 t
  refine (pay1_at _ _ _ _ _ _ _ r l).trans ?_
  refine Eq.trans (b := G7 m c (ix3 ⟨t.val / 8, hb⟩ ⟨t.val % 8 * 1024 + r.val, by omega⟩ l)) ?_ (congrArg (G7 m c) ?_)
  · refine congrArg₂ (fun a b : EReal => a + b) (b0 m c t r l) (congrArg₂ (fun a b : EReal => a * b) (b6 m c t l) (Finset.sum_congr rfl fun k _ => ?_))
    exact congrArg₂ (fun a b : EReal => a * b) (congrArg₂ (fun a b : EReal => a * b) (b3 m c t r k)
      (congrArg₂ (fun a b : EReal => a + b) (cat_blk m c t r k) (congrArg₂ (fun a b : EReal => a * b) (b4 m c t k) (b2 m c t r k)))) (b5 m c t k l)
  · blk_ext [idx t]

end Cert.HyOutIdeal.Value
-- ==== Proof.HyOutClaim.lean ====
/- The claims of the convolution mixer's last gate and output projection. -/
module

public import proofs.«01_k».proof.Defs
public import proofs.«01_k».proof.Proof.Gen.HyOut.Frame
public import proofs.«01_k».proof.Proof.HyOutValue

@[expose] public section
noncomputable section
namespace Cert.Proof
open Idealize.ShloMosaic Idealize.ShloMosaic.TcCoe Idealize.SL.Sem

theorem frame_HyOut : quiescent_HyOut (hHyOut := Cert.HyOut.Gen.facts) := fun m ρ _ => Cert.HyOut.Gen.frame m ρ
theorem frame_HyOutIdeal : quiescent_HyOutIdeal (hHyOutIdeal := Cert.HyOutIdeal.Gen.facts) := fun m ρ _ => Cert.HyOutIdeal.Gen.frame m ρ
/-- The reference declares no semaphore. -/
theorem frame_HyOutRefIdeal : quiescent_HyOutRefIdeal (hHyOutRefIdeal := Cert.HyOutRefIdeal.Gen.facts) := fun m ρ _ =>
  (θ_run _ _ _).mono (fun _ h => ⟨fun c => (h c).2, funext nofun⟩) (Cert.HyOutRefIdeal.Value.run m ρ)

theorem value_HyOut : algebraic_HyOutIdeal_HyOutRefIdeal (hHyOutIdeal := Cert.HyOutIdeal.Gen.facts)
    (hHyOutRefIdeal := Cert.HyOutRefIdeal.Gen.facts) := fun m ρ m' ρ' _ hag =>
  ⟨fun c => Cert.HyOutIdeal.Value.G7 m c,
    (θ_run _ _ _).mono (fun _ h c => ⟨(h c).1.trans (Cert.HyOutIdeal.Value.final7 m c), (h c).2⟩) (Cert.HyOutIdeal.Value.run_blocks m ρ),
    (θ_run _ _ _).mono (fun _ h c => ⟨(h c).1.trans (funext fun i => by
        rw [(hag c).1, (hag c).2.1, (hag c).2.2.1, (hag c).2.2.2.1, (hag c).2.2.2.2.1, (hag c).2.2.2.2.2.1, (hag c).2.2.2.2.2.2]
        idx_vars i
        pointwise
        rfl), (h c).2⟩) (Cert.HyOutRefIdeal.Value.run m' ρ')⟩

end Cert.Proof
-- ==== Proof.ScanIdealStep.lean ====
module

public import proofs.«01_k».proof.Proof.Gen.ScanIdeal.Frame
public import proofs.«01_k».proof.Proof.Gen.ScanIdeal.Skeleton
public import Idealize.ShloMosaic.Lib.Pipeline.ValueKit
public import Idealize.ShloMosaic.Lib.WritesUnit

@[expose] public section

set_option maxRecDepth 16384

noncomputable section

namespace Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The column half a lane further on (the imaginary part beside a real one). -/
def up (c : Fin 4096) : Fin 4096 := ⟨(c.val + 512) % 4096, Nat.mod_lt _ (by decide)⟩
/-- The column half a lane back (the real part beside an imaginary one). -/
def dn (c : Fin 4096) : Fin 4096 := ⟨c.val - 512, by have := c.isLt; omega⟩

/-- One time step of the recurrence on the whole state: the state times its factor plus the driving row. -/
def next (a : Vec F S1x8x4096 .f32) (b H : Vec F S8x4096 .f32) : Vec F S8x4096 .f32 := fun j =>
  if (j 1).val % 1024 < 512 then
    FloatOps.addf (FloatOps.subf (FloatOps.mulf (a (ix3 0 (j 0) (j 1))) (H j))
      (FloatOps.mulf (a (ix3 0 (j 0) (up (j 1)))) (H (ix2 (j 0) (up (j 1)))))) (b j)
  else
    FloatOps.addf (FloatOps.addf (FloatOps.mulf (a (ix3 0 (j 0) (dn (j 1)))) (H j))
      (FloatOps.mulf (a (ix3 0 (j 0) (j 1))) (H (ix2 (j 0) (dn (j 1)))))) (b j)

theorem next_re (a : Vec F S1x8x4096 .f32) (b H : Vec F S8x4096 .f32) (r : Fin 8) (c : Fin 4096) (h : c.val % 1024 < 512) :
    next a b H (ix2 r c) = FloatOps.addf (FloatOps.subf (FloatOps.mulf (a (ix3 0 r c)) (H (ix2 r c)))
      (FloatOps.mulf (a (ix3 0 r (up c))) (H (ix2 r (up c))))) (b (ix2 r c)) := if_pos h

theorem next_im (a : Vec F S1x8x4096 .f32) (b H : Vec F S8x4096 .f32) (r : Fin 8) (c : Fin 4096) (h : ¬ c.val % 1024 < 512) :
    next a b H (ix2 r c) = FloatOps.addf (FloatOps.addf (FloatOps.mulf (a (ix3 0 r (dn c))) (H (ix2 r c)))
      (FloatOps.mulf (a (ix3 0 r c)) (H (ix2 r (dn c))))) (b (ix2 r c)) := if_neg h

/-- The eight rows of time step `k`. -/
def rowsOf (d : Vec F S1024x4096 .f32) (k : ℕ) : Vec F S8x4096 .f32 := fun j =>
  d (ix2 ⟨(8 * k + (j 0).val) % 1024, Nat.mod_lt _ (by decide)⟩ (j 1))

/-- The buffer with the eight rows of time step `k` replaced. -/
def putRows (d : Vec F S1024x4096 .f32) (k : ℕ) (N : Vec F S8x4096 .f32) : Vec F S1024x4096 .f32 := fun j =>
  if (j 0).val / 8 = k then N (ix2 ⟨(j 0).val % 8, Nat.mod_lt _ (by decide)⟩ (j 1)) else d j

/-- The state cut into the eight column blocks that the loop carries. -/
def comps (H : Vec F S8x4096 .f32) : Vec F S8x512 .f32 × Vec F S8x512 .f32 × Vec F S8x512 .f32 × Vec F S8x512 .f32
    × Vec F S8x512 .f32 × Vec F S8x512 .f32 × Vec F S8x512 .f32 × Vec F S8x512 .f32 :=
  (View.ld H (Rect.unit (s := S8x4096) ![0, 0] S8x512.size inb_S8x4096_S8x512_0_0),
    View.ld H (Rect.unit (s := S8x4096) ![0, 512] S8x512.size inb_S8x4096_S8x512_0_512),
    View.ld H (Rect.unit (s := S8x4096) ![0, 1024] S8x512.size inb_S8x4096_S8x512_0_1024),
    View.ld H (Rect.unit (s := S8x4096) ![0, 1536] S8x512.size inb_S8x4096_S8x512_0_1536),
    View.ld H (Rect.unit (s := S8x4096) ![0, 2048] S8x512.size inb_S8x4096_S8x512_0_2048),
    View.ld H (Rect.unit (s := S8x4096) ![0, 2560] S8x512.size inb_S8x4096_S8x512_0_2560),
    View.ld H (Rect.unit (s := S8x4096) ![0, 3072] S8x512.size inb_S8x4096_S8x512_0_3072),
    View.ld H (Rect.unit (s := S8x4096) ![0, 3584] S8x512.size inb_S8x4096_S8x512_0_3584))

/-- The columns of the state that trip `k` finds in the buffer. -/
theorem off_rows (k : Fin k0_t1_loop.trips) :
    k0_off1 k = ![8 * k.val, 0] ∧ k0_off2 k = ![8 * k.val, 512] ∧ k0_off3 k = ![8 * k.val, 1024]
      ∧ k0_off4 k = ![8 * k.val, 1536] ∧ k0_off5 k = ![8 * k.val, 2048] ∧ k0_off6 k = ![8 * k.val, 2560]
      ∧ k0_off7 k = ![8 * k.val, 3072] ∧ k0_off8 k = ![8 * k.val, 3584] := by
  revert k; decide +kernel

theorem step_re0 (x4 : Vec F S1x8x4096 .f32) (d : Vec F S1024x4096 .f32) (H : Vec F S8x4096 .f32)
    (k : Fin k0_t1_loop.trips) :
    k0_pay4 (View.ld H (Rect.unit (s := S8x4096) ![0, 0] S8x512.size inb_S8x4096_S8x512_0_0)) (View.ld H (Rect.unit (s := S8x4096) ![0, 512] S8x512.size inb_S8x4096_S8x512_0_512)) (View.ld x4 (Rect.unit (s := S1x8x4096) ![0, 0, 0] S1x8x512.size inb_S1x8x4096_S1x8x512_0_0_0)) (View.ld x4 (Rect.unit (s := S1x8x4096) ![0, 0, 512] S1x8x512.size inb_S1x8x4096_S1x8x512_0_0_512)) (View.ld d (Rect.unit (s := S1024x4096) (k0_off1 k) S8x512.size (k0_off1_inb k)))
      = View.ld (next x4 (rowsOf d k.val) H) (Rect.unit (s := S8x4096) ![0, 0] S8x512.size inb_S8x4096_S8x512_0_0) := by
  have hk : k.val < 128 := Nat.lt_of_lt_of_le k.isLt k0_t1_abs.2.1
  funext y
  obtain ⟨r, q, rfl⟩ : ∃ (r : Fin 8) (q : Fin 512), y = ix2 r q := ⟨y 0, y 1, by blk_ext []⟩
  have hr := r.isLt
  have hq := q.isLt
  rw [View.ld_unit_apply_of (next x4 (rowsOf d k.val) H) _ _ _ _ (ix2 r ⟨q.val, by omega⟩) (fun a => by fin_cases a <;> simp)]
  have ah : View.ld H (Rect.unit (s := S8x4096) ![0, 0] S8x512.size inb_S8x4096_S8x512_0_0) (ix2 r q) = H (ix2 r ⟨q.val, by omega⟩) :=
    View.ld_unit_apply_of _ _ _ _ _ _ (fun a => by fin_cases a <;> simp)
  have bh : View.ld H (Rect.unit (s := S8x4096) ![0, 512] S8x512.size inb_S8x4096_S8x512_0_512) (ix2 r q) = H (ix2 r ⟨512 + q.val, by omega⟩) :=
    View.ld_unit_apply_of _ _ _ _ _ _ (fun a => by fin_cases a <;> simp)
  have aa : View.ld x4 (Rect.unit (s := S1x8x4096) ![0, 0, 0] S1x8x512.size inb_S1x8x4096_S1x8x512_0_0_0) (ix3 0 r q) = x4 (ix3 0 r ⟨q.val, by omega⟩) :=
    View.ld_unit_apply_of _ _ _ _ _ _ (fun a => by fin_cases a <;> simp)
  have ba : View.ld x4 (Rect.unit (s := S1x8x4096) ![0, 0, 512] S1x8x512.size inb_S1x8x4096_S1x8x512_0_0_512) (ix3 0 r q) = x4 (ix3 0 r ⟨512 + q.val, by omega⟩) :=
    View.ld_unit_apply_of _ _ _ _ _ _ (fun a => by fin_cases a <;> simp)
  have dd : View.ld d (Rect.unit (s := S1024x4096) (k0_off1 k) S8x512.size (k0_off1_inb k)) (ix2 r q) = d (ix2 ⟨(8 * k.val + r.val) % 1024, by omega⟩ ⟨q.val, by omega⟩) :=
    View.ld_unit_apply_of _ _ _ _ _ _ (fun a => by
      simp only [off_rows k]; fin_cases a <;> simp; omega)
  generalize View.ld H (Rect.unit (s := S8x4096) ![0, 0] S8x512.size inb_S8x4096_S8x512_0_0) = H1 at *
  generalize View.ld H (Rect.unit (s := S8x4096) ![0, 512] S8x512.size inb_S8x4096_S8x512_0_512) = H2 at *
  generalize View.ld x4 (Rect.unit (s := S1x8x4096) ![0, 0, 0] S1x8x512.size inb_S1x8x4096_S1x8x512_0_0_0) = A1 at *
  generalize View.ld x4 (Rect.unit (s := S1x8x4096) ![0, 0, 512] S1x8x512.size inb_S1x8x4096_S1x8x512_0_0_512) = A2 at *
  generalize View.ld d (Rect.unit (s := S1024x4096) (k0_off1 k) S8x512.size (k0_off1_inb k)) = D1 at *
  pointwise [k0_pay4, k0_pay2, k0_pay3]
  have hc : q.val % 1024 < 512 := by omega
  have hu : up ⟨q.val, by omega⟩ = ⟨512 + q.val, by omega⟩ := Fin.ext (by simp only [up]; omega)
  have hd : dn ⟨512 + q.val, by omega⟩ = ⟨q.val, by omega⟩ := Fin.ext (by simp only [dn]; omega)
  rw [next_re _ _ _ _ _ hc, hu, ah, bh, aa, ba, dd]
  rfl

theorem step_im0 (x4 : Vec F S1x8x4096 .f32) (d : Vec F S1024x4096 .f32) (H : Vec F S8x4096 .f32)
    (k : Fin k0_t1_loop.trips) :
    k0_pay5 (View.ld H (Rect.unit (s := S8x4096) ![0, 0] S8x512.size inb_S8x4096_S8x512_0_0)) (View.ld H (Rect.unit (s := S8x4096) ![0, 512] S8x512.size inb_S8x4096_S8x512_0_512)) (View.ld x4 (Rect.unit (s := S1x8x4096) ![0, 0, 0] S1x8x512.size inb_S1x8x4096_S1x8x512_0_0_0)) (View.ld x4 (Rect.unit (s := S1x8x4096) ![0, 0, 512] S1x8x512.size inb_S1x8x4096_S1x8x512_0_0_512)) (View.ld d (Rect.unit (s := S1024x4096) (k0_off2 k) S8x512.size (k0_off2_inb k)))
      = View.ld (next x4 (rowsOf d k.val) H) (Rect.unit (s := S8x4096) ![0, 512] S8x512.size inb_S8x4096_S8x512_0_512) := by
  have hk : k.val < 128 := Nat.lt_of_lt_of_le k.isLt k0_t1_abs.2.1
  funext y
  obtain ⟨r, q, rfl⟩ : ∃ (r : Fin 8) (q : Fin 512), y = ix2 r q := ⟨y 0, y 1, by blk_ext []⟩
  have hr := r.isLt
  have hq := q.isLt
  rw [View.ld_unit_apply_of (next x4 (rowsOf d k.val) H) _ _ _ _ (ix2 r ⟨512 + q.val, by omega⟩) (fun a => by fin_cases a <;> simp)]
  have ah : View.ld H (Rect.unit (s := S8x4096) ![0, 0] S8x512.size inb_S8x4096_S8x512_0_0) (ix2 r q) = H (ix2 r ⟨q.val, by omega⟩) :=
    View.ld_unit_apply_of _ _ _ _ _ _ (fun a => by fin_cases a <;> simp)
  have bh : View.ld H (Rect.unit (s := S8x4096) ![0, 512] S8x512.size inb_S8x4096_S8x512_0_512) (ix2 r q) = H (ix2 r ⟨512 + q.val, by omega⟩) :=
    View.ld_unit_apply_of _ _ _ _ _ _ (fun a => by fin_cases a <;> simp)
  have aa : View.ld x4 (Rect.unit (s := S1x8x4096) ![0, 0, 0] S1x8x512.size inb_S1x8x4096_S1x8x512_0_0_0) (ix3 0 r q) = x4 (ix3 0 r ⟨q.val, by omega⟩) :=
    View.ld_unit_apply_of _ _ _ _ _ _ (fun a => by fin_cases a <;> simp)
  have ba : View.ld x4 (Rect.unit (s := S1x8x4096) ![0, 0, 512] S1x8x512.size inb_S1x8x4096_S1x8x512_0_0_512) (ix3 0 r q) = x4 (ix3 0 r ⟨512 + q.val, by omega⟩) :=
    View.ld_unit_apply_of _ _ _ _ _ _ (fun a => by fin_cases a <;> simp)
  have dd : View.ld d (Rect.unit (s := S1024x4096) (k0_off2 k) S8x512.size (k0_off2_inb k)) (ix2 r q) = d (ix2 ⟨(8 * k.val + r.val) % 1024, by omega⟩ ⟨512 + q.val, by omega⟩) :=
    View.ld_unit_apply_of _ _ _ _ _ _ (fun a => by
      simp only [off_rows k]; fin_cases a <;> simp; omega)
  generalize View.ld H (Rect.unit (s := S8x4096) ![0, 0] S8x512.size inb_S8x4096_S8x512_0_0) = H1 at *
  generalize View.ld H (Rect.unit (s := S8x4096) ![0, 512] S8x512.size inb_S8x4096_S8x512_0_512) = H2 at *
  generalize View.ld x4 (Rect.unit (s := S1x8x4096) ![0, 0, 0] S1x8x512.size inb_S1x8x4096_S1x8x512_0_0_0) = A1 at *
  generalize View.ld x4 (Rect.unit (s := S1x8x4096) ![0, 0, 512] S1x8x512.size inb_S1x8x4096_S1x8x512_0_0_512) = A2 at *
  generalize View.ld d (Rect.unit (s := S1024x4096) (k0_off2 k) S8x512.size (k0_off2_inb k)) = D1 at *
  pointwise [k0_pay5, k0_pay2, k0_pay3]
  have hc : ¬ (512 + q.val) % 1024 < 512 := by omega
  have hu : up ⟨q.val, by omega⟩ = ⟨512 + q.val, by omega⟩ := Fin.ext (by simp only [up]; omega)
  have hd : dn ⟨512 + q.val, by omega⟩ = ⟨q.val, by omega⟩ := Fin.ext (by simp only [dn]; omega)
  rw [next_im _ _ _ _ _ hc, hd, ah, bh, aa, ba, dd]
  rfl

theorem step_re1 (x4 : Vec F S1x8x4096 .f32) (d : Vec F S1024x4096 .f32) (H : Vec F S8x4096 .f32)
    (k : Fin k0_t1_loop.trips) :
    k0_pay10 (View.ld H (Rect.unit (s := S8x4096) ![0, 1024] S8x512.size inb_S8x4096_S8x512_0_1024)) (View.ld H (Rect.unit (s := S8x4096) ![0, 1536] S8x512.size inb_S8x4096_S8x512_0_1536)) (View.ld x4 (Rect.unit (s := S1x8x4096) ![0, 0, 1024] S1x8x512.size inb_S1x8x4096_S1x8x512_0_0_1024)) (View.ld x4 (Rect.unit (s := S1x8x4096) ![0, 0, 1536] S1x8x512.size inb_S1x8x4096_S1x8x512_0_0_1536)) (View.ld d (Rect.unit (s := S1024x4096) (k0_off3 k) S8x512.size (k0_off3_inb k)))
      = View.ld (next x4 (rowsOf d k.val) H) (Rect.unit (s := S8x4096) ![0, 1024] S8x512.size inb_S8x4096_S8x512_0_1024) := by
  have hk : k.val < 128 := Nat.lt_of_lt_of_le k.isLt k0_t1_abs.2.1
  funext y
  obtain ⟨r, q, rfl⟩ : ∃ (r : Fin 8) (q : Fin 512), y = ix2 r q := ⟨y 0, y 1, by blk_ext []⟩
  have hr := r.isLt
  have hq := q.isLt
  rw [View.ld_unit_apply_of (next x4 (rowsOf d k.val) H) _ _ _ _ (ix2 r ⟨1024 + q.val, by omega⟩) (fun a => by fin_cases a <;> simp)]
  have ah : View.ld H (Rect.unit (s := S8x4096) ![0, 1024] S8x512.size inb_S8x4096_S8x512_0_1024) (ix2 r q) = H (ix2 r ⟨1024 + q.val, by omega⟩) :=
    View.ld_unit_apply_of _ _ _ _ _ _ (fun a => by fin_cases a <;> simp)
  have bh : View.ld H (Rect.unit (s := S8x4096) ![0, 1536] S8x512.size inb_S8x4096_S8x512_0_1536) (ix2 r q) = H (ix2 r ⟨1536 + q.val, by omega⟩) :=
    View.ld_unit_apply_of _ _ _ _ _ _ (fun a => by fin_cases a <;> simp)
  have aa : View.ld x4 (Rect.unit (s := S1x8x4096) ![0, 0, 1024] S1x8x512.size inb_S1x8x4096_S1x8x512_0_0_1024) (ix3 0 r q) = x4 (ix3 0 r ⟨1024 + q.val, by omega⟩) :=
    View.ld_unit_apply_of _ _ _ _ _ _ (fun a => by fin_cases a <;> simp)
  have ba : View.ld x4 (Rect.unit (s := S1x8x4096) ![0, 0, 1536] S1x8x512.size inb_S1x8x4096_S1x8x512_0_0_1536) (ix3 0 r q) = x4 (ix3 0 r ⟨1536 + q.val, by omega⟩) :=
    View.ld_unit_apply_of _ _ _ _ _ _ (fun a => by fin_cases a <;> simp)
  have dd : View.ld d (Rect.unit (s := S1024x4096) (k0_off3 k) S8x512.size (k0_off3_inb k)) (ix2 r q) = d (ix2 ⟨(8 * k.val + r.val) % 1024, by omega⟩ ⟨1024 + q.val, by omega⟩) :=
    View.ld_unit_apply_of _ _ _ _ _ _ (fun a => by
      simp only [off_rows k]; fin_cases a <;> simp; omega)
  generalize View.ld H (Rect.unit (s := S8x4096) ![0, 1024] S8x512.size inb_S8x4096_S8x512_0_1024) = H1 at *
  generalize View.ld H (Rect.unit (s := S8x4096) ![0, 1536] S8x512.size inb_S8x4096_S8x512_0_1536) = H2 at *
  generalize View.ld x4 (Rect.unit (s := S1x8x4096) ![0, 0, 1024] S1x8x512.size inb_S1x8x4096_S1x8x512_0_0_1024) = A1 at *
  generalize View.ld x4 (Rect.unit (s := S1x8x4096) ![0, 0, 1536] S1x8x512.size inb_S1x8x4096_S1x8x512_0_0_1536) = A2 at *
  generalize View.ld d (Rect.unit (s := S1024x4096) (k0_off3 k) S8x512.size (k0_off3_inb k)) = D1 at *
  pointwise [k0_pay10, k0_pay8, k0_pay9]
  have hc : (1024 + q.val) % 1024 < 512 := by omega
  have hu : up ⟨1024 + q.val, by omega⟩ = ⟨1536 + q.val, by omega⟩ := Fin.ext (by simp only [up]; omega)
  have hd : dn ⟨1536 + q.val, by omega⟩ = ⟨1024 + q.val, by omega⟩ := Fin.ext (by simp only [dn]; omega)
  rw [next_re _ _ _ _ _ hc, hu, ah, bh, aa, ba, dd]
  rfl

theorem step_im1 (x4 : Vec F S1x8x4096 .f32) (d : Vec F S1024x4096 .f32) (H : Vec F S8x4096 .f32)
    (k : Fin k0_t1_loop.trips) :
    k0_pay12 (k0_pay11 (View.ld H (Rect.unit (s := S8x4096) ![0, 1024] S8x512.size inb_S8x4096_S8x512_0_1024)) (View.ld H (Rect.unit (s := S8x4096) ![0, 1536] S8x512.size inb_S8x4096_S8x512_0_1536)) (View.ld x4 (Rect.unit (s := S1x8x4096) ![0, 0, 1024] S1x8x512.size inb_S1x8x4096_S1x8x512_0_0_1024)) (View.ld x4 (Rect.unit (s := S1x8x4096) ![0, 0, 1536] S1x8x512.size inb_S1x8x4096_S1x8x512_0_0_1536))) (View.ld d (Rect.unit (s := S1024x4096) (k0_off4 k) S8x512.size (k0_off4_inb k)))
      = View.ld (next x4 (rowsOf d k.val) H) (Rect.unit (s := S8x4096) ![0, 1536] S8x512.size inb_S8x4096_S8x512_0_1536) := by
  have hk : k.val < 128 := Nat.lt_of_lt_of_le k.isLt k0_t1_abs.2.1
  funext y
  obtain ⟨r, q, rfl⟩ : ∃ (r : Fin 8) (q : Fin 512), y = ix2 r q := ⟨y 0, y 1, by blk_ext []⟩
  have hr := r.isLt
  have hq := q.isLt
  rw [View.ld_unit_apply_of (next x4 (rowsOf d k.val) H) _ _ _ _ (ix2 r ⟨1536 + q.val, by omega⟩) (fun a => by fin_cases a <;> simp)]
  have ah : View.ld H (Rect.unit (s := S8x4096) ![0, 1024] S8x512.size inb_S8x4096_S8x512_0_1024) (ix2 r q) = H (ix2 r ⟨1024 + q.val, by omega⟩) :=
    View.ld_unit_apply_of _ _ _ _ _ _ (fun a => by fin_cases a <;> simp)
  have bh : View.ld H (Rect.unit (s := S8x4096) ![0, 1536] S8x512.size inb_S8x4096_S8x512_0_1536) (ix2 r q) = H (ix2 r ⟨1536 + q.val, by omega⟩) :=
    View.ld_unit_apply_of _ _ _ _ _ _ (fun a => by fin_cases a <;> simp)
  have aa : View.ld x4 (Rect.unit (s := S1x8x4096) ![0, 0, 1024] S1x8x512.size inb_S1x8x4096_S1x8x512_0_0_1024) (ix3 0 r q) = x4 (ix3 0 r ⟨1024 + q.val, by omega⟩) :=
    View.ld_unit_apply_of _ _ _ _ _ _ (fun a => by fin_cases a <;> simp)
  have ba : View.ld x4 (Rect.unit (s := S1x8x4096) ![0, 0, 1536] S1x8x512.size inb_S1x8x4096_S1x8x512_0_0_1536) (ix3 0 r q) = x4 (ix3 0 r ⟨1536 + q.val, by omega⟩) :=
    View.ld_unit_apply_of _ _ _ _ _ _ (fun a => by fin_cases a <;> simp)
  have dd : View.ld d (Rect.unit (s := S1024x4096) (k0_off4 k) S8x512.size (k0_off4_inb k)) (ix2 r q) = d (ix2 ⟨(8 * k.val + r.val) % 1024, by omega⟩ ⟨1536 + q.val, by omega⟩) :=
    View.ld_unit_apply_of _ _ _ _ _ _ (fun a => by
      simp only [off_rows k]; fin_cases a <;> simp; omega)
  generalize View.ld H (Rect.unit (s := S8x4096) ![0, 1024] S8x512.size inb_S8x4096_S8x512_0_1024) = H1 at *
  generalize View.ld H (Rect.unit (s := S8x4096) ![0, 1536] S8x512.size inb_S8x4096_S8x512_0_1536) = H2 at *
  generalize View.ld x4 (Rect.unit (s := S1x8x4096) ![0, 0, 1024] S1x8x512.size inb_S1x8x4096_S1x8x512_0_0_1024) = A1 at *
  generalize View.ld x4 (Rect.unit (s := S1x8x4096) ![0, 0, 1536] S1x8x512.size inb_S1x8x4096_S1x8x512_0_0_1536) = A2 at *
  generalize View.ld d (Rect.unit (s := S1024x4096) (k0_off4 k) S8x512.size (k0_off4_inb k)) = D1 at *
  pointwise [k0_pay12, k0_pay11, k0_pay8, k0_pay9]
  have hc : ¬ (1536 + q.val) % 1024 < 512 := by omega
  have hu : up ⟨1024 + q.val, by omega⟩ = ⟨1536 + q.val, by omega⟩ := Fin.ext (by simp only [up]; omega)
  have hd : dn ⟨1536 + q.val, by omega⟩ = ⟨1024 + q.val, by omega⟩ := Fin.ext (by simp only [dn]; omega)
  rw [next_im _ _ _ _ _ hc, hd, ah, bh, aa, ba, dd]
  rfl

theorem step_re2 (x4 : Vec F S1x8x4096 .f32) (d : Vec F S1024x4096 .f32) (H : Vec F S8x4096 .f32)
    (k : Fin k0_t1_loop.trips) :
    k0_pay17 (View.ld H (Rect.unit (s := S8x4096) ![0, 2048] S8x512.size inb_S8x4096_S8x512_0_2048)) (View.ld H (Rect.unit (s := S8x4096) ![0, 2560] S8x512.size inb_S8x4096_S8x512_0_2560)) (View.ld x4 (Rect.unit (s := S1x8x4096) ![0, 0, 2048] S1x8x512.size inb_S1x8x4096_S1x8x512_0_0_2048)) (View.ld x4 (Rect.unit (s := S1x8x4096) ![0, 0, 2560] S1x8x512.size inb_S1x8x4096_S1x8x512_0_0_2560)) (View.ld d (Rect.unit (s := S1024x4096) (k0_off5 k) S8x512.size (k0_off5_inb k)))
      = View.ld (next x4 (rowsOf d k.val) H) (Rect.unit (s := S8x4096) ![0, 2048] S8x512.size inb_S8x4096_S8x512_0_2048) := by
  have hk : k.val < 128 := Nat.lt_of_lt_of_le k.isLt k0_t1_abs.2.1
  funext y
  obtain ⟨r, q, rfl⟩ : ∃ (r : Fin 8) (q : Fin 512), y = ix2 r q := ⟨y 0, y 1, by blk_ext []⟩
  have hr := r.isLt
  have hq := q.isLt
  rw [View.ld_unit_apply_of (next x4 (rowsOf d k.val) H) _ _ _ _ (ix2 r ⟨2048 + q.val, by omega⟩) (fun a => by fin_cases a <;> simp)]
  have ah : View.ld H (Rect.unit (s := S8x4096) ![0, 2048] S8x512.size inb_S8x4096_S8x512_0_2048) (ix2 r q) = H (ix2 r ⟨2048 + q.val, by omega⟩) :=
    View.ld_unit_apply_of _ _ _ _ _ _ (fun a => by fin_cases a <;> simp)
  have bh : View.ld H (Rect.unit (s := S8x4096) ![0, 2560] S8x512.size inb_S8x4096_S8x512_0_2560) (ix2 r q) = H (ix2 r ⟨2560 + q.val, by omega⟩) :=
    View.ld_unit_apply_of _ _ _ _ _ _ (fun a => by fin_cases a <;> simp)
  have aa : View.ld x4 (Rect.unit (s := S1x8x4096) ![0, 0, 2048] S1x8x512.size inb_S1x8x4096_S1x8x512_0_0_2048) (ix3 0 r q) = x4 (ix3 0 r ⟨2048 + q.val, by omega⟩) :=
    View.ld_unit_apply_of _ _ _ _ _ _ (fun a => by fin_cases a <;> simp)
  have ba : View.ld x4 (Rect.unit (s := S1x8x4096) ![0, 0, 2560] S1x8x512.size inb_S1x8x4096_S1x8x512_0_0_2560) (ix3 0 r q) = x4 (ix3 0 r ⟨2560 + q.val, by omega⟩) :=
    View.ld_unit_apply_of _ _ _ _ _ _ (fun a => by fin_cases a <;> simp)
  have dd : View.ld d (Rect.unit (s := S1024x4096) (k0_off5 k) S8x512.size (k0_off5_inb k)) (ix2 r q) = d (ix2 ⟨(8 * k.val + r.val) % 1024, by omega⟩ ⟨2048 + q.val, by omega⟩) :=
    View.ld_unit_apply_of _ _ _ _ _ _ (fun a => by
      simp only [off_rows k]; fin_cases a <;> simp; omega)
  generalize View.ld H (Rect.unit (s := S8x4096) ![0, 2048] S8x512.size inb_S8x4096_S8x512_0_2048) = H1 at *
  generalize View.ld H (Rect.unit (s := S8x4096) ![0, 2560] S8x512.size inb_S8x4096_S8x512_0_2560) = H2 at *
  generalize View.ld x4 (Rect.unit (s := S1x8x4096) ![0, 0, 2048] S1x8x512.size inb_S1x8x4096_S1x8x512_0_0_2048) = A1 at *
  generalize View.ld x4 (Rect.unit (s := S1x8x4096) ![0, 0, 2560] S1x8x512.size inb_S1x8x4096_S1x8x512_0_0_2560) = A2 at *
  generalize View.ld d (Rect.unit (s := S1024x4096) (k0_off5 k) S8x512.size (k0_off5_inb k)) = D1 at *
  pointwise [k0_pay17, k0_pay15, k0_pay16]
  have hc : (2048 + q.val) % 1024 < 512 := by omega
  have hu : up ⟨2048 + q.val, by omega⟩ = ⟨2560 + q.val, by omega⟩ := Fin.ext (by simp only [up]; omega)
  have hd : dn ⟨2560 + q.val, by omega⟩ = ⟨2048 + q.val, by omega⟩ := Fin.ext (by simp only [dn]; omega)
  rw [next_re _ _ _ _ _ hc, hu, ah, bh, aa, ba, dd]
  rfl

theorem step_im2 (x4 : Vec F S1x8x4096 .f32) (d : Vec F S1024x4096 .f32) (H : Vec F S8x4096 .f32)
    (k : Fin k0_t1_loop.trips) :
    k0_pay18 (View.ld H (Rect.unit (s := S8x4096) ![0, 2048] S8x512.size inb_S8x4096_S8x512_0_2048)) (View.ld H (Rect.unit (s := S8x4096) ![0, 2560] S8x512.size inb_S8x4096_S8x512_0_2560)) (View.ld x4 (Rect.unit (s := S1x8x4096) ![0, 0, 2048] S1x8x512.size inb_S1x8x4096_S1x8x512_0_0_2048)) (View.ld x4 (Rect.unit (s := S1x8x4096) ![0, 0, 2560] S1x8x512.size inb_S1x8x4096_S1x8x512_0_0_2560)) (View.ld d (Rect.unit (s := S1024x4096) (k0_off6 k) S8x512.size (k0_off6_inb k)))
      = View.ld (next x4 (rowsOf d k.val) H) (Rect.unit (s := S8x4096) ![0, 2560] S8x512.size inb_S8x4096_S8x512_0_2560) := by
  have hk : k.val < 128 := Nat.lt_of_lt_of_le k.isLt k0_t1_abs.2.1
  funext y
  obtain ⟨r, q, rfl⟩ : ∃ (r : Fin 8) (q : Fin 512), y = ix2 r q := ⟨y 0, y 1, by blk_ext []⟩
  have hr := r.isLt
  have hq := q.isLt
  rw [View.ld_unit_apply_of (next x4 (rowsOf d k.val) H) _ _ _ _ (ix2 r ⟨2560 + q.val, by omega⟩) (fun a => by fin_cases a <;> simp)]
  have ah : View.ld H (Rect.unit (s := S8x4096) ![0, 2048] S8x512.size inb_S8x4096_S8x512_0_2048) (ix2 r q) = H (ix2 r ⟨2048 + q.val, by omega⟩) :=
    View.ld_unit_apply_of _ _ _ _ _ _ (fun a => by fin_cases a <;> simp)
  have bh : View.ld H (Rect.unit (s := S8x4096) ![0, 2560] S8x512.size inb_S8x4096_S8x512_0_2560) (ix2 r q) = H (ix2 r ⟨2560 + q.val, by omega⟩) :=
    View.ld_unit_apply_of _ _ _ _ _ _ (fun a => by fin_cases a <;> simp)
  have aa : View.ld x4 (Rect.unit (s := S1x8x4096) ![0, 0, 2048] S1x8x512.size inb_S1x8x4096_S1x8x512_0_0_2048) (ix3 0 r q) = x4 (ix3 0 r ⟨2048 + q.val, by omega⟩) :=
    View.ld_unit_apply_of _ _ _ _ _ _ (fun a => by fin_cases a <;> simp)
  have ba : View.ld x4 (Rect.unit (s := S1x8x4096) ![0, 0, 2560] S1x8x512.size inb_S1x8x4096_S1x8x512_0_0_2560) (ix3 0 r q) = x4 (ix3 0 r ⟨2560 + q.val, by omega⟩) :=
    View.ld_unit_apply_of _ _ _ _ _ _ (fun a => by fin_cases a <;> simp)
  have dd : View.ld d (Rect.unit (s := S1024x4096) (k0_off6 k) S8x512.size (k0_off6_inb k)) (ix2 r q) = d (ix2 ⟨(8 * k.val + r.val) % 1024, by omega⟩ ⟨2560 + q.val, by omega⟩) :=
    View.ld_unit_apply_of _ _ _ _ _ _ (fun a => by
      simp only [off_rows k]; fin_cases a <;> simp; omega)
  generalize View.ld H (Rect.unit (s := S8x4096) ![0, 2048] S8x512.size inb_S8x4096_S8x512_0_2048) = H1 at *
  generalize View.ld H (Rect.unit (s := S8x4096) ![0, 2560] S8x512.size inb_S8x4096_S8x512_0_2560) = H2 at *
  generalize View.ld x4 (Rect.unit (s := S1x8x4096) ![0, 0, 2048] S1x8x512.size inb_S1x8x4096_S1x8x512_0_0_2048) = A1 at *
  generalize View.ld x4 (Rect.unit (s := S1x8x4096) ![0, 0, 2560] S1x8x512.size inb_S1x8x4096_S1x8x512_0_0_2560) = A2 at *
  generalize View.ld d (Rect.unit (s := S1024x4096) (k0_off6 k) S8x512.size (k0_off6_inb k)) = D1 at *
  pointwise [k0_pay18, k0_pay15, k0_pay16]
  have hc : ¬ (2560 + q.val) % 1024 < 512 := by omega
  have hu : up ⟨2048 + q.val, by omega⟩ = ⟨2560 + q.val, by omega⟩ := Fin.ext (by simp only [up]; omega)
  have hd : dn ⟨2560 + q.val, by omega⟩ = ⟨2048 + q.val, by omega⟩ := Fin.ext (by simp only [dn]; omega)
  rw [next_im _ _ _ _ _ hc, hd, ah, bh, aa, ba, dd]
  rfl

theorem step_re3 (x4 : Vec F S1x8x4096 .f32) (d : Vec F S1024x4096 .f32) (H : Vec F S8x4096 .f32)
    (k : Fin k0_t1_loop.trips) :
    k0_pay187 (View.ld H (Rect.unit (s := S8x4096) ![0, 3072] S8x512.size inb_S8x4096_S8x512_0_3072)) (View.ld H (Rect.unit (s := S8x4096) ![0, 3584] S8x512.size inb_S8x4096_S8x512_0_3584)) (k0_pay21 (View.ld x4 (Rect.unit (s := S1x8x4096) ![0, 0, 3072] S1x8x512.size inb_S1x8x4096_S1x8x512_0_0_3072))) (View.ld x4 (Rect.unit (s := S1x8x4096) ![0, 0, 3584] S1x8x512.size inb_S1x8x4096_S1x8x512_0_0_3584)) (View.ld d (Rect.unit (s := S1024x4096) (k0_off7 k) S8x512.size (k0_off7_inb k)))
      = View.ld (next x4 (rowsOf d k.val) H) (Rect.unit (s := S8x4096) ![0, 3072] S8x512.size inb_S8x4096_S8x512_0_3072) := by
  have hk : k.val < 128 := Nat.lt_of_lt_of_le k.isLt k0_t1_abs.2.1
  funext y
  obtain ⟨r, q, rfl⟩ : ∃ (r : Fin 8) (q : Fin 512), y = ix2 r q := ⟨y 0, y 1, by blk_ext []⟩
  have hr := r.isLt
  have hq := q.isLt
  rw [View.ld_unit_apply_of (next x4 (rowsOf d k.val) H) _ _ _ _ (ix2 r ⟨3072 + q.val, by omega⟩) (fun a => by fin_cases a <;> simp)]
  have ah : View.ld H (Rect.unit (s := S8x4096) ![0, 3072] S8x512.size inb_S8x4096_S8x512_0_3072) (ix2 r q) = H (ix2 r ⟨3072 + q.val, by omega⟩) :=
    View.ld_unit_apply_of _ _ _ _ _ _ (fun a => by fin_cases a <;> simp)
  have bh : View.ld H (Rect.unit (s := S8x4096) ![0, 3584] S8x512.size inb_S8x4096_S8x512_0_3584) (ix2 r q) = H (ix2 r ⟨3584 + q.val, by omega⟩) :=
    View.ld_unit_apply_of _ _ _ _ _ _ (fun a => by fin_cases a <;> simp)
  have aa : View.ld x4 (Rect.unit (s := S1x8x4096) ![0, 0, 3072] S1x8x512.size inb_S1x8x4096_S1x8x512_0_0_3072) (ix3 0 r q) = x4 (ix3 0 r ⟨3072 + q.val, by omega⟩) :=
    View.ld_unit_apply_of _ _ _ _ _ _ (fun a => by fin_cases a <;> simp)
  have ba : View.ld x4 (Rect.unit (s := S1x8x4096) ![0, 0, 3584] S1x8x512.size inb_S1x8x4096_S1x8x512_0_0_3584) (ix3 0 r q) = x4 (ix3 0 r ⟨3584 + q.val, by omega⟩) :=
    View.ld_unit_apply_of _ _ _ _ _ _ (fun a => by fin_cases a <;> simp)
  have dd : View.ld d (Rect.unit (s := S1024x4096) (k0_off7 k) S8x512.size (k0_off7_inb k)) (ix2 r q) = d (ix2 ⟨(8 * k.val + r.val) % 1024, by omega⟩ ⟨3072 + q.val, by omega⟩) :=
    View.ld_unit_apply_of _ _ _ _ _ _ (fun a => by
      simp only [off_rows k]; fin_cases a <;> simp; omega)
  generalize View.ld H (Rect.unit (s := S8x4096) ![0, 3072] S8x512.size inb_S8x4096_S8x512_0_3072) = H1 at *
  generalize View.ld H (Rect.unit (s := S8x4096) ![0, 3584] S8x512.size inb_S8x4096_S8x512_0_3584) = H2 at *
  generalize View.ld x4 (Rect.unit (s := S1x8x4096) ![0, 0, 3072] S1x8x512.size inb_S1x8x4096_S1x8x512_0_0_3072) = A1 at *
  generalize View.ld x4 (Rect.unit (s := S1x8x4096) ![0, 0, 3584] S1x8x512.size inb_S1x8x4096_S1x8x512_0_0_3584) = A2 at *
  generalize View.ld d (Rect.unit (s := S1024x4096) (k0_off7 k) S8x512.size (k0_off7_inb k)) = D1 at *
  pointwise [k0_pay187, k0_pay186, k0_pay21]
  have hc : (3072 + q.val) % 1024 < 512 := by omega
  have hu : up ⟨3072 + q.val, by omega⟩ = ⟨3584 + q.val, by omega⟩ := Fin.ext (by simp only [up]; omega)
  have hd : dn ⟨3584 + q.val, by omega⟩ = ⟨3072 + q.val, by omega⟩ := Fin.ext (by simp only [dn]; omega)
  rw [next_re _ _ _ _ _ hc, hu, ah, bh, aa, ba, dd]
  rfl

theorem step_im3 (x4 : Vec F S1x8x4096 .f32) (d : Vec F S1024x4096 .f32) (H : Vec F S8x4096 .f32)
    (k : Fin k0_t1_loop.trips) :
    k0_pay188 (View.ld H (Rect.unit (s := S8x4096) ![0, 3072] S8x512.size inb_S8x4096_S8x512_0_3072)) (View.ld H (Rect.unit (s := S8x4096) ![0, 3584] S8x512.size inb_S8x4096_S8x512_0_3584)) (k0_pay21 (View.ld x4 (Rect.unit (s := S1x8x4096) ![0, 0, 3072] S1x8x512.size inb_S1x8x4096_S1x8x512_0_0_3072))) (View.ld x4 (Rect.unit (s := S1x8x4096) ![0, 0, 3584] S1x8x512.size inb_S1x8x4096_S1x8x512_0_0_3584)) (View.ld d (Rect.unit (s := S1024x4096) (k0_off8 k) S8x512.size (k0_off8_inb k)))
      = View.ld (next x4 (rowsOf d k.val) H) (Rect.unit (s := S8x4096) ![0, 3584] S8x512.size inb_S8x4096_S8x512_0_3584) := by
  have hk : k.val < 128 := Nat.lt_of_lt_of_le k.isLt k0_t1_abs.2.1
  funext y
  obtain ⟨r, q, rfl⟩ : ∃ (r : Fin 8) (q : Fin 512), y = ix2 r q := ⟨y 0, y 1, by blk_ext []⟩
  have hr := r.isLt
  have hq := q.isLt
  rw [View.ld_unit_apply_of (next x4 (rowsOf d k.val) H) _ _ _ _ (ix2 r ⟨3584 + q.val, by omega⟩) (fun a => by fin_cases a <;> simp)]
  have ah : View.ld H (Rect.unit (s := S8x4096) ![0, 3072] S8x512.size inb_S8x4096_S8x512_0_3072) (ix2 r q) = H (ix2 r ⟨3072 + q.val, by omega⟩) :=
    View.ld_unit_apply_of _ _ _ _ _ _ (fun a => by fin_cases a <;> simp)
  have bh : View.ld H (Rect.unit (s := S8x4096) ![0, 3584] S8x512.size inb_S8x4096_S8x512_0_3584) (ix2 r q) = H (ix2 r ⟨3584 + q.val, by omega⟩) :=
    View.ld_unit_apply_of _ _ _ _ _ _ (fun a => by fin_cases a <;> simp)
  have aa : View.ld x4 (Rect.unit (s := S1x8x4096) ![0, 0, 3072] S1x8x512.size inb_S1x8x4096_S1x8x512_0_0_3072) (ix3 0 r q) = x4 (ix3 0 r ⟨3072 + q.val, by omega⟩) :=
    View.ld_unit_apply_of _ _ _ _ _ _ (fun a => by fin_cases a <;> simp)
  have ba : View.ld x4 (Rect.unit (s := S1x8x4096) ![0, 0, 3584] S1x8x512.size inb_S1x8x4096_S1x8x512_0_0_3584) (ix3 0 r q) = x4 (ix3 0 r ⟨3584 + q.val, by omega⟩) :=
    View.ld_unit_apply_of _ _ _ _ _ _ (fun a => by fin_cases a <;> simp)
  have dd : View.ld d (Rect.unit (s := S1024x4096) (k0_off8 k) S8x512.size (k0_off8_inb k)) (ix2 r q) = d (ix2 ⟨(8 * k.val + r.val) % 1024, by omega⟩ ⟨3584 + q.val, by omega⟩) :=
    View.ld_unit_apply_of _ _ _ _ _ _ (fun a => by
      simp only [off_rows k]; fin_cases a <;> simp; omega)
  generalize View.ld H (Rect.unit (s := S8x4096) ![0, 3072] S8x512.size inb_S8x4096_S8x512_0_3072) = H1 at *
  generalize View.ld H (Rect.unit (s := S8x4096) ![0, 3584] S8x512.size inb_S8x4096_S8x512_0_3584) = H2 at *
  generalize View.ld x4 (Rect.unit (s := S1x8x4096) ![0, 0, 3072] S1x8x512.size inb_S1x8x4096_S1x8x512_0_0_3072) = A1 at *
  generalize View.ld x4 (Rect.unit (s := S1x8x4096) ![0, 0, 3584] S1x8x512.size inb_S1x8x4096_S1x8x512_0_0_3584) = A2 at *
  generalize View.ld d (Rect.unit (s := S1024x4096) (k0_off8 k) S8x512.size (k0_off8_inb k)) = D1 at *
  pointwise [k0_pay188, k0_pay186, k0_pay21]
  have hc : ¬ (3584 + q.val) % 1024 < 512 := by omega
  have hu : up ⟨3072 + q.val, by omega⟩ = ⟨3584 + q.val, by omega⟩ := Fin.ext (by simp only [up]; omega)
  have hd : dn ⟨3584 + q.val, by omega⟩ = ⟨3072 + q.val, by omega⟩ := Fin.ext (by simp only [dn]; omega)
  rw [next_im _ _ _ _ _ hc, hd, ah, bh, aa, ba, dd]
  rfl

/-- The eight stores of a trip replace the eight rows of its time step. -/
theorem put_read (m9 : Memref sig .tc .vmem S1024x4096 .f32) (f : BufTy.Contents (Elt F) m9.view.ty)
    (N : Vec F S8x4096 .f32) (k : Fin k0_t1_loop.trips)
    (w1 w2 w3 w4 w5 w6 w7 w8 : Vec F S8x512 .f32)
    (h1w : w1 = View.ld N (Rect.unit (s := S8x4096) ![0, 0] S8x512.size inb_S8x4096_S8x512_0_0))
    (h2w : w2 = View.ld N (Rect.unit (s := S8x4096) ![0, 512] S8x512.size inb_S8x4096_S8x512_0_512))
    (h3w : w3 = View.ld N (Rect.unit (s := S8x4096) ![0, 1024] S8x512.size inb_S8x4096_S8x512_0_1024))
    (h4w : w4 = View.ld N (Rect.unit (s := S8x4096) ![0, 1536] S8x512.size inb_S8x4096_S8x512_0_1536))
    (h5w : w5 = View.ld N (Rect.unit (s := S8x4096) ![0, 2048] S8x512.size inb_S8x4096_S8x512_0_2048))
    (h6w : w6 = View.ld N (Rect.unit (s := S8x4096) ![0, 2560] S8x512.size inb_S8x4096_S8x512_0_2560))
    (h7w : w7 = View.ld N (Rect.unit (s := S8x4096) ![0, 3072] S8x512.size inb_S8x4096_S8x512_0_3072))
    (h8w : w8 = View.ld N (Rect.unit (s := S8x4096) ![0, 3584] S8x512.size inb_S8x4096_S8x512_0_3584)) :
    m9.view.read (Elt F) (m9.view.writes (Elt F) f [
      ⟨Rect.unit (s := S1024x4096) (k0_off8 k) S8x512.size (k0_off8_inb k), w8⟩,
      ⟨Rect.unit (s := S1024x4096) (k0_off7 k) S8x512.size (k0_off7_inb k), w7⟩,
      ⟨Rect.unit (s := S1024x4096) (k0_off6 k) S8x512.size (k0_off6_inb k), w6⟩,
      ⟨Rect.unit (s := S1024x4096) (k0_off5 k) S8x512.size (k0_off5_inb k), w5⟩,
      ⟨Rect.unit (s := S1024x4096) (k0_off4 k) S8x512.size (k0_off4_inb k), w4⟩,
      ⟨Rect.unit (s := S1024x4096) (k0_off3 k) S8x512.size (k0_off3_inb k), w3⟩,
      ⟨Rect.unit (s := S1024x4096) (k0_off2 k) S8x512.size (k0_off2_inb k), w2⟩,
      ⟨Rect.unit (s := S1024x4096) (k0_off1 k) S8x512.size (k0_off1_inb k), w1⟩])
      = putRows (m9.view.read (Elt F) f) k.val N := by
  have hk : k.val < 128 := Nat.lt_of_lt_of_le k.isLt k0_t1_abs.2.1
  subst h1w h2w h3w h4w h5w h6w h7w h8w
  obtain ⟨h1, h2, h3, h4, h5, h6, h7, h8⟩ := off_rows k
  funext y
  have hy0 : (y 0).val < 1024 := (y 0).isLt
  have hy1 : (y 1).val < 4096 := (y 1).isLt
  by_cases h : (y 0).val / 8 = k.val
  · rw [putRows, if_pos h]
    have hc : (y 1).val / 512 < 8 := by omega
    obtain hc | hc | hc | hc | hc | hc | hc | hc : (y 1).val / 512 = 0 ∨ (y 1).val / 512 = 1 ∨ (y 1).val / 512 = 2 ∨ (y 1).val / 512 = 3
        ∨ (y 1).val / 512 = 4 ∨ (y 1).val / 512 = 5 ∨ (y 1).val / 512 = 6 ∨ (y 1).val / 512 = 7 := by omega
    · refine (View.read_writes_cons_unit_of_not_mem _ _ _ _ _ y h8 1 (by simp; omega)).trans ?_
      refine (View.read_writes_cons_unit_of_not_mem _ _ _ _ _ y h7 1 (by simp; omega)).trans ?_
      refine (View.read_writes_cons_unit_of_not_mem _ _ _ _ _ y h6 1 (by simp; omega)).trans ?_
      refine (View.read_writes_cons_unit_of_not_mem _ _ _ _ _ y h5 1 (by simp; omega)).trans ?_
      refine (View.read_writes_cons_unit_of_not_mem _ _ _ _ _ y h4 1 (by simp; omega)).trans ?_
      refine (View.read_writes_cons_unit_of_not_mem _ _ _ _ _ y h3 1 (by simp; omega)).trans ?_
      refine (View.read_writes_cons_unit_of_not_mem _ _ _ _ _ y h2 1 (by simp; omega)).trans ?_
      refine (View.read_writes_cons_unit_of_mem _ _ _ _ _ y (ix2 ⟨(y 0).val % 8, by omega⟩ ⟨(y 1).val - 0, by omega⟩) h1
        (fun a => by fin_cases a <;> simp <;> omega)).trans ?_
      exact View.ld_unit_apply_of _ _ _ _ _ (ix2 ⟨(y 0).val % 8, Nat.mod_lt _ (by decide)⟩ (y 1)) (fun a => by fin_cases a <;> simp <;> omega)
    · refine (View.read_writes_cons_unit_of_not_mem _ _ _ _ _ y h8 1 (by simp; omega)).trans ?_
      refine (View.read_writes_cons_unit_of_not_mem _ _ _ _ _ y h7 1 (by simp; omega)).trans ?_
      refine (View.read_writes_cons_unit_of_not_mem _ _ _ _ _ y h6 1 (by simp; omega)).trans ?_
      refine (View.read_writes_cons_unit_of_not_mem _ _ _ _ _ y h5 1 (by simp; omega)).trans ?_
      refine (View.read_writes_cons_unit_of_not_mem _ _ _ _ _ y h4 1 (by simp; omega)).trans ?_
      refine (View.read_writes_cons_unit_of_not_mem _ _ _ _ _ y h3 1 (by simp; omega)).trans ?_
      refine (View.read_writes_cons_unit_of_mem _ _ _ _ _ y (ix2 ⟨(y 0).val % 8, by omega⟩ ⟨(y 1).val - 512, by omega⟩) h2
        (fun a => by fin_cases a <;> simp <;> omega)).trans ?_
      exact View.ld_unit_apply_of _ _ _ _ _ (ix2 ⟨(y 0).val % 8, Nat.mod_lt _ (by decide)⟩ (y 1)) (fun a => by fin_cases a <;> simp; omega)
    · refine (View.read_writes_cons_unit_of_not_mem _ _ _ _ _ y h8 1 (by simp; omega)).trans ?_
      refine (View.read_writes_cons_unit_of_not_mem _ _ _ _ _ y h7 1 (by simp; omega)).trans ?_
      refine (View.read_writes_cons_unit_of_not_mem _ _ _ _ _ y h6 1 (by simp; omega)).trans ?_
      refine (View.read_writes_cons_unit_of_not_mem _ _ _ _ _ y h5 1 (by simp; omega)).trans ?_
      refine (View.read_writes_cons_unit_of_not_mem _ _ _ _ _ y h4 1 (by simp; omega)).trans ?_
      refine (View.read_writes_cons_unit_of_mem _ _ _ _ _ y (ix2 ⟨(y 0).val % 8, by omega⟩ ⟨(y 1).val - 1024, by omega⟩) h3
        (fun a => by fin_cases a <;> simp <;> omega)).trans ?_
      exact View.ld_unit_apply_of _ _ _ _ _ (ix2 ⟨(y 0).val % 8, Nat.mod_lt _ (by decide)⟩ (y 1)) (fun a => by fin_cases a <;> simp; omega)
    · refine (View.read_writes_cons_unit_of_not_mem _ _ _ _ _ y h8 1 (by simp; omega)).trans ?_
      refine (View.read_writes_cons_unit_of_not_mem _ _ _ _ _ y h7 1 (by simp; omega)).trans ?_
      refine (View.read_writes_cons_unit_of_not_mem _ _ _ _ _ y h6 1 (by simp; omega)).trans ?_
      refine (View.read_writes_cons_unit_of_not_mem _ _ _ _ _ y h5 1 (by simp; omega)).trans ?_
      refine (View.read_writes_cons_unit_of_mem _ _ _ _ _ y (ix2 ⟨(y 0).val % 8, by omega⟩ ⟨(y 1).val - 1536, by omega⟩) h4
        (fun a => by fin_cases a <;> simp <;> omega)).trans ?_
      exact View.ld_unit_apply_of _ _ _ _ _ (ix2 ⟨(y 0).val % 8, Nat.mod_lt _ (by decide)⟩ (y 1)) (fun a => by fin_cases a <;> simp; omega)
    · refine (View.read_writes_cons_unit_of_not_mem _ _ _ _ _ y h8 1 (by simp; omega)).trans ?_
      refine (View.read_writes_cons_unit_of_not_mem _ _ _ _ _ y h7 1 (by simp; omega)).trans ?_
      refine (View.read_writes_cons_unit_of_not_mem _ _ _ _ _ y h6 1 (by simp; omega)).trans ?_
      refine (View.read_writes_cons_unit_of_mem _ _ _ _ _ y (ix2 ⟨(y 0).val % 8, by omega⟩ ⟨(y 1).val - 2048, by omega⟩) h5
        (fun a => by fin_cases a <;> simp <;> omega)).trans ?_
      exact View.ld_unit_apply_of _ _ _ _ _ (ix2 ⟨(y 0).val % 8, Nat.mod_lt _ (by decide)⟩ (y 1)) (fun a => by fin_cases a <;> simp; omega)
    · refine (View.read_writes_cons_unit_of_not_mem _ _ _ _ _ y h8 1 (by simp; omega)).trans ?_
      refine (View.read_writes_cons_unit_of_not_mem _ _ _ _ _ y h7 1 (by simp; omega)).trans ?_
      refine (View.read_writes_cons_unit_of_mem _ _ _ _ _ y (ix2 ⟨(y 0).val % 8, by omega⟩ ⟨(y 1).val - 2560, by omega⟩) h6
        (fun a => by fin_cases a <;> simp <;> omega)).trans ?_
      exact View.ld_unit_apply_of _ _ _ _ _ (ix2 ⟨(y 0).val % 8, Nat.mod_lt _ (by decide)⟩ (y 1)) (fun a => by fin_cases a <;> simp; omega)
    · refine (View.read_writes_cons_unit_of_not_mem _ _ _ _ _ y h8 1 (by simp; omega)).trans ?_
      refine (View.read_writes_cons_unit_of_mem _ _ _ _ _ y (ix2 ⟨(y 0).val % 8, by omega⟩ ⟨(y 1).val - 3072, by omega⟩) h7
        (fun a => by fin_cases a <;> simp <;> omega)).trans ?_
      exact View.ld_unit_apply_of _ _ _ _ _ (ix2 ⟨(y 0).val % 8, Nat.mod_lt _ (by decide)⟩ (y 1)) (fun a => by fin_cases a <;> simp; omega)
    · refine (View.read_writes_cons_unit_of_mem _ _ _ _ _ y (ix2 ⟨(y 0).val % 8, by omega⟩ ⟨(y 1).val - 3584, by omega⟩) h8
        (fun a => by fin_cases a <;> simp <;> omega)).trans ?_
      exact View.ld_unit_apply_of _ _ _ _ _ (ix2 ⟨(y 0).val % 8, Nat.mod_lt _ (by decide)⟩ (y 1)) (fun a => by fin_cases a <;> simp; omega)
  · rw [putRows, if_neg h]
    refine (View.read_writes_cons_unit_of_not_mem _ _ _ _ _ y h8 0 (by simp; omega)).trans ?_
    refine (View.read_writes_cons_unit_of_not_mem _ _ _ _ _ y h7 0 (by simp; omega)).trans ?_
    refine (View.read_writes_cons_unit_of_not_mem _ _ _ _ _ y h6 0 (by simp; omega)).trans ?_
    refine (View.read_writes_cons_unit_of_not_mem _ _ _ _ _ y h5 0 (by simp; omega)).trans ?_
    refine (View.read_writes_cons_unit_of_not_mem _ _ _ _ _ y h4 0 (by simp; omega)).trans ?_
    refine (View.read_writes_cons_unit_of_not_mem _ _ _ _ _ y h3 0 (by simp; omega)).trans ?_
    refine (View.read_writes_cons_unit_of_not_mem _ _ _ _ _ y h2 0 (by simp; omega)).trans ?_
    refine (View.read_writes_cons_unit_of_not_mem _ _ _ _ _ y h1 0 (by simp; omega)).trans ?_
    rfl

/-- One trip of the loop, from any state and any buffer. -/
theorem trip (𝒱 : Variants) (c : Dev nD) (bd : Option 𝒱.V) (E : Set ℕ) (i : grid0.Coords)
    (arg1 : Memref sig .tc .vmem S128x4x512 .f32) (harg1 : arg1.IsWhole)
    (arg2 : Memref sig .tc .vmem S128x4x512 .f32) (harg2 : arg2.IsWhole)
    (arg3 : Memref sig .tc .vmem S4x256x1024 .bf16) (harg3 : arg3.IsWhole)
    (arg4 : Memref sig .tc .vmem S4x1024x256 .bf16) (harg4 : arg4.IsWhole)
    (arg5 : Memref sig .tc .vmem S1x8x4096 .f32) (harg5 : arg5.IsWhole)
    (arg6 : Memref sig .tc .vmem S128x8x512 .f32) (harg6 : arg6.IsWhole)
    (arg7 : Memref sig .tc .vmem S128x8x512 .f32) (harg7 : arg7.IsWhole)
    (arg8 : Memref sig .tc .vmem S8x4096 .f32) (harg8 : arg8.IsWhole)
    (arg9 : Memref sig .tc .vmem S1024x4096 .f32) (harg9 : arg9.IsWhole)
    (arg10 : Memref sig .tc .vmem S128x4x512 .f32) (harg10 : arg10.IsWhole)
    (v686 : FVec F S1024x256 .bf16) (v688 : FVec F S256x1024 .bf16)
    (f5 : BufTy.Contents (Elt F) arg5.view.ty) (f9 : BufTy.Contents (Elt F) arg9.view.ty)
    (H : Vec F S8x4096 .f32) (k : Fin k0_t1_loop.trips) :
    (iprop((arg5.view.loc (c : Thread nD τ) ↦[arg5.view.set]{fullShare} f5)
        ∗ (arg9.view.loc (c : Thread nD τ) ↦[arg9.view.set]{fullShare} f9)) : sProp 𝕄)
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 arg10 harg10 v686 v688 k (comps H))
          (fun y => iprop((arg5.view.loc (c : Thread nD τ) ↦[arg5.view.set]{fullShare} f5)
            ∗ (∃ g, (arg9.view.loc (c : Thread nD τ) ↦[arg9.view.set]{fullShare} g)
              ∗ ⌜arg9.view.read (Elt F) g = putRows (arg9.view.read (Elt F) f9) k.val (next (arg5.view.read (Elt F) f5) (rowsOf (arg9.view.read (Elt F) f9) k.val) H)⌝)
            ∗ ⌜y = comps (next (arg5.view.read (Elt F) f5) (rowsOf (arg9.view.read (Elt F) f9) k.val) H)⌝)) := by
  have hk : k.val < 128 := Nat.lt_of_lt_of_le k.isLt k0_t1_abs.2.1
  unfold k0_t1_body comps
  iintro ⟨H5, H9⟩
  sl_exec
  sl_step
  isplitl [H5]; · iexact H5
  isplitl [H9]
  · iexists _
    isplitl [H9]; · iexact H9
    ipureintro
    exact put_read arg9 f9 _ k _ _ _ _ _ _ _ _ ((shapeCast_self _ _).trans (step_re0 (arg5.view.read (Elt F) f5) (arg9.view.read (Elt F) f9) H k)) ((shapeCast_self _ _).trans (step_im0 (arg5.view.read (Elt F) f5) (arg9.view.read (Elt F) f9) H k)) ((shapeCast_self _ _).trans (step_re1 (arg5.view.read (Elt F) f5) (arg9.view.read (Elt F) f9) H k)) ((shapeCast_self _ _).trans (step_im1 (arg5.view.read (Elt F) f5) (arg9.view.read (Elt F) f9) H k)) ((shapeCast_self _ _).trans (step_re2 (arg5.view.read (Elt F) f5) (arg9.view.read (Elt F) f9) H k)) ((shapeCast_self _ _).trans (step_im2 (arg5.view.read (Elt F) f5) (arg9.view.read (Elt F) f9) H k)) ((shapeCast_self _ _).trans (step_re3 (arg5.view.read (Elt F) f5) (arg9.view.read (Elt F) f9) H k)) ((shapeCast_self _ _).trans (step_im3 (arg5.view.read (Elt F) f5) (arg9.view.read (Elt F) f9) H k))
  · ipureintro
    exact (Prod.ext (step_re0 (arg5.view.read (Elt F) f5) (arg9.view.read (Elt F) f9) H k) (Prod.ext (step_im0 (arg5.view.read (Elt F) f5) (arg9.view.read (Elt F) f9) H k) (Prod.ext (step_re1 (arg5.view.read (Elt F) f5) (arg9.view.read (Elt F) f9) H k) (Prod.ext (step_im1 (arg5.view.read (Elt F) f5) (arg9.view.read (Elt F) f9) H k) (Prod.ext (step_re2 (arg5.view.read (Elt F) f5) (arg9.view.read (Elt F) f9) H k) (Prod.ext (step_im2 (arg5.view.read (Elt F) f5) (arg9.view.read (Elt F) f9) H k) (Prod.ext (step_re3 (arg5.view.read (Elt F) f5) (arg9.view.read (Elt F) f9) H k) (step_im3 (arg5.view.read (Elt F) f5) (arg9.view.read (Elt F) f9) H k))))))))

/-- The state before time step `k` of the block. -/
def St (a : Vec F S1x8x4096 .f32) (d : Vec F S1024x4096 .f32) (H : Vec F S8x4096 .f32) : ℕ → Vec F S8x4096 .f32
  | 0 => H
  | k + 1 => next a (rowsOf d k) (St a d H k)

/-- The buffer before time step `k`: the states of the steps gone by, then the driving rows. -/
def buAt (a : Vec F S1x8x4096 .f32) (d : Vec F S1024x4096 .f32) (H : Vec F S8x4096 .f32) (k : ℕ) : Vec F S1024x4096 .f32 :=
  fun j => if (j 0).val / 8 < k then St a d H ((j 0).val / 8 + 1) (ix2 ⟨(j 0).val % 8, Nat.mod_lt _ (by decide)⟩ (j 1)) else d j

theorem rowsOf_buAt (a : Vec F S1x8x4096 .f32) (d : Vec F S1024x4096 .f32) (H : Vec F S8x4096 .f32) (k : ℕ) (hk : k < 128) :
    rowsOf (buAt a d H k) k = rowsOf d k := by
  funext j
  have hj : (j 0).val < 8 := (j 0).isLt
  exact if_neg (by show ¬ ((8 * k + (j 0).val) % 1024) / 8 < k; omega)

theorem putRows_buAt (a : Vec F S1x8x4096 .f32) (d : Vec F S1024x4096 .f32) (H : Vec F S8x4096 .f32) (k : ℕ) (hk : k < 128) :
    putRows (buAt a d H k) k (St a d H (k + 1)) = buAt a d H (k + 1) := by
  funext j
  unfold putRows buAt
  by_cases h : (j 0).val / 8 = k
  · rw [if_pos h, if_pos (by omega), h]
  · rw [if_neg h]
    by_cases h' : (j 0).val / 8 < k
    · rw [if_pos h', if_pos (by omega)]
    · rw [if_neg h', if_neg (by omega)]

theorem buAt_zero (a : Vec F S1x8x4096 .f32) (d : Vec F S1024x4096 .f32) (H : Vec F S8x4096 .f32) : buAt a d H 0 = d :=
  funext fun j => if_neg (Nat.not_lt_zero _)

set_option warn.classDefReducibility false in
/-- The loop by its invariant: the factors stay, the buffer holds the states gone by, the loop carries the state. -/
def loopInv (𝒱 : Variants) (c : Dev nD) (bd : Option 𝒱.V) (E : Set ℕ) (i : grid0.Coords)
    (arg1 : Memref sig .tc .vmem S128x4x512 .f32) (harg1 : arg1.IsWhole)
    (arg2 : Memref sig .tc .vmem S128x4x512 .f32) (harg2 : arg2.IsWhole)
    (arg3 : Memref sig .tc .vmem S4x256x1024 .bf16) (harg3 : arg3.IsWhole)
    (arg4 : Memref sig .tc .vmem S4x1024x256 .bf16) (harg4 : arg4.IsWhole)
    (arg5 : Memref sig .tc .vmem S1x8x4096 .f32) (harg5 : arg5.IsWhole)
    (arg6 : Memref sig .tc .vmem S128x8x512 .f32) (harg6 : arg6.IsWhole)
    (arg7 : Memref sig .tc .vmem S128x8x512 .f32) (harg7 : arg7.IsWhole)
    (arg8 : Memref sig .tc .vmem S8x4096 .f32) (harg8 : arg8.IsWhole)
    (arg9 : Memref sig .tc .vmem S1024x4096 .f32) (harg9 : arg9.IsWhole)
    (arg10 : Memref sig .tc .vmem S128x4x512 .f32) (harg10 : arg10.IsWhole)
    (v686 : FVec F S1024x256 .bf16) (v688 : FVec F S256x1024 .bf16)
    (f5 : BufTy.Contents (Elt F) arg5.view.ty) (d : Vec F S1024x4096 .f32) (H : Vec F S8x4096 .f32) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok (comps H) (k0_t1_body (F := F) i arg1 harg1 arg2 harg2 arg3 harg3 arg4 harg4 arg5 harg5 arg6 harg6 arg7 harg7 arg8 harg8 arg9 harg9 arg10 harg10 v686 v688) where
  inv k acc := iprop((arg5.view.loc (c : Thread nD τ) ↦[arg5.view.set]{fullShare} f5)
    ∗ (∃ g, (arg9.view.loc (c : Thread nD τ) ↦[arg9.view.set]{fullShare} g)
        ∗ ⌜arg9.view.read (Elt F) g = buAt (arg5.view.read (Elt F) f5) d H k⌝)
    ∗ ⌜acc = comps (St (arg5.view.read (Elt F) f5) d H k)⌝)
  step k acc := by
    have hk : k.val < 128 := Nat.lt_of_lt_of_le k.isLt k0_t1_abs.2.1
    iintro ⟨H5, ⟨%f9, H9, %h9⟩, %hacc⟩
    subst hacc
    iapply (wp_wand_r Idealize.ShloMosaic.frame (wpE (defs₀ (F := F)) 𝒱 (c : Thread nD τ) bd) E)
    isplitl [H5 H9]
    · iapply (trip (F := F) 𝒱 c bd E i arg1 harg1 arg2 harg2 arg3 harg3 arg4 harg4 arg5 harg5 arg6 harg6 arg7 harg7 arg8 harg8 arg9 harg9 arg10 harg10 v686 v688 f5 f9 (St (arg5.view.read (Elt F) f5) d H k.val) k)
      isplitl [H5]; · iexact H5
      iexact H9
    · iintro %y ⟨H5, ⟨%g, H9, %hg⟩, %hy⟩
      isplitl [H5]; · iexact H5
      rw [h9, rowsOf_buAt _ _ _ _ hk] at hg
      rw [h9, rowsOf_buAt _ _ _ _ hk] at hy
      isplitl [H9]
      · iexists _; isplitl [H9]; · iexact H9
        ipureintro; exact hg.trans (putRows_buAt _ _ _ _ hk)
      · ipureintro; exact hy

/-- The whole loop at the head of a program: all 128 time steps, the states they leave in the buffer and the state
    they end with. -/
theorem loop_wp (𝒱 : Variants) (c : Dev nD) (bd : Option 𝒱.V) (E : Set ℕ) (i : grid0.Coords)
(arg1 : Memref sig .tc .vmem S128x4x512 .f32) (harg1 : arg1.IsWhole)
    (arg2 : Memref sig .tc .vmem S128x4x512 .f32) (harg2 : arg2.IsWhole)
    (arg3 : Memref sig .tc .vmem S4x256x1024 .bf16) (harg3 : arg3.IsWhole)
    (arg4 : Memref sig .tc .vmem S4x1024x256 .bf16) (harg4 : arg4.IsWhole)
    (arg5 : Memref sig .tc .vmem S1x8x4096 .f32) (harg5 : arg5.IsWhole)
    (arg6 : Memref sig .tc .vmem S128x8x512 .f32) (harg6 : arg6.IsWhole)
    (arg7 : Memref sig .tc .vmem S128x8x512 .f32) (harg7 : arg7.IsWhole)
    (arg8 : Memref sig .tc .vmem S8x4096 .f32) (harg8 : arg8.IsWhole)
    (arg9 : Memref sig .tc .vmem S1024x4096 .f32) (harg9 : arg9.IsWhole)
    (arg10 : Memref sig .tc .vmem S128x4x512 .f32) (harg10 : arg10.IsWhole)
    (v686 : FVec F S1024x256 .bf16) (v688 : FVec F S256x1024 .bf16)
    (f5 : BufTy.Contents (Elt F) arg5.view.ty) (g0 : BufTy.Contents (Elt F) arg9.view.ty) (H : Vec F S8x4096 .f32)
    {β : Type} {kk : _ → Prog (TpuEff nD τ sig (Elt F) Λ₀ .tc) β} {Q : β → sProp 𝕄} :
    iprop((arg5.view.loc (c : Thread nD τ) ↦[arg5.view.set]{fullShare} f5)
        ∗ (arg9.view.loc (c : Thread nD τ) ↦[arg9.view.set]{fullShare} g0))
      ⊢ iprop((∀ acc, iprop((arg5.view.loc (c : Thread nD τ) ↦[arg5.view.set]{fullShare} f5)
            ∗ (∃ g, (arg9.view.loc (c : Thread nD τ) ↦[arg9.view.set]{fullShare} g)
                ∗ ⌜arg9.view.read (Elt F) g = buAt (arg5.view.read (Elt F) f5) (arg9.view.read (Elt F) g0) H 128⌝)
            ∗ ⌜acc = comps (St (arg5.view.read (Elt F) f5) (arg9.view.read (Elt F) g0) H 128)⌝)
          -∗ wp Idealize.ShloMosaic.frame (wpE (defs₀ (F := F)) 𝒱 (c : Thread nD τ) bd) E (kk acc) Q)
        -∗ wp Idealize.ShloMosaic.frame (wpE (defs₀ (F := F)) 𝒱 (c : Thread nD τ) bd) E
          (Scf.for k0_t1_loop.lb k0_t1_loop.ub k0_t1_loop.st k0_t1_ok (comps H) (k0_t1_body (F := F) i arg1 harg1 arg2 harg2 arg3 harg3 arg4 harg4 arg5 harg5 arg6 harg6 arg7 harg7 arg8 harg8 arg9 harg9 arg10 harg10 v686 v688) >>= kk) Q) := by
  have htr : Scf.trips k0_t1_loop.lb k0_t1_loop.ub k0_t1_loop.st = 128 := by decide +kernel
  have h := Idealize.ShloMosaic.exec_loop (M := 𝕄) Idealize.ShloMosaic.frame (wpE (defs₀ (F := F)) 𝒱 (c : Thread nD τ) bd) E
    _ _ _ k0_t1_ok _ _ (loopInv (F := F) 𝒱 c bd E i arg1 harg1 arg2 harg2 arg3 harg3 arg4 harg4 arg5 harg5 arg6 harg6 arg7 harg7 arg8 harg8 arg9 harg9 arg10 harg10 v686 v688 f5 (arg9.view.read (Elt F) g0) H) (kk := kk) (Q := Q)
  rw [htr] at h
  refine BIBase.Entails.trans ?_ h
  show _ ⊢ iprop((arg5.view.loc (c : Thread nD τ) ↦[arg5.view.set]{fullShare} f5)
    ∗ (∃ g, (arg9.view.loc (c : Thread nD τ) ↦[arg9.view.set]{fullShare} g)
        ∗ ⌜arg9.view.read (Elt F) g = buAt (arg5.view.read (Elt F) f5) (arg9.view.read (Elt F) g0) H 0⌝)
    ∗ ⌜comps H = comps (St (arg5.view.read (Elt F) f5) (arg9.view.read (Elt F) g0) H 0)⌝)
  iintro ⟨H5, H9⟩
  isplitl [H5]; · iexact H5
  isplitl [H9]
  · iexists _; isplitl [H9]; · iexact H9
    ipureintro; exact (buAt_zero _ _ _).symm
  · ipureintro; rfl

end Cert.ScanIdeal.Gen

end
-- ==== Proof.ScanIdealPieces.lean ====
module

public import proofs.«01_k».proof.Proof.ScanIdealStep
public import Idealize.ShloMosaic.Lib.VecWindow

/-! What the scan kernel's staged stores leave: a list of pieces that tile a buffer and each hold one function's values
    leave that function; the reversed copies; the projected inputs by column quarter; the outputs. -/

@[expose] public section

set_option maxRecDepth 16384

noncomputable section

namespace Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Pieces that tile the shape and hold the values of `G` leave `G`. -/
theorem read_of_pieces {sp} {s : Shape} {e} (v : View sig .tc sp s e)
    (f : BufTy.Contents (Elt F) v.ty) (G : s.Idx → Elt F e) (L : List (View.Piece (Elt F) s e))
    (hG : ∀ p ∈ L, ∀ x : p.1.shape.Idx, p.2 x = G (p.1.emb x)) (size : Fin s.rank → ℕ)
    (hc : View.Piece.tiledL L size = true) :
    v.read (Elt F) (v.writes (Elt F) f L) = G :=
  funext fun y => View.read_writes_apply_of_pieces v f G L hG y (View.cover_of_tiledL L size hc y)

/-- The time steps of a block, last first. -/
def rev4 (x : Vec F S128x4x512 .f32) : Vec F S128x4x512 .f32 := fun j => x (ix3 ⟨127 - (j 0).val, by omega⟩ (j 1) (j 2))

/-- The time steps of a block of results, last first. -/
def rev8 (x : Vec F S128x8x512 .f32) : Vec F S128x8x512 .f32 := fun j => x (ix3 ⟨127 - (j 0).val, by omega⟩ (j 1) (j 2))

theorem piece4 (X : Vec F S128x4x512 .f32) (s t : ℕ) (hst : s + t = 127) (is) (it)
    (w : Vec F S1x4x512 .f32)
    (hw : w = shapeCast S1x4x512 (shapeCast S4x512 (View.ld X (Rect.unit (s := S128x4x512) ![s, 0, 0] S1x4x512.size is))
      shapeCasts_S1x4x512_S4x512) shapeCasts_S4x512_S1x4x512)
    (x : (Rect.unit (s := S128x4x512) ![t, 0, 0] S1x4x512.size it).shape.Idx) :
    w x = rev4 X ((Rect.unit (s := S128x4x512) ![t, 0, 0] S1x4x512.size it).emb x) := by
  subst hw
  obtain ⟨p, r, q, rfl⟩ : ∃ (p : Fin 1) (r : Fin 4) (q : Fin 512), x = ix3 p r q := ⟨x 0, x 1, x 2, by blk_ext []⟩
  obtain rfl : p = 0 := Subsingleton.elim _ _
  have e : View.ld X (Rect.unit (s := S128x4x512) ![s, 0, 0] S1x4x512.size is) (ix3 0 r q) = X (ix3 ⟨s, by omega⟩ r q) :=
    View.ld_unit_apply_of _ _ _ _ _ _ (fun a => by fin_cases a <;> simp)
  generalize View.ld X (Rect.unit (s := S128x4x512) ![s, 0, 0] S1x4x512.size is) = Z at *
  pointwise []
  refine e.trans (congrArg X ?_)
  have h0 : (((Rect.unit (s := S128x4x512) ![t, 0, 0] S1x4x512.size it).emb (ix3 (0 : Fin 1) r q)) 0).val = t := by
    rw [Rect.emb_apply]; simp
  have h1 : (((Rect.unit (s := S128x4x512) ![t, 0, 0] S1x4x512.size it).emb (ix3 (0 : Fin 1) r q)) 1).val = r.val := by
    rw [Rect.emb_apply]; simp
  have h2 : (((Rect.unit (s := S128x4x512) ![t, 0, 0] S1x4x512.size it).emb (ix3 (0 : Fin 1) r q)) 2).val = q.val := by
    rw [Rect.emb_apply]; simp
  funext a; apply Fin.ext
  fin_cases a
  · show s = 127 - _; rw [h0]; omega
  · exact h1.symm
  · exact h2.symm

theorem piece8 (X : Vec F S128x8x512 .f32) (s t : ℕ) (hst : s + t = 127) (is) (it)
    (w : Vec F S1x8x512 .f32)
    (hw : w = shapeCast S1x8x512 (shapeCast S8x512 (extractStridedSlice S1x8x512 ![s, 0, 0] X is)
      shapeCasts_S1x8x512_S8x512) shapeCasts_S8x512_S1x8x512)
    (x : (Rect.unit (s := S128x8x512) ![t, 0, 0] S1x8x512.size it).shape.Idx) :
    w x = rev8 X ((Rect.unit (s := S128x8x512) ![t, 0, 0] S1x8x512.size it).emb x) := by
  subst hw
  obtain ⟨p, r, q, rfl⟩ : ∃ (p : Fin 1) (r : Fin 8) (q : Fin 512), x = ix3 p r q := ⟨x 0, x 1, x 2, by blk_ext []⟩
  obtain rfl : p = 0 := Subsingleton.elim _ _
  have e : extractStridedSlice S1x8x512 ![s, 0, 0] X is (ix3 0 r q) = X (ix3 ⟨s, by omega⟩ r q) := by
    refine congrArg X (funext fun a => Fin.ext ?_)
    fin_cases a <;> simp
  generalize extractStridedSlice S1x8x512 ![s, 0, 0] X is = Z at *
  pointwise []
  refine e.trans (congrArg X ?_)
  have h0 : (((Rect.unit (s := S128x8x512) ![t, 0, 0] S1x8x512.size it).emb (ix3 (0 : Fin 1) r q)) 0).val = t := by
    rw [Rect.emb_apply]; simp
  have h1 : (((Rect.unit (s := S128x8x512) ![t, 0, 0] S1x8x512.size it).emb (ix3 (0 : Fin 1) r q)) 1).val = r.val := by
    rw [Rect.emb_apply]; simp
  have h2 : (((Rect.unit (s := S128x8x512) ![t, 0, 0] S1x8x512.size it).emb (ix3 (0 : Fin 1) r q)) 2).val = q.val := by
    rw [Rect.emb_apply]; simp
  funext a; apply Fin.ext
  fin_cases a
  · show s = 127 - _; rw [h0]; omega
  · exact h1.symm
  · exact h2.symm

/-- Time step `s` of a block stored at place `t`. -/
abbrev put4 (X : Vec F S128x4x512 .f32) (s t : ℕ) (is : ∀ a, (![s, 0, 0] : Fin 3 → Nat) a + S1x4x512.size a ≤ S128x4x512.size a)
    (it : ∀ a, (![t, 0, 0] : Fin 3 → Nat) a + S1x4x512.size a ≤ S128x4x512.size a) : View.Piece (Elt F) S128x4x512 .f32 :=
  ⟨Rect.unit (s := S128x4x512) ![t, 0, 0] S1x4x512.size it,
    shapeCast S1x4x512 (shapeCast S4x512 (View.ld X (Rect.unit (s := S128x4x512) ![s, 0, 0] S1x4x512.size is))
      shapeCasts_S1x4x512_S4x512) shapeCasts_S4x512_S1x4x512⟩

/-- Time step `s` of a block of results stored at place `t`. -/
abbrev put8 (X : Vec F S128x8x512 .f32) (s t : ℕ) (is : S128x8x512.Slices ![s, 0, 0] S1x8x512)
    (it : ∀ a, (![t, 0, 0] : Fin 3 → Nat) a + S1x8x512.size a ≤ S128x8x512.size a) : View.Piece (Elt F) S128x8x512 .f32 :=
  ⟨Rect.unit (s := S128x8x512) ![t, 0, 0] S1x8x512.size it,
    shapeCast S1x8x512 (shapeCast S8x512 (extractStridedSlice S1x8x512 ![s, 0, 0] X is)
      shapeCasts_S1x8x512_S8x512) shapeCasts_S8x512_S1x8x512⟩

/-- The stores of the reversed copy of a block, the last first. -/
def puts4 (X : Vec F S128x4x512 .f32) : List (View.Piece (Elt F) S128x4x512 .f32) :=
  [put4 X 0 127 inb_S128x4x512_S1x4x512_0_0_0 inb_S128x4x512_S1x4x512_127_0_0,
   put4 X 1 126 inb_S128x4x512_S1x4x512_1_0_0 inb_S128x4x512_S1x4x512_126_0_0,
   put4 X 2 125 inb_S128x4x512_S1x4x512_2_0_0 inb_S128x4x512_S1x4x512_125_0_0,
   put4 X 3 124 inb_S128x4x512_S1x4x512_3_0_0 inb_S128x4x512_S1x4x512_124_0_0,
   put4 X 4 123 inb_S128x4x512_S1x4x512_4_0_0 inb_S128x4x512_S1x4x512_123_0_0,
   put4 X 5 122 inb_S128x4x512_S1x4x512_5_0_0 inb_S128x4x512_S1x4x512_122_0_0,
   put4 X 6 121 inb_S128x4x512_S1x4x512_6_0_0 inb_S128x4x512_S1x4x512_121_0_0,
   put4 X 7 120 inb_S128x4x512_S1x4x512_7_0_0 inb_S128x4x512_S1x4x512_120_0_0,
   put4 X 8 119 inb_S128x4x512_S1x4x512_8_0_0 inb_S128x4x512_S1x4x512_119_0_0,
   put4 X 9 118 inb_S128x4x512_S1x4x512_9_0_0 inb_S128x4x512_S1x4x512_118_0_0,
   put4 X 10 117 inb_S128x4x512_S1x4x512_10_0_0 inb_S128x4x512_S1x4x512_117_0_0,
   put4 X 11 116 inb_S128x4x512_S1x4x512_11_0_0 inb_S128x4x512_S1x4x512_116_0_0,
   put4 X 12 115 inb_S128x4x512_S1x4x512_12_0_0 inb_S128x4x512_S1x4x512_115_0_0,
   put4 X 13 114 inb_S128x4x512_S1x4x512_13_0_0 inb_S128x4x512_S1x4x512_114_0_0,
   put4 X 14 113 inb_S128x4x512_S1x4x512_14_0_0 inb_S128x4x512_S1x4x512_113_0_0,
   put4 X 15 112 inb_S128x4x512_S1x4x512_15_0_0 inb_S128x4x512_S1x4x512_112_0_0,
   put4 X 16 111 inb_S128x4x512_S1x4x512_16_0_0 inb_S128x4x512_S1x4x512_111_0_0,
   put4 X 17 110 inb_S128x4x512_S1x4x512_17_0_0 inb_S128x4x512_S1x4x512_110_0_0,
   put4 X 18 109 inb_S128x4x512_S1x4x512_18_0_0 inb_S128x4x512_S1x4x512_109_0_0,
   put4 X 19 108 inb_S128x4x512_S1x4x512_19_0_0 inb_S128x4x512_S1x4x512_108_0_0,
   put4 X 20 107 inb_S128x4x512_S1x4x512_20_0_0 inb_S128x4x512_S1x4x512_107_0_0,
   put4 X 21 106 inb_S128x4x512_S1x4x512_21_0_0 inb_S128x4x512_S1x4x512_106_0_0,
   put4 X 22 105 inb_S128x4x512_S1x4x512_22_0_0 inb_S128x4x512_S1x4x512_105_0_0,
   put4 X 23 104 inb_S128x4x512_S1x4x512_23_0_0 inb_S128x4x512_S1x4x512_104_0_0,
   put4 X 24 103 inb_S128x4x512_S1x4x512_24_0_0 inb_S128x4x512_S1x4x512_103_0_0,
   put4 X 25 102 inb_S128x4x512_S1x4x512_25_0_0 inb_S128x4x512_S1x4x512_102_0_0,
   put4 X 26 101 inb_S128x4x512_S1x4x512_26_0_0 inb_S128x4x512_S1x4x512_101_0_0,
   put4 X 27 100 inb_S128x4x512_S1x4x512_27_0_0 inb_S128x4x512_S1x4x512_100_0_0,
   put4 X 28 99 inb_S128x4x512_S1x4x512_28_0_0 inb_S128x4x512_S1x4x512_99_0_0,
   put4 X 29 98 inb_S128x4x512_S1x4x512_29_0_0 inb_S128x4x512_S1x4x512_98_0_0,
   put4 X 30 97 inb_S128x4x512_S1x4x512_30_0_0 inb_S128x4x512_S1x4x512_97_0_0,
   put4 X 31 96 inb_S128x4x512_S1x4x512_31_0_0 inb_S128x4x512_S1x4x512_96_0_0,
   put4 X 32 95 inb_S128x4x512_S1x4x512_32_0_0 inb_S128x4x512_S1x4x512_95_0_0,
   put4 X 33 94 inb_S128x4x512_S1x4x512_33_0_0 inb_S128x4x512_S1x4x512_94_0_0,
   put4 X 34 93 inb_S128x4x512_S1x4x512_34_0_0 inb_S128x4x512_S1x4x512_93_0_0,
   put4 X 35 92 inb_S128x4x512_S1x4x512_35_0_0 inb_S128x4x512_S1x4x512_92_0_0,
   put4 X 36 91 inb_S128x4x512_S1x4x512_36_0_0 inb_S128x4x512_S1x4x512_91_0_0,
   put4 X 37 90 inb_S128x4x512_S1x4x512_37_0_0 inb_S128x4x512_S1x4x512_90_0_0,
   put4 X 38 89 inb_S128x4x512_S1x4x512_38_0_0 inb_S128x4x512_S1x4x512_89_0_0,
   put4 X 39 88 inb_S128x4x512_S1x4x512_39_0_0 inb_S128x4x512_S1x4x512_88_0_0,
   put4 X 40 87 inb_S128x4x512_S1x4x512_40_0_0 inb_S128x4x512_S1x4x512_87_0_0,
   put4 X 41 86 inb_S128x4x512_S1x4x512_41_0_0 inb_S128x4x512_S1x4x512_86_0_0,
   put4 X 42 85 inb_S128x4x512_S1x4x512_42_0_0 inb_S128x4x512_S1x4x512_85_0_0,
   put4 X 43 84 inb_S128x4x512_S1x4x512_43_0_0 inb_S128x4x512_S1x4x512_84_0_0,
   put4 X 44 83 inb_S128x4x512_S1x4x512_44_0_0 inb_S128x4x512_S1x4x512_83_0_0,
   put4 X 45 82 inb_S128x4x512_S1x4x512_45_0_0 inb_S128x4x512_S1x4x512_82_0_0,
   put4 X 46 81 inb_S128x4x512_S1x4x512_46_0_0 inb_S128x4x512_S1x4x512_81_0_0,
   put4 X 47 80 inb_S128x4x512_S1x4x512_47_0_0 inb_S128x4x512_S1x4x512_80_0_0,
   put4 X 48 79 inb_S128x4x512_S1x4x512_48_0_0 inb_S128x4x512_S1x4x512_79_0_0,
   put4 X 49 78 inb_S128x4x512_S1x4x512_49_0_0 inb_S128x4x512_S1x4x512_78_0_0,
   put4 X 50 77 inb_S128x4x512_S1x4x512_50_0_0 inb_S128x4x512_S1x4x512_77_0_0,
   put4 X 51 76 inb_S128x4x512_S1x4x512_51_0_0 inb_S128x4x512_S1x4x512_76_0_0,
   put4 X 52 75 inb_S128x4x512_S1x4x512_52_0_0 inb_S128x4x512_S1x4x512_75_0_0,
   put4 X 53 74 inb_S128x4x512_S1x4x512_53_0_0 inb_S128x4x512_S1x4x512_74_0_0,
   put4 X 54 73 inb_S128x4x512_S1x4x512_54_0_0 inb_S128x4x512_S1x4x512_73_0_0,
   put4 X 55 72 inb_S128x4x512_S1x4x512_55_0_0 inb_S128x4x512_S1x4x512_72_0_0,
   put4 X 56 71 inb_S128x4x512_S1x4x512_56_0_0 inb_S128x4x512_S1x4x512_71_0_0,
   put4 X 57 70 inb_S128x4x512_S1x4x512_57_0_0 inb_S128x4x512_S1x4x512_70_0_0,
   put4 X 58 69 inb_S128x4x512_S1x4x512_58_0_0 inb_S128x4x512_S1x4x512_69_0_0,
   put4 X 59 68 inb_S128x4x512_S1x4x512_59_0_0 inb_S128x4x512_S1x4x512_68_0_0,
   put4 X 60 67 inb_S128x4x512_S1x4x512_60_0_0 inb_S128x4x512_S1x4x512_67_0_0,
   put4 X 61 66 inb_S128x4x512_S1x4x512_61_0_0 inb_S128x4x512_S1x4x512_66_0_0,
   put4 X 62 65 inb_S128x4x512_S1x4x512_62_0_0 inb_S128x4x512_S1x4x512_65_0_0,
   put4 X 63 64 inb_S128x4x512_S1x4x512_63_0_0 inb_S128x4x512_S1x4x512_64_0_0,
   put4 X 64 63 inb_S128x4x512_S1x4x512_64_0_0 inb_S128x4x512_S1x4x512_63_0_0,
   put4 X 65 62 inb_S128x4x512_S1x4x512_65_0_0 inb_S128x4x512_S1x4x512_62_0_0,
   put4 X 66 61 inb_S128x4x512_S1x4x512_66_0_0 inb_S128x4x512_S1x4x512_61_0_0,
   put4 X 67 60 inb_S128x4x512_S1x4x512_67_0_0 inb_S128x4x512_S1x4x512_60_0_0,
   put4 X 68 59 inb_S128x4x512_S1x4x512_68_0_0 inb_S128x4x512_S1x4x512_59_0_0,
   put4 X 69 58 inb_S128x4x512_S1x4x512_69_0_0 inb_S128x4x512_S1x4x512_58_0_0,
   put4 X 70 57 inb_S128x4x512_S1x4x512_70_0_0 inb_S128x4x512_S1x4x512_57_0_0,
   put4 X 71 56 inb_S128x4x512_S1x4x512_71_0_0 inb_S128x4x512_S1x4x512_56_0_0,
   put4 X 72 55 inb_S128x4x512_S1x4x512_72_0_0 inb_S128x4x512_S1x4x512_55_0_0,
   put4 X 73 54 inb_S128x4x512_S1x4x512_73_0_0 inb_S128x4x512_S1x4x512_54_0_0,
   put4 X 74 53 inb_S128x4x512_S1x4x512_74_0_0 inb_S128x4x512_S1x4x512_53_0_0,
   put4 X 75 52 inb_S128x4x512_S1x4x512_75_0_0 inb_S128x4x512_S1x4x512_52_0_0,
   put4 X 76 51 inb_S128x4x512_S1x4x512_76_0_0 inb_S128x4x512_S1x4x512_51_0_0,
   put4 X 77 50 inb_S128x4x512_S1x4x512_77_0_0 inb_S128x4x512_S1x4x512_50_0_0,
   put4 X 78 49 inb_S128x4x512_S1x4x512_78_0_0 inb_S128x4x512_S1x4x512_49_0_0,
   put4 X 79 48 inb_S128x4x512_S1x4x512_79_0_0 inb_S128x4x512_S1x4x512_48_0_0,
   put4 X 80 47 inb_S128x4x512_S1x4x512_80_0_0 inb_S128x4x512_S1x4x512_47_0_0,
   put4 X 81 46 inb_S128x4x512_S1x4x512_81_0_0 inb_S128x4x512_S1x4x512_46_0_0,
   put4 X 82 45 inb_S128x4x512_S1x4x512_82_0_0 inb_S128x4x512_S1x4x512_45_0_0,
   put4 X 83 44 inb_S128x4x512_S1x4x512_83_0_0 inb_S128x4x512_S1x4x512_44_0_0,
   put4 X 84 43 inb_S128x4x512_S1x4x512_84_0_0 inb_S128x4x512_S1x4x512_43_0_0,
   put4 X 85 42 inb_S128x4x512_S1x4x512_85_0_0 inb_S128x4x512_S1x4x512_42_0_0,
   put4 X 86 41 inb_S128x4x512_S1x4x512_86_0_0 inb_S128x4x512_S1x4x512_41_0_0,
   put4 X 87 40 inb_S128x4x512_S1x4x512_87_0_0 inb_S128x4x512_S1x4x512_40_0_0,
   put4 X 88 39 inb_S128x4x512_S1x4x512_88_0_0 inb_S128x4x512_S1x4x512_39_0_0,
   put4 X 89 38 inb_S128x4x512_S1x4x512_89_0_0 inb_S128x4x512_S1x4x512_38_0_0,
   put4 X 90 37 inb_S128x4x512_S1x4x512_90_0_0 inb_S128x4x512_S1x4x512_37_0_0,
   put4 X 91 36 inb_S128x4x512_S1x4x512_91_0_0 inb_S128x4x512_S1x4x512_36_0_0,
   put4 X 92 35 inb_S128x4x512_S1x4x512_92_0_0 inb_S128x4x512_S1x4x512_35_0_0,
   put4 X 93 34 inb_S128x4x512_S1x4x512_93_0_0 inb_S128x4x512_S1x4x512_34_0_0,
   put4 X 94 33 inb_S128x4x512_S1x4x512_94_0_0 inb_S128x4x512_S1x4x512_33_0_0,
   put4 X 95 32 inb_S128x4x512_S1x4x512_95_0_0 inb_S128x4x512_S1x4x512_32_0_0,
   put4 X 96 31 inb_S128x4x512_S1x4x512_96_0_0 inb_S128x4x512_S1x4x512_31_0_0,
   put4 X 97 30 inb_S128x4x512_S1x4x512_97_0_0 inb_S128x4x512_S1x4x512_30_0_0,
   put4 X 98 29 inb_S128x4x512_S1x4x512_98_0_0 inb_S128x4x512_S1x4x512_29_0_0,
   put4 X 99 28 inb_S128x4x512_S1x4x512_99_0_0 inb_S128x4x512_S1x4x512_28_0_0,
   put4 X 100 27 inb_S128x4x512_S1x4x512_100_0_0 inb_S128x4x512_S1x4x512_27_0_0,
   put4 X 101 26 inb_S128x4x512_S1x4x512_101_0_0 inb_S128x4x512_S1x4x512_26_0_0,
   put4 X 102 25 inb_S128x4x512_S1x4x512_102_0_0 inb_S128x4x512_S1x4x512_25_0_0,
   put4 X 103 24 inb_S128x4x512_S1x4x512_103_0_0 inb_S128x4x512_S1x4x512_24_0_0,
   put4 X 104 23 inb_S128x4x512_S1x4x512_104_0_0 inb_S128x4x512_S1x4x512_23_0_0,
   put4 X 105 22 inb_S128x4x512_S1x4x512_105_0_0 inb_S128x4x512_S1x4x512_22_0_0,
   put4 X 106 21 inb_S128x4x512_S1x4x512_106_0_0 inb_S128x4x512_S1x4x512_21_0_0,
   put4 X 107 20 inb_S128x4x512_S1x4x512_107_0_0 inb_S128x4x512_S1x4x512_20_0_0,
   put4 X 108 19 inb_S128x4x512_S1x4x512_108_0_0 inb_S128x4x512_S1x4x512_19_0_0,
   put4 X 109 18 inb_S128x4x512_S1x4x512_109_0_0 inb_S128x4x512_S1x4x512_18_0_0,
   put4 X 110 17 inb_S128x4x512_S1x4x512_110_0_0 inb_S128x4x512_S1x4x512_17_0_0,
   put4 X 111 16 inb_S128x4x512_S1x4x512_111_0_0 inb_S128x4x512_S1x4x512_16_0_0,
   put4 X 112 15 inb_S128x4x512_S1x4x512_112_0_0 inb_S128x4x512_S1x4x512_15_0_0,
   put4 X 113 14 inb_S128x4x512_S1x4x512_113_0_0 inb_S128x4x512_S1x4x512_14_0_0,
   put4 X 114 13 inb_S128x4x512_S1x4x512_114_0_0 inb_S128x4x512_S1x4x512_13_0_0,
   put4 X 115 12 inb_S128x4x512_S1x4x512_115_0_0 inb_S128x4x512_S1x4x512_12_0_0,
   put4 X 116 11 inb_S128x4x512_S1x4x512_116_0_0 inb_S128x4x512_S1x4x512_11_0_0,
   put4 X 117 10 inb_S128x4x512_S1x4x512_117_0_0 inb_S128x4x512_S1x4x512_10_0_0,
   put4 X 118 9 inb_S128x4x512_S1x4x512_118_0_0 inb_S128x4x512_S1x4x512_9_0_0,
   put4 X 119 8 inb_S128x4x512_S1x4x512_119_0_0 inb_S128x4x512_S1x4x512_8_0_0,
   put4 X 120 7 inb_S128x4x512_S1x4x512_120_0_0 inb_S128x4x512_S1x4x512_7_0_0,
   put4 X 121 6 inb_S128x4x512_S1x4x512_121_0_0 inb_S128x4x512_S1x4x512_6_0_0,
   put4 X 122 5 inb_S128x4x512_S1x4x512_122_0_0 inb_S128x4x512_S1x4x512_5_0_0,
   put4 X 123 4 inb_S128x4x512_S1x4x512_123_0_0 inb_S128x4x512_S1x4x512_4_0_0,
   put4 X 124 3 inb_S128x4x512_S1x4x512_124_0_0 inb_S128x4x512_S1x4x512_3_0_0,
   put4 X 125 2 inb_S128x4x512_S1x4x512_125_0_0 inb_S128x4x512_S1x4x512_2_0_0,
   put4 X 126 1 inb_S128x4x512_S1x4x512_126_0_0 inb_S128x4x512_S1x4x512_1_0_0,
   put4 X 127 0 inb_S128x4x512_S1x4x512_127_0_0 inb_S128x4x512_S1x4x512_0_0_0]

/-- The stores of the reversed copy of a block of results, the last first. -/
def puts8 (X : Vec F S128x8x512 .f32) : List (View.Piece (Elt F) S128x8x512 .f32) :=
  [put8 X 127 0 slices_S128x8x512_o127_0_0_S1x8x512 inb_S128x8x512_S1x8x512_0_0_0,
   put8 X 126 1 slices_S128x8x512_o126_0_0_S1x8x512 inb_S128x8x512_S1x8x512_1_0_0,
   put8 X 125 2 slices_S128x8x512_o125_0_0_S1x8x512 inb_S128x8x512_S1x8x512_2_0_0,
   put8 X 124 3 slices_S128x8x512_o124_0_0_S1x8x512 inb_S128x8x512_S1x8x512_3_0_0,
   put8 X 123 4 slices_S128x8x512_o123_0_0_S1x8x512 inb_S128x8x512_S1x8x512_4_0_0,
   put8 X 122 5 slices_S128x8x512_o122_0_0_S1x8x512 inb_S128x8x512_S1x8x512_5_0_0,
   put8 X 121 6 slices_S128x8x512_o121_0_0_S1x8x512 inb_S128x8x512_S1x8x512_6_0_0,
   put8 X 120 7 slices_S128x8x512_o120_0_0_S1x8x512 inb_S128x8x512_S1x8x512_7_0_0,
   put8 X 119 8 slices_S128x8x512_o119_0_0_S1x8x512 inb_S128x8x512_S1x8x512_8_0_0,
   put8 X 118 9 slices_S128x8x512_o118_0_0_S1x8x512 inb_S128x8x512_S1x8x512_9_0_0,
   put8 X 117 10 slices_S128x8x512_o117_0_0_S1x8x512 inb_S128x8x512_S1x8x512_10_0_0,
   put8 X 116 11 slices_S128x8x512_o116_0_0_S1x8x512 inb_S128x8x512_S1x8x512_11_0_0,
   put8 X 115 12 slices_S128x8x512_o115_0_0_S1x8x512 inb_S128x8x512_S1x8x512_12_0_0,
   put8 X 114 13 slices_S128x8x512_o114_0_0_S1x8x512 inb_S128x8x512_S1x8x512_13_0_0,
   put8 X 113 14 slices_S128x8x512_o113_0_0_S1x8x512 inb_S128x8x512_S1x8x512_14_0_0,
   put8 X 112 15 slices_S128x8x512_o112_0_0_S1x8x512 inb_S128x8x512_S1x8x512_15_0_0,
   put8 X 111 16 slices_S128x8x512_o111_0_0_S1x8x512 inb_S128x8x512_S1x8x512_16_0_0,
   put8 X 110 17 slices_S128x8x512_o110_0_0_S1x8x512 inb_S128x8x512_S1x8x512_17_0_0,
   put8 X 109 18 slices_S128x8x512_o109_0_0_S1x8x512 inb_S128x8x512_S1x8x512_18_0_0,
   put8 X 108 19 slices_S128x8x512_o108_0_0_S1x8x512 inb_S128x8x512_S1x8x512_19_0_0,
   put8 X 107 20 slices_S128x8x512_o107_0_0_S1x8x512 inb_S128x8x512_S1x8x512_20_0_0,
   put8 X 106 21 slices_S128x8x512_o106_0_0_S1x8x512 inb_S128x8x512_S1x8x512_21_0_0,
   put8 X 105 22 slices_S128x8x512_o105_0_0_S1x8x512 inb_S128x8x512_S1x8x512_22_0_0,
   put8 X 104 23 slices_S128x8x512_o104_0_0_S1x8x512 inb_S128x8x512_S1x8x512_23_0_0,
   put8 X 103 24 slices_S128x8x512_o103_0_0_S1x8x512 inb_S128x8x512_S1x8x512_24_0_0,
   put8 X 102 25 slices_S128x8x512_o102_0_0_S1x8x512 inb_S128x8x512_S1x8x512_25_0_0,
   put8 X 101 26 slices_S128x8x512_o101_0_0_S1x8x512 inb_S128x8x512_S1x8x512_26_0_0,
   put8 X 100 27 slices_S128x8x512_o100_0_0_S1x8x512 inb_S128x8x512_S1x8x512_27_0_0,
   put8 X 99 28 slices_S128x8x512_o99_0_0_S1x8x512 inb_S128x8x512_S1x8x512_28_0_0,
   put8 X 98 29 slices_S128x8x512_o98_0_0_S1x8x512 inb_S128x8x512_S1x8x512_29_0_0,
   put8 X 97 30 slices_S128x8x512_o97_0_0_S1x8x512 inb_S128x8x512_S1x8x512_30_0_0,
   put8 X 96 31 slices_S128x8x512_o96_0_0_S1x8x512 inb_S128x8x512_S1x8x512_31_0_0,
   put8 X 95 32 slices_S128x8x512_o95_0_0_S1x8x512 inb_S128x8x512_S1x8x512_32_0_0,
   put8 X 94 33 slices_S128x8x512_o94_0_0_S1x8x512 inb_S128x8x512_S1x8x512_33_0_0,
   put8 X 93 34 slices_S128x8x512_o93_0_0_S1x8x512 inb_S128x8x512_S1x8x512_34_0_0,
   put8 X 92 35 slices_S128x8x512_o92_0_0_S1x8x512 inb_S128x8x512_S1x8x512_35_0_0,
   put8 X 91 36 slices_S128x8x512_o91_0_0_S1x8x512 inb_S128x8x512_S1x8x512_36_0_0,
   put8 X 90 37 slices_S128x8x512_o90_0_0_S1x8x512 inb_S128x8x512_S1x8x512_37_0_0,
   put8 X 89 38 slices_S128x8x512_o89_0_0_S1x8x512 inb_S128x8x512_S1x8x512_38_0_0,
   put8 X 88 39 slices_S128x8x512_o88_0_0_S1x8x512 inb_S128x8x512_S1x8x512_39_0_0,
   put8 X 87 40 slices_S128x8x512_o87_0_0_S1x8x512 inb_S128x8x512_S1x8x512_40_0_0,
   put8 X 86 41 slices_S128x8x512_o86_0_0_S1x8x512 inb_S128x8x512_S1x8x512_41_0_0,
   put8 X 85 42 slices_S128x8x512_o85_0_0_S1x8x512 inb_S128x8x512_S1x8x512_42_0_0,
   put8 X 84 43 slices_S128x8x512_o84_0_0_S1x8x512 inb_S128x8x512_S1x8x512_43_0_0,
   put8 X 83 44 slices_S128x8x512_o83_0_0_S1x8x512 inb_S128x8x512_S1x8x512_44_0_0,
   put8 X 82 45 slices_S128x8x512_o82_0_0_S1x8x512 inb_S128x8x512_S1x8x512_45_0_0,
   put8 X 81 46 slices_S128x8x512_o81_0_0_S1x8x512 inb_S128x8x512_S1x8x512_46_0_0,
   put8 X 80 47 slices_S128x8x512_o80_0_0_S1x8x512 inb_S128x8x512_S1x8x512_47_0_0,
   put8 X 79 48 slices_S128x8x512_o79_0_0_S1x8x512 inb_S128x8x512_S1x8x512_48_0_0,
   put8 X 78 49 slices_S128x8x512_o78_0_0_S1x8x512 inb_S128x8x512_S1x8x512_49_0_0,
   put8 X 77 50 slices_S128x8x512_o77_0_0_S1x8x512 inb_S128x8x512_S1x8x512_50_0_0,
   put8 X 76 51 slices_S128x8x512_o76_0_0_S1x8x512 inb_S128x8x512_S1x8x512_51_0_0,
   put8 X 75 52 slices_S128x8x512_o75_0_0_S1x8x512 inb_S128x8x512_S1x8x512_52_0_0,
   put8 X 74 53 slices_S128x8x512_o74_0_0_S1x8x512 inb_S128x8x512_S1x8x512_53_0_0,
   put8 X 73 54 slices_S128x8x512_o73_0_0_S1x8x512 inb_S128x8x512_S1x8x512_54_0_0,
   put8 X 72 55 slices_S128x8x512_o72_0_0_S1x8x512 inb_S128x8x512_S1x8x512_55_0_0,
   put8 X 71 56 slices_S128x8x512_o71_0_0_S1x8x512 inb_S128x8x512_S1x8x512_56_0_0,
   put8 X 70 57 slices_S128x8x512_o70_0_0_S1x8x512 inb_S128x8x512_S1x8x512_57_0_0,
   put8 X 69 58 slices_S128x8x512_o69_0_0_S1x8x512 inb_S128x8x512_S1x8x512_58_0_0,
   put8 X 68 59 slices_S128x8x512_o68_0_0_S1x8x512 inb_S128x8x512_S1x8x512_59_0_0,
   put8 X 67 60 slices_S128x8x512_o67_0_0_S1x8x512 inb_S128x8x512_S1x8x512_60_0_0,
   put8 X 66 61 slices_S128x8x512_o66_0_0_S1x8x512 inb_S128x8x512_S1x8x512_61_0_0,
   put8 X 65 62 slices_S128x8x512_o65_0_0_S1x8x512 inb_S128x8x512_S1x8x512_62_0_0,
   put8 X 64 63 slices_S128x8x512_o64_0_0_S1x8x512 inb_S128x8x512_S1x8x512_63_0_0,
   put8 X 63 64 slices_S128x8x512_o63_0_0_S1x8x512 inb_S128x8x512_S1x8x512_64_0_0,
   put8 X 62 65 slices_S128x8x512_o62_0_0_S1x8x512 inb_S128x8x512_S1x8x512_65_0_0,
   put8 X 61 66 slices_S128x8x512_o61_0_0_S1x8x512 inb_S128x8x512_S1x8x512_66_0_0,
   put8 X 60 67 slices_S128x8x512_o60_0_0_S1x8x512 inb_S128x8x512_S1x8x512_67_0_0,
   put8 X 59 68 slices_S128x8x512_o59_0_0_S1x8x512 inb_S128x8x512_S1x8x512_68_0_0,
   put8 X 58 69 slices_S128x8x512_o58_0_0_S1x8x512 inb_S128x8x512_S1x8x512_69_0_0,
   put8 X 57 70 slices_S128x8x512_o57_0_0_S1x8x512 inb_S128x8x512_S1x8x512_70_0_0,
   put8 X 56 71 slices_S128x8x512_o56_0_0_S1x8x512 inb_S128x8x512_S1x8x512_71_0_0,
   put8 X 55 72 slices_S128x8x512_o55_0_0_S1x8x512 inb_S128x8x512_S1x8x512_72_0_0,
   put8 X 54 73 slices_S128x8x512_o54_0_0_S1x8x512 inb_S128x8x512_S1x8x512_73_0_0,
   put8 X 53 74 slices_S128x8x512_o53_0_0_S1x8x512 inb_S128x8x512_S1x8x512_74_0_0,
   put8 X 52 75 slices_S128x8x512_o52_0_0_S1x8x512 inb_S128x8x512_S1x8x512_75_0_0,
   put8 X 51 76 slices_S128x8x512_o51_0_0_S1x8x512 inb_S128x8x512_S1x8x512_76_0_0,
   put8 X 50 77 slices_S128x8x512_o50_0_0_S1x8x512 inb_S128x8x512_S1x8x512_77_0_0,
   put8 X 49 78 slices_S128x8x512_o49_0_0_S1x8x512 inb_S128x8x512_S1x8x512_78_0_0,
   put8 X 48 79 slices_S128x8x512_o48_0_0_S1x8x512 inb_S128x8x512_S1x8x512_79_0_0,
   put8 X 47 80 slices_S128x8x512_o47_0_0_S1x8x512 inb_S128x8x512_S1x8x512_80_0_0,
   put8 X 46 81 slices_S128x8x512_o46_0_0_S1x8x512 inb_S128x8x512_S1x8x512_81_0_0,
   put8 X 45 82 slices_S128x8x512_o45_0_0_S1x8x512 inb_S128x8x512_S1x8x512_82_0_0,
   put8 X 44 83 slices_S128x8x512_o44_0_0_S1x8x512 inb_S128x8x512_S1x8x512_83_0_0,
   put8 X 43 84 slices_S128x8x512_o43_0_0_S1x8x512 inb_S128x8x512_S1x8x512_84_0_0,
   put8 X 42 85 slices_S128x8x512_o42_0_0_S1x8x512 inb_S128x8x512_S1x8x512_85_0_0,
   put8 X 41 86 slices_S128x8x512_o41_0_0_S1x8x512 inb_S128x8x512_S1x8x512_86_0_0,
   put8 X 40 87 slices_S128x8x512_o40_0_0_S1x8x512 inb_S128x8x512_S1x8x512_87_0_0,
   put8 X 39 88 slices_S128x8x512_o39_0_0_S1x8x512 inb_S128x8x512_S1x8x512_88_0_0,
   put8 X 38 89 slices_S128x8x512_o38_0_0_S1x8x512 inb_S128x8x512_S1x8x512_89_0_0,
   put8 X 37 90 slices_S128x8x512_o37_0_0_S1x8x512 inb_S128x8x512_S1x8x512_90_0_0,
   put8 X 36 91 slices_S128x8x512_o36_0_0_S1x8x512 inb_S128x8x512_S1x8x512_91_0_0,
   put8 X 35 92 slices_S128x8x512_o35_0_0_S1x8x512 inb_S128x8x512_S1x8x512_92_0_0,
   put8 X 34 93 slices_S128x8x512_o34_0_0_S1x8x512 inb_S128x8x512_S1x8x512_93_0_0,
   put8 X 33 94 slices_S128x8x512_o33_0_0_S1x8x512 inb_S128x8x512_S1x8x512_94_0_0,
   put8 X 32 95 slices_S128x8x512_o32_0_0_S1x8x512 inb_S128x8x512_S1x8x512_95_0_0,
   put8 X 31 96 slices_S128x8x512_o31_0_0_S1x8x512 inb_S128x8x512_S1x8x512_96_0_0,
   put8 X 30 97 slices_S128x8x512_o30_0_0_S1x8x512 inb_S128x8x512_S1x8x512_97_0_0,
   put8 X 29 98 slices_S128x8x512_o29_0_0_S1x8x512 inb_S128x8x512_S1x8x512_98_0_0,
   put8 X 28 99 slices_S128x8x512_o28_0_0_S1x8x512 inb_S128x8x512_S1x8x512_99_0_0,
   put8 X 27 100 slices_S128x8x512_o27_0_0_S1x8x512 inb_S128x8x512_S1x8x512_100_0_0,
   put8 X 26 101 slices_S128x8x512_o26_0_0_S1x8x512 inb_S128x8x512_S1x8x512_101_0_0,
   put8 X 25 102 slices_S128x8x512_o25_0_0_S1x8x512 inb_S128x8x512_S1x8x512_102_0_0,
   put8 X 24 103 slices_S128x8x512_o24_0_0_S1x8x512 inb_S128x8x512_S1x8x512_103_0_0,
   put8 X 23 104 slices_S128x8x512_o23_0_0_S1x8x512 inb_S128x8x512_S1x8x512_104_0_0,
   put8 X 22 105 slices_S128x8x512_o22_0_0_S1x8x512 inb_S128x8x512_S1x8x512_105_0_0,
   put8 X 21 106 slices_S128x8x512_o21_0_0_S1x8x512 inb_S128x8x512_S1x8x512_106_0_0,
   put8 X 20 107 slices_S128x8x512_o20_0_0_S1x8x512 inb_S128x8x512_S1x8x512_107_0_0,
   put8 X 19 108 slices_S128x8x512_o19_0_0_S1x8x512 inb_S128x8x512_S1x8x512_108_0_0,
   put8 X 18 109 slices_S128x8x512_o18_0_0_S1x8x512 inb_S128x8x512_S1x8x512_109_0_0,
   put8 X 17 110 slices_S128x8x512_o17_0_0_S1x8x512 inb_S128x8x512_S1x8x512_110_0_0,
   put8 X 16 111 slices_S128x8x512_o16_0_0_S1x8x512 inb_S128x8x512_S1x8x512_111_0_0,
   put8 X 15 112 slices_S128x8x512_o15_0_0_S1x8x512 inb_S128x8x512_S1x8x512_112_0_0,
   put8 X 14 113 slices_S128x8x512_o14_0_0_S1x8x512 inb_S128x8x512_S1x8x512_113_0_0,
   put8 X 13 114 slices_S128x8x512_o13_0_0_S1x8x512 inb_S128x8x512_S1x8x512_114_0_0,
   put8 X 12 115 slices_S128x8x512_o12_0_0_S1x8x512 inb_S128x8x512_S1x8x512_115_0_0,
   put8 X 11 116 slices_S128x8x512_o11_0_0_S1x8x512 inb_S128x8x512_S1x8x512_116_0_0,
   put8 X 10 117 slices_S128x8x512_o10_0_0_S1x8x512 inb_S128x8x512_S1x8x512_117_0_0,
   put8 X 9 118 slices_S128x8x512_o9_0_0_S1x8x512 inb_S128x8x512_S1x8x512_118_0_0,
   put8 X 8 119 slices_S128x8x512_o8_0_0_S1x8x512 inb_S128x8x512_S1x8x512_119_0_0,
   put8 X 7 120 slices_S128x8x512_o7_0_0_S1x8x512 inb_S128x8x512_S1x8x512_120_0_0,
   put8 X 6 121 slices_S128x8x512_o6_0_0_S1x8x512 inb_S128x8x512_S1x8x512_121_0_0,
   put8 X 5 122 slices_S128x8x512_o5_0_0_S1x8x512 inb_S128x8x512_S1x8x512_122_0_0,
   put8 X 4 123 slices_S128x8x512_o4_0_0_S1x8x512 inb_S128x8x512_S1x8x512_123_0_0,
   put8 X 3 124 slices_S128x8x512_o3_0_0_S1x8x512 inb_S128x8x512_S1x8x512_124_0_0,
   put8 X 2 125 slices_S128x8x512_o2_0_0_S1x8x512 inb_S128x8x512_S1x8x512_125_0_0,
   put8 X 1 126 slices_S128x8x512_o1_0_0_S1x8x512 inb_S128x8x512_S1x8x512_126_0_0,
   put8 X 0 127 slices_S128x8x512_o0_0_0_S1x8x512 inb_S128x8x512_S1x8x512_127_0_0]

theorem read_puts4 {sp} (v : View sig .tc sp S128x4x512 .f32) (f : BufTy.Contents (Elt F) v.ty) (X : Vec F S128x4x512 .f32) :
    v.read (Elt F) (v.writes (Elt F) f (puts4 X)) = rev4 X :=
  read_of_pieces v f (rev4 X) (puts4 X)
    (List.forall_mem_cons.mpr ⟨piece4 X 0 127 rfl inb_S128x4x512_S1x4x512_0_0_0 inb_S128x4x512_S1x4x512_127_0_0 _ rfl,
    (List.forall_mem_cons.mpr ⟨piece4 X 1 126 rfl inb_S128x4x512_S1x4x512_1_0_0 inb_S128x4x512_S1x4x512_126_0_0 _ rfl,
    (List.forall_mem_cons.mpr ⟨piece4 X 2 125 rfl inb_S128x4x512_S1x4x512_2_0_0 inb_S128x4x512_S1x4x512_125_0_0 _ rfl,
    (List.forall_mem_cons.mpr ⟨piece4 X 3 124 rfl inb_S128x4x512_S1x4x512_3_0_0 inb_S128x4x512_S1x4x512_124_0_0 _ rfl,
    (List.forall_mem_cons.mpr ⟨piece4 X 4 123 rfl inb_S128x4x512_S1x4x512_4_0_0 inb_S128x4x512_S1x4x512_123_0_0 _ rfl,
    (List.forall_mem_cons.mpr ⟨piece4 X 5 122 rfl inb_S128x4x512_S1x4x512_5_0_0 inb_S128x4x512_S1x4x512_122_0_0 _ rfl,
    (List.forall_mem_cons.mpr ⟨piece4 X 6 121 rfl inb_S128x4x512_S1x4x512_6_0_0 inb_S128x4x512_S1x4x512_121_0_0 _ rfl,
    (List.forall_mem_cons.mpr ⟨piece4 X 7 120 rfl inb_S128x4x512_S1x4x512_7_0_0 inb_S128x4x512_S1x4x512_120_0_0 _ rfl,
    (List.forall_mem_cons.mpr ⟨piece4 X 8 119 rfl inb_S128x4x512_S1x4x512_8_0_0 inb_S128x4x512_S1x4x512_119_0_0 _ rfl,
    (List.forall_mem_cons.mpr ⟨piece4 X 9 118 rfl inb_S128x4x512_S1x4x512_9_0_0 inb_S128x4x512_S1x4x512_118_0_0 _ rfl,
    (List.forall_mem_cons.mpr ⟨piece4 X 10 117 rfl inb_S128x4x512_S1x4x512_10_0_0 inb_S128x4x512_S1x4x512_117_0_0 _ rfl,
    (List.forall_mem_cons.mpr ⟨piece4 X 11 116 rfl inb_S128x4x512_S1x4x512_11_0_0 inb_S128x4x512_S1x4x512_116_0_0 _ rfl,
    (List.forall_mem_cons.mpr ⟨piece4 X 12 115 rfl inb_S128x4x512_S1x4x512_12_0_0 inb_S128x4x512_S1x4x512_115_0_0 _ rfl,
    (List.forall_mem_cons.mpr ⟨piece4 X 13 114 rfl inb_S128x4x512_S1x4x512_13_0_0 inb_S128x4x512_S1x4x512_114_0_0 _ rfl,
    (List.forall_mem_cons.mpr ⟨piece4 X 14 113 rfl inb_S128x4x512_S1x4x512_14_0_0 inb_S128x4x512_S1x4x512_113_0_0 _ rfl,
    (List.forall_mem_cons.mpr ⟨piece4 X 15 112 rfl inb_S128x4x512_S1x4x512_15_0_0 inb_S128x4x512_S1x4x512_112_0_0 _ rfl,
    (List.forall_mem_cons.mpr ⟨piece4 X 16 111 rfl inb_S128x4x512_S1x4x512_16_0_0 inb_S128x4x512_S1x4x512_111_0_0 _ rfl,
    (List.forall_mem_cons.mpr ⟨piece4 X 17 110 rfl inb_S128x4x512_S1x4x512_17_0_0 inb_S128x4x512_S1x4x512_110_0_0 _ rfl,
    (List.forall_mem_cons.mpr ⟨piece4 X 18 109 rfl inb_S128x4x512_S1x4x512_18_0_0 inb_S128x4x512_S1x4x512_109_0_0 _ rfl,
    (List.forall_mem_cons.mpr ⟨piece4 X 19 108 rfl inb_S128x4x512_S1x4x512_19_0_0 inb_S128x4x512_S1x4x512_108_0_0 _ rfl,
    (List.forall_mem_cons.mpr ⟨piece4 X 20 107 rfl inb_S128x4x512_S1x4x512_20_0_0 inb_S128x4x512_S1x4x512_107_0_0 _ rfl,
    (List.forall_mem_cons.mpr ⟨piece4 X 21 106 rfl inb_S128x4x512_S1x4x512_21_0_0 inb_S128x4x512_S1x4x512_106_0_0 _ rfl,
    (List.forall_mem_cons.mpr ⟨piece4 X 22 105 rfl inb_S128x4x512_S1x4x512_22_0_0 inb_S128x4x512_S1x4x512_105_0_0 _ rfl,
    (List.forall_mem_cons.mpr ⟨piece4 X 23 104 rfl inb_S128x4x512_S1x4x512_23_0_0 inb_S128x4x512_S1x4x512_104_0_0 _ rfl,
    (List.forall_mem_cons.mpr ⟨piece4 X 24 103 rfl inb_S128x4x512_S1x4x512_24_0_0 inb_S128x4x512_S1x4x512_103_0_0 _ rfl,
    (List.forall_mem_cons.mpr ⟨piece4 X 25 102 rfl inb_S128x4x512_S1x4x512_25_0_0 inb_S128x4x512_S1x4x512_102_0_0 _ rfl,
    (List.forall_mem_cons.mpr ⟨piece4 X 26 101 rfl inb_S128x4x512_S1x4x512_26_0_0 inb_S128x4x512_S1x4x512_101_0_0 _ rfl,
    (List.forall_mem_cons.mpr ⟨piece4 X 27 100 rfl inb_S128x4x512_S1x4x512_27_0_0 inb_S128x4x512_S1x4x512_100_0_0 _ rfl,
    (List.forall_mem_cons.mpr ⟨piece4 X 28 99 rfl inb_S128x4x512_S1x4x512_28_0_0 inb_S128x4x512_S1x4x512_99_0_0 _ rfl,
    (List.forall_mem_cons.mpr ⟨piece4 X 29 98 rfl inb_S128x4x512_S1x4x512_29_0_0 inb_S128x4x512_S1x4x512_98_0_0 _ rfl,
    (List.forall_mem_cons.mpr ⟨piece4 X 30 97 rfl inb_S128x4x512_S1x4x512_30_0_0 inb_S128x4x512_S1x4x512_97_0_0 _ rfl,
    (List.forall_mem_cons.mpr ⟨piece4 X 31 96 rfl inb_S128x4x512_S1x4x512_31_0_0 inb_S128x4x512_S1x4x512_96_0_0 _ rfl,
    (List.forall_mem_cons.mpr ⟨piece4 X 32 95 rfl inb_S128x4x512_S1x4x512_32_0_0 inb_S128x4x512_S1x4x512_95_0_0 _ rfl,
    (List.forall_mem_cons.mpr ⟨piece4 X 33 94 rfl inb_S128x4x512_S1x4x512_33_0_0 inb_S128x4x512_S1x4x512_94_0_0 _ rfl,
    (List.forall_mem_cons.mpr ⟨piece4 X 34 93 rfl inb_S128x4x512_S1x4x512_34_0_0 inb_S128x4x512_S1x4x512_93_0_0 _ rfl,
    (List.forall_mem_cons.mpr ⟨piece4 X 35 92 rfl inb_S128x4x512_S1x4x512_35_0_0 inb_S128x4x512_S1x4x512_92_0_0 _ rfl,
    (List.forall_mem_cons.mpr ⟨piece4 X 36 91 rfl inb_S128x4x512_S1x4x512_36_0_0 inb_S128x4x512_S1x4x512_91_0_0 _ rfl,
    (List.forall_mem_cons.mpr ⟨piece4 X 37 90 rfl inb_S128x4x512_S1x4x512_37_0_0 inb_S128x4x512_S1x4x512_90_0_0 _ rfl,
    (List.forall_mem_cons.mpr ⟨piece4 X 38 89 rfl inb_S128x4x512_S1x4x512_38_0_0 inb_S128x4x512_S1x4x512_89_0_0 _ rfl,
    (List.forall_mem_cons.mpr ⟨piece4 X 39 88 rfl inb_S128x4x512_S1x4x512_39_0_0 inb_S128x4x512_S1x4x512_88_0_0 _ rfl,
    (List.forall_mem_cons.mpr ⟨piece4 X 40 87 rfl inb_S128x4x512_S1x4x512_40_0_0 inb_S128x4x512_S1x4x512_87_0_0 _ rfl,
    (List.forall_mem_cons.mpr ⟨piece4 X 41 86 rfl inb_S128x4x512_S1x4x512_41_0_0 inb_S128x4x512_S1x4x512_86_0_0 _ rfl,
    (List.forall_mem_cons.mpr ⟨piece4 X 42 85 rfl inb_S128x4x512_S1x4x512_42_0_0 inb_S128x4x512_S1x4x512_85_0_0 _ rfl,
    (List.forall_mem_cons.mpr ⟨piece4 X 43 84 rfl inb_S128x4x512_S1x4x512_43_0_0 inb_S128x4x512_S1x4x512_84_0_0 _ rfl,
    (List.forall_mem_cons.mpr ⟨piece4 X 44 83 rfl inb_S128x4x512_S1x4x512_44_0_0 inb_S128x4x512_S1x4x512_83_0_0 _ rfl,
    (List.forall_mem_cons.mpr ⟨piece4 X 45 82 rfl inb_S128x4x512_S1x4x512_45_0_0 inb_S128x4x512_S1x4x512_82_0_0 _ rfl,
    (List.forall_mem_cons.mpr ⟨piece4 X 46 81 rfl inb_S128x4x512_S1x4x512_46_0_0 inb_S128x4x512_S1x4x512_81_0_0 _ rfl,
    (List.forall_mem_cons.mpr ⟨piece4 X 47 80 rfl inb_S128x4x512_S1x4x512_47_0_0 inb_S128x4x512_S1x4x512_80_0_0 _ rfl,
    (List.forall_mem_cons.mpr ⟨piece4 X 48 79 rfl inb_S128x4x512_S1x4x512_48_0_0 inb_S128x4x512_S1x4x512_79_0_0 _ rfl,
    (List.forall_mem_cons.mpr ⟨piece4 X 49 78 rfl inb_S128x4x512_S1x4x512_49_0_0 inb_S128x4x512_S1x4x512_78_0_0 _ rfl,
    (List.forall_mem_cons.mpr ⟨piece4 X 50 77 rfl inb_S128x4x512_S1x4x512_50_0_0 inb_S128x4x512_S1x4x512_77_0_0 _ rfl,
    (List.forall_mem_cons.mpr ⟨piece4 X 51 76 rfl inb_S128x4x512_S1x4x512_51_0_0 inb_S128x4x512_S1x4x512_76_0_0 _ rfl,
    (List.forall_mem_cons.mpr ⟨piece4 X 52 75 rfl inb_S128x4x512_S1x4x512_52_0_0 inb_S128x4x512_S1x4x512_75_0_0 _ rfl,
    (List.forall_mem_cons.mpr ⟨piece4 X 53 74 rfl inb_S128x4x512_S1x4x512_53_0_0 inb_S128x4x512_S1x4x512_74_0_0 _ rfl,
    (List.forall_mem_cons.mpr ⟨piece4 X 54 73 rfl inb_S128x4x512_S1x4x512_54_0_0 inb_S128x4x512_S1x4x512_73_0_0 _ rfl,
    (List.forall_mem_cons.mpr ⟨piece4 X 55 72 rfl inb_S128x4x512_S1x4x512_55_0_0 inb_S128x4x512_S1x4x512_72_0_0 _ rfl,
    (List.forall_mem_cons.mpr ⟨piece4 X 56 71 rfl inb_S128x4x512_S1x4x512_56_0_0 inb_S128x4x512_S1x4x512_71_0_0 _ rfl,
    (List.forall_mem_cons.mpr ⟨piece4 X 57 70 rfl inb_S128x4x512_S1x4x512_57_0_0 inb_S128x4x512_S1x4x512_70_0_0 _ rfl,
    (List.forall_mem_cons.mpr ⟨piece4 X 58 69 rfl inb_S128x4x512_S1x4x512_58_0_0 inb_S128x4x512_S1x4x512_69_0_0 _ rfl,
    (List.forall_mem_cons.mpr ⟨piece4 X 59 68 rfl inb_S128x4x512_S1x4x512_59_0_0 inb_S128x4x512_S1x4x512_68_0_0 _ rfl,
    (List.forall_mem_cons.mpr ⟨piece4 X 60 67 rfl inb_S128x4x512_S1x4x512_60_0_0 inb_S128x4x512_S1x4x512_67_0_0 _ rfl,
    (List.forall_mem_cons.mpr ⟨piece4 X 61 66 rfl inb_S128x4x512_S1x4x512_61_0_0 inb_S128x4x512_S1x4x512_66_0_0 _ rfl,
    (List.forall_mem_cons.mpr ⟨piece4 X 62 65 rfl inb_S128x4x512_S1x4x512_62_0_0 inb_S128x4x512_S1x4x512_65_0_0 _ rfl,
    (List.forall_mem_cons.mpr ⟨piece4 X 63 64 rfl inb_S128x4x512_S1x4x512_63_0_0 inb_S128x4x512_S1x4x512_64_0_0 _ rfl,
    (List.forall_mem_cons.mpr ⟨piece4 X 64 63 rfl inb_S128x4x512_S1x4x512_64_0_0 inb_S128x4x512_S1x4x512_63_0_0 _ rfl,
    (List.forall_mem_cons.mpr ⟨piece4 X 65 62 rfl inb_S128x4x512_S1x4x512_65_0_0 inb_S128x4x512_S1x4x512_62_0_0 _ rfl,
    (List.forall_mem_cons.mpr ⟨piece4 X 66 61 rfl inb_S128x4x512_S1x4x512_66_0_0 inb_S128x4x512_S1x4x512_61_0_0 _ rfl,
    (List.forall_mem_cons.mpr ⟨piece4 X 67 60 rfl inb_S128x4x512_S1x4x512_67_0_0 inb_S128x4x512_S1x4x512_60_0_0 _ rfl,
    (List.forall_mem_cons.mpr ⟨piece4 X 68 59 rfl inb_S128x4x512_S1x4x512_68_0_0 inb_S128x4x512_S1x4x512_59_0_0 _ rfl,
    (List.forall_mem_cons.mpr ⟨piece4 X 69 58 rfl inb_S128x4x512_S1x4x512_69_0_0 inb_S128x4x512_S1x4x512_58_0_0 _ rfl,
    (List.forall_mem_cons.mpr ⟨piece4 X 70 57 rfl inb_S128x4x512_S1x4x512_70_0_0 inb_S128x4x512_S1x4x512_57_0_0 _ rfl,
    (List.forall_mem_cons.mpr ⟨piece4 X 71 56 rfl inb_S128x4x512_S1x4x512_71_0_0 inb_S128x4x512_S1x4x512_56_0_0 _ rfl,
    (List.forall_mem_cons.mpr ⟨piece4 X 72 55 rfl inb_S128x4x512_S1x4x512_72_0_0 inb_S128x4x512_S1x4x512_55_0_0 _ rfl,
    (List.forall_mem_cons.mpr ⟨piece4 X 73 54 rfl inb_S128x4x512_S1x4x512_73_0_0 inb_S128x4x512_S1x4x512_54_0_0 _ rfl,
    (List.forall_mem_cons.mpr ⟨piece4 X 74 53 rfl inb_S128x4x512_S1x4x512_74_0_0 inb_S128x4x512_S1x4x512_53_0_0 _ rfl,
    (List.forall_mem_cons.mpr ⟨piece4 X 75 52 rfl inb_S128x4x512_S1x4x512_75_0_0 inb_S128x4x512_S1x4x512_52_0_0 _ rfl,
    (List.forall_mem_cons.mpr ⟨piece4 X 76 51 rfl inb_S128x4x512_S1x4x512_76_0_0 inb_S128x4x512_S1x4x512_51_0_0 _ rfl,
    (List.forall_mem_cons.mpr ⟨piece4 X 77 50 rfl inb_S128x4x512_S1x4x512_77_0_0 inb_S128x4x512_S1x4x512_50_0_0 _ rfl,
    (List.forall_mem_cons.mpr ⟨piece4 X 78 49 rfl inb_S128x4x512_S1x4x512_78_0_0 inb_S128x4x512_S1x4x512_49_0_0 _ rfl,
    (List.forall_mem_cons.mpr ⟨piece4 X 79 48 rfl inb_S128x4x512_S1x4x512_79_0_0 inb_S128x4x512_S1x4x512_48_0_0 _ rfl,
    (List.forall_mem_cons.mpr ⟨piece4 X 80 47 rfl inb_S128x4x512_S1x4x512_80_0_0 inb_S128x4x512_S1x4x512_47_0_0 _ rfl,
    (List.forall_mem_cons.mpr ⟨piece4 X 81 46 rfl inb_S128x4x512_S1x4x512_81_0_0 inb_S128x4x512_S1x4x512_46_0_0 _ rfl,
    (List.forall_mem_cons.mpr ⟨piece4 X 82 45 rfl inb_S128x4x512_S1x4x512_82_0_0 inb_S128x4x512_S1x4x512_45_0_0 _ rfl,
    (List.forall_mem_cons.mpr ⟨piece4 X 83 44 rfl inb_S128x4x512_S1x4x512_83_0_0 inb_S128x4x512_S1x4x512_44_0_0 _ rfl,
    (List.forall_mem_cons.mpr ⟨piece4 X 84 43 rfl inb_S128x4x512_S1x4x512_84_0_0 inb_S128x4x512_S1x4x512_43_0_0 _ rfl,
    (List.forall_mem_cons.mpr ⟨piece4 X 85 42 rfl inb_S128x4x512_S1x4x512_85_0_0 inb_S128x4x512_S1x4x512_42_0_0 _ rfl,
    (List.forall_mem_cons.mpr ⟨piece4 X 86 41 rfl inb_S128x4x512_S1x4x512_86_0_0 inb_S128x4x512_S1x4x512_41_0_0 _ rfl,
    (List.forall_mem_cons.mpr ⟨piece4 X 87 40 rfl inb_S128x4x512_S1x4x512_87_0_0 inb_S128x4x512_S1x4x512_40_0_0 _ rfl,
    (List.forall_mem_cons.mpr ⟨piece4 X 88 39 rfl inb_S128x4x512_S1x4x512_88_0_0 inb_S128x4x512_S1x4x512_39_0_0 _ rfl,
    (List.forall_mem_cons.mpr ⟨piece4 X 89 38 rfl inb_S128x4x512_S1x4x512_89_0_0 inb_S128x4x512_S1x4x512_38_0_0 _ rfl,
    (List.forall_mem_cons.mpr ⟨piece4 X 90 37 rfl inb_S128x4x512_S1x4x512_90_0_0 inb_S128x4x512_S1x4x512_37_0_0 _ rfl,
    (List.forall_mem_cons.mpr ⟨piece4 X 91 36 rfl inb_S128x4x512_S1x4x512_91_0_0 inb_S128x4x512_S1x4x512_36_0_0 _ rfl,
    (List.forall_mem_cons.mpr ⟨piece4 X 92 35 rfl inb_S128x4x512_S1x4x512_92_0_0 inb_S128x4x512_S1x4x512_35_0_0 _ rfl,
    (List.forall_mem_cons.mpr ⟨piece4 X 93 34 rfl inb_S128x4x512_S1x4x512_93_0_0 inb_S128x4x512_S1x4x512_34_0_0 _ rfl,
    (List.forall_mem_cons.mpr ⟨piece4 X 94 33 rfl inb_S128x4x512_S1x4x512_94_0_0 inb_S128x4x512_S1x4x512_33_0_0 _ rfl,
    (List.forall_mem_cons.mpr ⟨piece4 X 95 32 rfl inb_S128x4x512_S1x4x512_95_0_0 inb_S128x4x512_S1x4x512_32_0_0 _ rfl,
    (List.forall_mem_cons.mpr ⟨piece4 X 96 31 rfl inb_S128x4x512_S1x4x512_96_0_0 inb_S128x4x512_S1x4x512_31_0_0 _ rfl,
    (List.forall_mem_cons.mpr ⟨piece4 X 97 30 rfl inb_S128x4x512_S1x4x512_97_0_0 inb_S128x4x512_S1x4x512_30_0_0 _ rfl,
    (List.forall_mem_cons.mpr ⟨piece4 X 98 29 rfl inb_S128x4x512_S1x4x512_98_0_0 inb_S128x4x512_S1x4x512_29_0_0 _ rfl,
    (List.forall_mem_cons.mpr ⟨piece4 X 99 28 rfl inb_S128x4x512_S1x4x512_99_0_0 inb_S128x4x512_S1x4x512_28_0_0 _ rfl,
    (List.forall_mem_cons.mpr ⟨piece4 X 100 27 rfl inb_S128x4x512_S1x4x512_100_0_0 inb_S128x4x512_S1x4x512_27_0_0 _ rfl,
    (List.forall_mem_cons.mpr ⟨piece4 X 101 26 rfl inb_S128x4x512_S1x4x512_101_0_0 inb_S128x4x512_S1x4x512_26_0_0 _ rfl,
    (List.forall_mem_cons.mpr ⟨piece4 X 102 25 rfl inb_S128x4x512_S1x4x512_102_0_0 inb_S128x4x512_S1x4x512_25_0_0 _ rfl,
    (List.forall_mem_cons.mpr ⟨piece4 X 103 24 rfl inb_S128x4x512_S1x4x512_103_0_0 inb_S128x4x512_S1x4x512_24_0_0 _ rfl,
    (List.forall_mem_cons.mpr ⟨piece4 X 104 23 rfl inb_S128x4x512_S1x4x512_104_0_0 inb_S128x4x512_S1x4x512_23_0_0 _ rfl,
    (List.forall_mem_cons.mpr ⟨piece4 X 105 22 rfl inb_S128x4x512_S1x4x512_105_0_0 inb_S128x4x512_S1x4x512_22_0_0 _ rfl,
    (List.forall_mem_cons.mpr ⟨piece4 X 106 21 rfl inb_S128x4x512_S1x4x512_106_0_0 inb_S128x4x512_S1x4x512_21_0_0 _ rfl,
    (List.forall_mem_cons.mpr ⟨piece4 X 107 20 rfl inb_S128x4x512_S1x4x512_107_0_0 inb_S128x4x512_S1x4x512_20_0_0 _ rfl,
    (List.forall_mem_cons.mpr ⟨piece4 X 108 19 rfl inb_S128x4x512_S1x4x512_108_0_0 inb_S128x4x512_S1x4x512_19_0_0 _ rfl,
    (List.forall_mem_cons.mpr ⟨piece4 X 109 18 rfl inb_S128x4x512_S1x4x512_109_0_0 inb_S128x4x512_S1x4x512_18_0_0 _ rfl,
    (List.forall_mem_cons.mpr ⟨piece4 X 110 17 rfl inb_S128x4x512_S1x4x512_110_0_0 inb_S128x4x512_S1x4x512_17_0_0 _ rfl,
    (List.forall_mem_cons.mpr ⟨piece4 X 111 16 rfl inb_S128x4x512_S1x4x512_111_0_0 inb_S128x4x512_S1x4x512_16_0_0 _ rfl,
    (List.forall_mem_cons.mpr ⟨piece4 X 112 15 rfl inb_S128x4x512_S1x4x512_112_0_0 inb_S128x4x512_S1x4x512_15_0_0 _ rfl,
    (List.forall_mem_cons.mpr ⟨piece4 X 113 14 rfl inb_S128x4x512_S1x4x512_113_0_0 inb_S128x4x512_S1x4x512_14_0_0 _ rfl,
    (List.forall_mem_cons.mpr ⟨piece4 X 114 13 rfl inb_S128x4x512_S1x4x512_114_0_0 inb_S128x4x512_S1x4x512_13_0_0 _ rfl,
    (List.forall_mem_cons.mpr ⟨piece4 X 115 12 rfl inb_S128x4x512_S1x4x512_115_0_0 inb_S128x4x512_S1x4x512_12_0_0 _ rfl,
    (List.forall_mem_cons.mpr ⟨piece4 X 116 11 rfl inb_S128x4x512_S1x4x512_116_0_0 inb_S128x4x512_S1x4x512_11_0_0 _ rfl,
    (List.forall_mem_cons.mpr ⟨piece4 X 117 10 rfl inb_S128x4x512_S1x4x512_117_0_0 inb_S128x4x512_S1x4x512_10_0_0 _ rfl,
    (List.forall_mem_cons.mpr ⟨piece4 X 118 9 rfl inb_S128x4x512_S1x4x512_118_0_0 inb_S128x4x512_S1x4x512_9_0_0 _ rfl,
    (List.forall_mem_cons.mpr ⟨piece4 X 119 8 rfl inb_S128x4x512_S1x4x512_119_0_0 inb_S128x4x512_S1x4x512_8_0_0 _ rfl,
    (List.forall_mem_cons.mpr ⟨piece4 X 120 7 rfl inb_S128x4x512_S1x4x512_120_0_0 inb_S128x4x512_S1x4x512_7_0_0 _ rfl,
    (List.forall_mem_cons.mpr ⟨piece4 X 121 6 rfl inb_S128x4x512_S1x4x512_121_0_0 inb_S128x4x512_S1x4x512_6_0_0 _ rfl,
    (List.forall_mem_cons.mpr ⟨piece4 X 122 5 rfl inb_S128x4x512_S1x4x512_122_0_0 inb_S128x4x512_S1x4x512_5_0_0 _ rfl,
    (List.forall_mem_cons.mpr ⟨piece4 X 123 4 rfl inb_S128x4x512_S1x4x512_123_0_0 inb_S128x4x512_S1x4x512_4_0_0 _ rfl,
    (List.forall_mem_cons.mpr ⟨piece4 X 124 3 rfl inb_S128x4x512_S1x4x512_124_0_0 inb_S128x4x512_S1x4x512_3_0_0 _ rfl,
    (List.forall_mem_cons.mpr ⟨piece4 X 125 2 rfl inb_S128x4x512_S1x4x512_125_0_0 inb_S128x4x512_S1x4x512_2_0_0 _ rfl,
    (List.forall_mem_cons.mpr ⟨piece4 X 126 1 rfl inb_S128x4x512_S1x4x512_126_0_0 inb_S128x4x512_S1x4x512_1_0_0 _ rfl,
    (List.forall_mem_cons.mpr ⟨piece4 X 127 0 rfl inb_S128x4x512_S1x4x512_127_0_0 inb_S128x4x512_S1x4x512_0_0_0 _ rfl,
    fun _ h => absurd h List.not_mem_nil⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    S1x4x512.size (by sl_kernel_rfl)

theorem read_puts8 {sp} (v : View sig .tc sp S128x8x512 .f32) (f : BufTy.Contents (Elt F) v.ty) (X : Vec F S128x8x512 .f32) :
    v.read (Elt F) (v.writes (Elt F) f (puts8 X)) = rev8 X :=
  read_of_pieces v f (rev8 X) (puts8 X)
    (List.forall_mem_cons.mpr ⟨piece8 X 127 0 rfl slices_S128x8x512_o127_0_0_S1x8x512 inb_S128x8x512_S1x8x512_0_0_0 _ rfl,
    (List.forall_mem_cons.mpr ⟨piece8 X 126 1 rfl slices_S128x8x512_o126_0_0_S1x8x512 inb_S128x8x512_S1x8x512_1_0_0 _ rfl,
    (List.forall_mem_cons.mpr ⟨piece8 X 125 2 rfl slices_S128x8x512_o125_0_0_S1x8x512 inb_S128x8x512_S1x8x512_2_0_0 _ rfl,
    (List.forall_mem_cons.mpr ⟨piece8 X 124 3 rfl slices_S128x8x512_o124_0_0_S1x8x512 inb_S128x8x512_S1x8x512_3_0_0 _ rfl,
    (List.forall_mem_cons.mpr ⟨piece8 X 123 4 rfl slices_S128x8x512_o123_0_0_S1x8x512 inb_S128x8x512_S1x8x512_4_0_0 _ rfl,
    (List.forall_mem_cons.mpr ⟨piece8 X 122 5 rfl slices_S128x8x512_o122_0_0_S1x8x512 inb_S128x8x512_S1x8x512_5_0_0 _ rfl,
    (List.forall_mem_cons.mpr ⟨piece8 X 121 6 rfl slices_S128x8x512_o121_0_0_S1x8x512 inb_S128x8x512_S1x8x512_6_0_0 _ rfl,
    (List.forall_mem_cons.mpr ⟨piece8 X 120 7 rfl slices_S128x8x512_o120_0_0_S1x8x512 inb_S128x8x512_S1x8x512_7_0_0 _ rfl,
    (List.forall_mem_cons.mpr ⟨piece8 X 119 8 rfl slices_S128x8x512_o119_0_0_S1x8x512 inb_S128x8x512_S1x8x512_8_0_0 _ rfl,
    (List.forall_mem_cons.mpr ⟨piece8 X 118 9 rfl slices_S128x8x512_o118_0_0_S1x8x512 inb_S128x8x512_S1x8x512_9_0_0 _ rfl,
    (List.forall_mem_cons.mpr ⟨piece8 X 117 10 rfl slices_S128x8x512_o117_0_0_S1x8x512 inb_S128x8x512_S1x8x512_10_0_0 _ rfl,
    (List.forall_mem_cons.mpr ⟨piece8 X 116 11 rfl slices_S128x8x512_o116_0_0_S1x8x512 inb_S128x8x512_S1x8x512_11_0_0 _ rfl,
    (List.forall_mem_cons.mpr ⟨piece8 X 115 12 rfl slices_S128x8x512_o115_0_0_S1x8x512 inb_S128x8x512_S1x8x512_12_0_0 _ rfl,
    (List.forall_mem_cons.mpr ⟨piece8 X 114 13 rfl slices_S128x8x512_o114_0_0_S1x8x512 inb_S128x8x512_S1x8x512_13_0_0 _ rfl,
    (List.forall_mem_cons.mpr ⟨piece8 X 113 14 rfl slices_S128x8x512_o113_0_0_S1x8x512 inb_S128x8x512_S1x8x512_14_0_0 _ rfl,
    (List.forall_mem_cons.mpr ⟨piece8 X 112 15 rfl slices_S128x8x512_o112_0_0_S1x8x512 inb_S128x8x512_S1x8x512_15_0_0 _ rfl,
    (List.forall_mem_cons.mpr ⟨piece8 X 111 16 rfl slices_S128x8x512_o111_0_0_S1x8x512 inb_S128x8x512_S1x8x512_16_0_0 _ rfl,
    (List.forall_mem_cons.mpr ⟨piece8 X 110 17 rfl slices_S128x8x512_o110_0_0_S1x8x512 inb_S128x8x512_S1x8x512_17_0_0 _ rfl,
    (List.forall_mem_cons.mpr ⟨piece8 X 109 18 rfl slices_S128x8x512_o109_0_0_S1x8x512 inb_S128x8x512_S1x8x512_18_0_0 _ rfl,
    (List.forall_mem_cons.mpr ⟨piece8 X 108 19 rfl slices_S128x8x512_o108_0_0_S1x8x512 inb_S128x8x512_S1x8x512_19_0_0 _ rfl,
    (List.forall_mem_cons.mpr ⟨piece8 X 107 20 rfl slices_S128x8x512_o107_0_0_S1x8x512 inb_S128x8x512_S1x8x512_20_0_0 _ rfl,
    (List.forall_mem_cons.mpr ⟨piece8 X 106 21 rfl slices_S128x8x512_o106_0_0_S1x8x512 inb_S128x8x512_S1x8x512_21_0_0 _ rfl,
    (List.forall_mem_cons.mpr ⟨piece8 X 105 22 rfl slices_S128x8x512_o105_0_0_S1x8x512 inb_S128x8x512_S1x8x512_22_0_0 _ rfl,
    (List.forall_mem_cons.mpr ⟨piece8 X 104 23 rfl slices_S128x8x512_o104_0_0_S1x8x512 inb_S128x8x512_S1x8x512_23_0_0 _ rfl,
    (List.forall_mem_cons.mpr ⟨piece8 X 103 24 rfl slices_S128x8x512_o103_0_0_S1x8x512 inb_S128x8x512_S1x8x512_24_0_0 _ rfl,
    (List.forall_mem_cons.mpr ⟨piece8 X 102 25 rfl slices_S128x8x512_o102_0_0_S1x8x512 inb_S128x8x512_S1x8x512_25_0_0 _ rfl,
    (List.forall_mem_cons.mpr ⟨piece8 X 101 26 rfl slices_S128x8x512_o101_0_0_S1x8x512 inb_S128x8x512_S1x8x512_26_0_0 _ rfl,
    (List.forall_mem_cons.mpr ⟨piece8 X 100 27 rfl slices_S128x8x512_o100_0_0_S1x8x512 inb_S128x8x512_S1x8x512_27_0_0 _ rfl,
    (List.forall_mem_cons.mpr ⟨piece8 X 99 28 rfl slices_S128x8x512_o99_0_0_S1x8x512 inb_S128x8x512_S1x8x512_28_0_0 _ rfl,
    (List.forall_mem_cons.mpr ⟨piece8 X 98 29 rfl slices_S128x8x512_o98_0_0_S1x8x512 inb_S128x8x512_S1x8x512_29_0_0 _ rfl,
    (List.forall_mem_cons.mpr ⟨piece8 X 97 30 rfl slices_S128x8x512_o97_0_0_S1x8x512 inb_S128x8x512_S1x8x512_30_0_0 _ rfl,
    (List.forall_mem_cons.mpr ⟨piece8 X 96 31 rfl slices_S128x8x512_o96_0_0_S1x8x512 inb_S128x8x512_S1x8x512_31_0_0 _ rfl,
    (List.forall_mem_cons.mpr ⟨piece8 X 95 32 rfl slices_S128x8x512_o95_0_0_S1x8x512 inb_S128x8x512_S1x8x512_32_0_0 _ rfl,
    (List.forall_mem_cons.mpr ⟨piece8 X 94 33 rfl slices_S128x8x512_o94_0_0_S1x8x512 inb_S128x8x512_S1x8x512_33_0_0 _ rfl,
    (List.forall_mem_cons.mpr ⟨piece8 X 93 34 rfl slices_S128x8x512_o93_0_0_S1x8x512 inb_S128x8x512_S1x8x512_34_0_0 _ rfl,
    (List.forall_mem_cons.mpr ⟨piece8 X 92 35 rfl slices_S128x8x512_o92_0_0_S1x8x512 inb_S128x8x512_S1x8x512_35_0_0 _ rfl,
    (List.forall_mem_cons.mpr ⟨piece8 X 91 36 rfl slices_S128x8x512_o91_0_0_S1x8x512 inb_S128x8x512_S1x8x512_36_0_0 _ rfl,
    (List.forall_mem_cons.mpr ⟨piece8 X 90 37 rfl slices_S128x8x512_o90_0_0_S1x8x512 inb_S128x8x512_S1x8x512_37_0_0 _ rfl,
    (List.forall_mem_cons.mpr ⟨piece8 X 89 38 rfl slices_S128x8x512_o89_0_0_S1x8x512 inb_S128x8x512_S1x8x512_38_0_0 _ rfl,
    (List.forall_mem_cons.mpr ⟨piece8 X 88 39 rfl slices_S128x8x512_o88_0_0_S1x8x512 inb_S128x8x512_S1x8x512_39_0_0 _ rfl,
    (List.forall_mem_cons.mpr ⟨piece8 X 87 40 rfl slices_S128x8x512_o87_0_0_S1x8x512 inb_S128x8x512_S1x8x512_40_0_0 _ rfl,
    (List.forall_mem_cons.mpr ⟨piece8 X 86 41 rfl slices_S128x8x512_o86_0_0_S1x8x512 inb_S128x8x512_S1x8x512_41_0_0 _ rfl,
    (List.forall_mem_cons.mpr ⟨piece8 X 85 42 rfl slices_S128x8x512_o85_0_0_S1x8x512 inb_S128x8x512_S1x8x512_42_0_0 _ rfl,
    (List.forall_mem_cons.mpr ⟨piece8 X 84 43 rfl slices_S128x8x512_o84_0_0_S1x8x512 inb_S128x8x512_S1x8x512_43_0_0 _ rfl,
    (List.forall_mem_cons.mpr ⟨piece8 X 83 44 rfl slices_S128x8x512_o83_0_0_S1x8x512 inb_S128x8x512_S1x8x512_44_0_0 _ rfl,
    (List.forall_mem_cons.mpr ⟨piece8 X 82 45 rfl slices_S128x8x512_o82_0_0_S1x8x512 inb_S128x8x512_S1x8x512_45_0_0 _ rfl,
    (List.forall_mem_cons.mpr ⟨piece8 X 81 46 rfl slices_S128x8x512_o81_0_0_S1x8x512 inb_S128x8x512_S1x8x512_46_0_0 _ rfl,
    (List.forall_mem_cons.mpr ⟨piece8 X 80 47 rfl slices_S128x8x512_o80_0_0_S1x8x512 inb_S128x8x512_S1x8x512_47_0_0 _ rfl,
    (List.forall_mem_cons.mpr ⟨piece8 X 79 48 rfl slices_S128x8x512_o79_0_0_S1x8x512 inb_S128x8x512_S1x8x512_48_0_0 _ rfl,
    (List.forall_mem_cons.mpr ⟨piece8 X 78 49 rfl slices_S128x8x512_o78_0_0_S1x8x512 inb_S128x8x512_S1x8x512_49_0_0 _ rfl,
    (List.forall_mem_cons.mpr ⟨piece8 X 77 50 rfl slices_S128x8x512_o77_0_0_S1x8x512 inb_S128x8x512_S1x8x512_50_0_0 _ rfl,
    (List.forall_mem_cons.mpr ⟨piece8 X 76 51 rfl slices_S128x8x512_o76_0_0_S1x8x512 inb_S128x8x512_S1x8x512_51_0_0 _ rfl,
    (List.forall_mem_cons.mpr ⟨piece8 X 75 52 rfl slices_S128x8x512_o75_0_0_S1x8x512 inb_S128x8x512_S1x8x512_52_0_0 _ rfl,
    (List.forall_mem_cons.mpr ⟨piece8 X 74 53 rfl slices_S128x8x512_o74_0_0_S1x8x512 inb_S128x8x512_S1x8x512_53_0_0 _ rfl,
    (List.forall_mem_cons.mpr ⟨piece8 X 73 54 rfl slices_S128x8x512_o73_0_0_S1x8x512 inb_S128x8x512_S1x8x512_54_0_0 _ rfl,
    (List.forall_mem_cons.mpr ⟨piece8 X 72 55 rfl slices_S128x8x512_o72_0_0_S1x8x512 inb_S128x8x512_S1x8x512_55_0_0 _ rfl,
    (List.forall_mem_cons.mpr ⟨piece8 X 71 56 rfl slices_S128x8x512_o71_0_0_S1x8x512 inb_S128x8x512_S1x8x512_56_0_0 _ rfl,
    (List.forall_mem_cons.mpr ⟨piece8 X 70 57 rfl slices_S128x8x512_o70_0_0_S1x8x512 inb_S128x8x512_S1x8x512_57_0_0 _ rfl,
    (List.forall_mem_cons.mpr ⟨piece8 X 69 58 rfl slices_S128x8x512_o69_0_0_S1x8x512 inb_S128x8x512_S1x8x512_58_0_0 _ rfl,
    (List.forall_mem_cons.mpr ⟨piece8 X 68 59 rfl slices_S128x8x512_o68_0_0_S1x8x512 inb_S128x8x512_S1x8x512_59_0_0 _ rfl,
    (List.forall_mem_cons.mpr ⟨piece8 X 67 60 rfl slices_S128x8x512_o67_0_0_S1x8x512 inb_S128x8x512_S1x8x512_60_0_0 _ rfl,
    (List.forall_mem_cons.mpr ⟨piece8 X 66 61 rfl slices_S128x8x512_o66_0_0_S1x8x512 inb_S128x8x512_S1x8x512_61_0_0 _ rfl,
    (List.forall_mem_cons.mpr ⟨piece8 X 65 62 rfl slices_S128x8x512_o65_0_0_S1x8x512 inb_S128x8x512_S1x8x512_62_0_0 _ rfl,
    (List.forall_mem_cons.mpr ⟨piece8 X 64 63 rfl slices_S128x8x512_o64_0_0_S1x8x512 inb_S128x8x512_S1x8x512_63_0_0 _ rfl,
    (List.forall_mem_cons.mpr ⟨piece8 X 63 64 rfl slices_S128x8x512_o63_0_0_S1x8x512 inb_S128x8x512_S1x8x512_64_0_0 _ rfl,
    (List.forall_mem_cons.mpr ⟨piece8 X 62 65 rfl slices_S128x8x512_o62_0_0_S1x8x512 inb_S128x8x512_S1x8x512_65_0_0 _ rfl,
    (List.forall_mem_cons.mpr ⟨piece8 X 61 66 rfl slices_S128x8x512_o61_0_0_S1x8x512 inb_S128x8x512_S1x8x512_66_0_0 _ rfl,
    (List.forall_mem_cons.mpr ⟨piece8 X 60 67 rfl slices_S128x8x512_o60_0_0_S1x8x512 inb_S128x8x512_S1x8x512_67_0_0 _ rfl,
    (List.forall_mem_cons.mpr ⟨piece8 X 59 68 rfl slices_S128x8x512_o59_0_0_S1x8x512 inb_S128x8x512_S1x8x512_68_0_0 _ rfl,
    (List.forall_mem_cons.mpr ⟨piece8 X 58 69 rfl slices_S128x8x512_o58_0_0_S1x8x512 inb_S128x8x512_S1x8x512_69_0_0 _ rfl,
    (List.forall_mem_cons.mpr ⟨piece8 X 57 70 rfl slices_S128x8x512_o57_0_0_S1x8x512 inb_S128x8x512_S1x8x512_70_0_0 _ rfl,
    (List.forall_mem_cons.mpr ⟨piece8 X 56 71 rfl slices_S128x8x512_o56_0_0_S1x8x512 inb_S128x8x512_S1x8x512_71_0_0 _ rfl,
    (List.forall_mem_cons.mpr ⟨piece8 X 55 72 rfl slices_S128x8x512_o55_0_0_S1x8x512 inb_S128x8x512_S1x8x512_72_0_0 _ rfl,
    (List.forall_mem_cons.mpr ⟨piece8 X 54 73 rfl slices_S128x8x512_o54_0_0_S1x8x512 inb_S128x8x512_S1x8x512_73_0_0 _ rfl,
    (List.forall_mem_cons.mpr ⟨piece8 X 53 74 rfl slices_S128x8x512_o53_0_0_S1x8x512 inb_S128x8x512_S1x8x512_74_0_0 _ rfl,
    (List.forall_mem_cons.mpr ⟨piece8 X 52 75 rfl slices_S128x8x512_o52_0_0_S1x8x512 inb_S128x8x512_S1x8x512_75_0_0 _ rfl,
    (List.forall_mem_cons.mpr ⟨piece8 X 51 76 rfl slices_S128x8x512_o51_0_0_S1x8x512 inb_S128x8x512_S1x8x512_76_0_0 _ rfl,
    (List.forall_mem_cons.mpr ⟨piece8 X 50 77 rfl slices_S128x8x512_o50_0_0_S1x8x512 inb_S128x8x512_S1x8x512_77_0_0 _ rfl,
    (List.forall_mem_cons.mpr ⟨piece8 X 49 78 rfl slices_S128x8x512_o49_0_0_S1x8x512 inb_S128x8x512_S1x8x512_78_0_0 _ rfl,
    (List.forall_mem_cons.mpr ⟨piece8 X 48 79 rfl slices_S128x8x512_o48_0_0_S1x8x512 inb_S128x8x512_S1x8x512_79_0_0 _ rfl,
    (List.forall_mem_cons.mpr ⟨piece8 X 47 80 rfl slices_S128x8x512_o47_0_0_S1x8x512 inb_S128x8x512_S1x8x512_80_0_0 _ rfl,
    (List.forall_mem_cons.mpr ⟨piece8 X 46 81 rfl slices_S128x8x512_o46_0_0_S1x8x512 inb_S128x8x512_S1x8x512_81_0_0 _ rfl,
    (List.forall_mem_cons.mpr ⟨piece8 X 45 82 rfl slices_S128x8x512_o45_0_0_S1x8x512 inb_S128x8x512_S1x8x512_82_0_0 _ rfl,
    (List.forall_mem_cons.mpr ⟨piece8 X 44 83 rfl slices_S128x8x512_o44_0_0_S1x8x512 inb_S128x8x512_S1x8x512_83_0_0 _ rfl,
    (List.forall_mem_cons.mpr ⟨piece8 X 43 84 rfl slices_S128x8x512_o43_0_0_S1x8x512 inb_S128x8x512_S1x8x512_84_0_0 _ rfl,
    (List.forall_mem_cons.mpr ⟨piece8 X 42 85 rfl slices_S128x8x512_o42_0_0_S1x8x512 inb_S128x8x512_S1x8x512_85_0_0 _ rfl,
    (List.forall_mem_cons.mpr ⟨piece8 X 41 86 rfl slices_S128x8x512_o41_0_0_S1x8x512 inb_S128x8x512_S1x8x512_86_0_0 _ rfl,
    (List.forall_mem_cons.mpr ⟨piece8 X 40 87 rfl slices_S128x8x512_o40_0_0_S1x8x512 inb_S128x8x512_S1x8x512_87_0_0 _ rfl,
    (List.forall_mem_cons.mpr ⟨piece8 X 39 88 rfl slices_S128x8x512_o39_0_0_S1x8x512 inb_S128x8x512_S1x8x512_88_0_0 _ rfl,
    (List.forall_mem_cons.mpr ⟨piece8 X 38 89 rfl slices_S128x8x512_o38_0_0_S1x8x512 inb_S128x8x512_S1x8x512_89_0_0 _ rfl,
    (List.forall_mem_cons.mpr ⟨piece8 X 37 90 rfl slices_S128x8x512_o37_0_0_S1x8x512 inb_S128x8x512_S1x8x512_90_0_0 _ rfl,
    (List.forall_mem_cons.mpr ⟨piece8 X 36 91 rfl slices_S128x8x512_o36_0_0_S1x8x512 inb_S128x8x512_S1x8x512_91_0_0 _ rfl,
    (List.forall_mem_cons.mpr ⟨piece8 X 35 92 rfl slices_S128x8x512_o35_0_0_S1x8x512 inb_S128x8x512_S1x8x512_92_0_0 _ rfl,
    (List.forall_mem_cons.mpr ⟨piece8 X 34 93 rfl slices_S128x8x512_o34_0_0_S1x8x512 inb_S128x8x512_S1x8x512_93_0_0 _ rfl,
    (List.forall_mem_cons.mpr ⟨piece8 X 33 94 rfl slices_S128x8x512_o33_0_0_S1x8x512 inb_S128x8x512_S1x8x512_94_0_0 _ rfl,
    (List.forall_mem_cons.mpr ⟨piece8 X 32 95 rfl slices_S128x8x512_o32_0_0_S1x8x512 inb_S128x8x512_S1x8x512_95_0_0 _ rfl,
    (List.forall_mem_cons.mpr ⟨piece8 X 31 96 rfl slices_S128x8x512_o31_0_0_S1x8x512 inb_S128x8x512_S1x8x512_96_0_0 _ rfl,
    (List.forall_mem_cons.mpr ⟨piece8 X 30 97 rfl slices_S128x8x512_o30_0_0_S1x8x512 inb_S128x8x512_S1x8x512_97_0_0 _ rfl,
    (List.forall_mem_cons.mpr ⟨piece8 X 29 98 rfl slices_S128x8x512_o29_0_0_S1x8x512 inb_S128x8x512_S1x8x512_98_0_0 _ rfl,
    (List.forall_mem_cons.mpr ⟨piece8 X 28 99 rfl slices_S128x8x512_o28_0_0_S1x8x512 inb_S128x8x512_S1x8x512_99_0_0 _ rfl,
    (List.forall_mem_cons.mpr ⟨piece8 X 27 100 rfl slices_S128x8x512_o27_0_0_S1x8x512 inb_S128x8x512_S1x8x512_100_0_0 _ rfl,
    (List.forall_mem_cons.mpr ⟨piece8 X 26 101 rfl slices_S128x8x512_o26_0_0_S1x8x512 inb_S128x8x512_S1x8x512_101_0_0 _ rfl,
    (List.forall_mem_cons.mpr ⟨piece8 X 25 102 rfl slices_S128x8x512_o25_0_0_S1x8x512 inb_S128x8x512_S1x8x512_102_0_0 _ rfl,
    (List.forall_mem_cons.mpr ⟨piece8 X 24 103 rfl slices_S128x8x512_o24_0_0_S1x8x512 inb_S128x8x512_S1x8x512_103_0_0 _ rfl,
    (List.forall_mem_cons.mpr ⟨piece8 X 23 104 rfl slices_S128x8x512_o23_0_0_S1x8x512 inb_S128x8x512_S1x8x512_104_0_0 _ rfl,
    (List.forall_mem_cons.mpr ⟨piece8 X 22 105 rfl slices_S128x8x512_o22_0_0_S1x8x512 inb_S128x8x512_S1x8x512_105_0_0 _ rfl,
    (List.forall_mem_cons.mpr ⟨piece8 X 21 106 rfl slices_S128x8x512_o21_0_0_S1x8x512 inb_S128x8x512_S1x8x512_106_0_0 _ rfl,
    (List.forall_mem_cons.mpr ⟨piece8 X 20 107 rfl slices_S128x8x512_o20_0_0_S1x8x512 inb_S128x8x512_S1x8x512_107_0_0 _ rfl,
    (List.forall_mem_cons.mpr ⟨piece8 X 19 108 rfl slices_S128x8x512_o19_0_0_S1x8x512 inb_S128x8x512_S1x8x512_108_0_0 _ rfl,
    (List.forall_mem_cons.mpr ⟨piece8 X 18 109 rfl slices_S128x8x512_o18_0_0_S1x8x512 inb_S128x8x512_S1x8x512_109_0_0 _ rfl,
    (List.forall_mem_cons.mpr ⟨piece8 X 17 110 rfl slices_S128x8x512_o17_0_0_S1x8x512 inb_S128x8x512_S1x8x512_110_0_0 _ rfl,
    (List.forall_mem_cons.mpr ⟨piece8 X 16 111 rfl slices_S128x8x512_o16_0_0_S1x8x512 inb_S128x8x512_S1x8x512_111_0_0 _ rfl,
    (List.forall_mem_cons.mpr ⟨piece8 X 15 112 rfl slices_S128x8x512_o15_0_0_S1x8x512 inb_S128x8x512_S1x8x512_112_0_0 _ rfl,
    (List.forall_mem_cons.mpr ⟨piece8 X 14 113 rfl slices_S128x8x512_o14_0_0_S1x8x512 inb_S128x8x512_S1x8x512_113_0_0 _ rfl,
    (List.forall_mem_cons.mpr ⟨piece8 X 13 114 rfl slices_S128x8x512_o13_0_0_S1x8x512 inb_S128x8x512_S1x8x512_114_0_0 _ rfl,
    (List.forall_mem_cons.mpr ⟨piece8 X 12 115 rfl slices_S128x8x512_o12_0_0_S1x8x512 inb_S128x8x512_S1x8x512_115_0_0 _ rfl,
    (List.forall_mem_cons.mpr ⟨piece8 X 11 116 rfl slices_S128x8x512_o11_0_0_S1x8x512 inb_S128x8x512_S1x8x512_116_0_0 _ rfl,
    (List.forall_mem_cons.mpr ⟨piece8 X 10 117 rfl slices_S128x8x512_o10_0_0_S1x8x512 inb_S128x8x512_S1x8x512_117_0_0 _ rfl,
    (List.forall_mem_cons.mpr ⟨piece8 X 9 118 rfl slices_S128x8x512_o9_0_0_S1x8x512 inb_S128x8x512_S1x8x512_118_0_0 _ rfl,
    (List.forall_mem_cons.mpr ⟨piece8 X 8 119 rfl slices_S128x8x512_o8_0_0_S1x8x512 inb_S128x8x512_S1x8x512_119_0_0 _ rfl,
    (List.forall_mem_cons.mpr ⟨piece8 X 7 120 rfl slices_S128x8x512_o7_0_0_S1x8x512 inb_S128x8x512_S1x8x512_120_0_0 _ rfl,
    (List.forall_mem_cons.mpr ⟨piece8 X 6 121 rfl slices_S128x8x512_o6_0_0_S1x8x512 inb_S128x8x512_S1x8x512_121_0_0 _ rfl,
    (List.forall_mem_cons.mpr ⟨piece8 X 5 122 rfl slices_S128x8x512_o5_0_0_S1x8x512 inb_S128x8x512_S1x8x512_122_0_0 _ rfl,
    (List.forall_mem_cons.mpr ⟨piece8 X 4 123 rfl slices_S128x8x512_o4_0_0_S1x8x512 inb_S128x8x512_S1x8x512_123_0_0 _ rfl,
    (List.forall_mem_cons.mpr ⟨piece8 X 3 124 rfl slices_S128x8x512_o3_0_0_S1x8x512 inb_S128x8x512_S1x8x512_124_0_0 _ rfl,
    (List.forall_mem_cons.mpr ⟨piece8 X 2 125 rfl slices_S128x8x512_o2_0_0_S1x8x512 inb_S128x8x512_S1x8x512_125_0_0 _ rfl,
    (List.forall_mem_cons.mpr ⟨piece8 X 1 126 rfl slices_S128x8x512_o1_0_0_S1x8x512 inb_S128x8x512_S1x8x512_126_0_0 _ rfl,
    (List.forall_mem_cons.mpr ⟨piece8 X 0 127 rfl slices_S128x8x512_o0_0_0_S1x8x512 inb_S128x8x512_S1x8x512_127_0_0 _ rfl,
    fun _ h => absurd h List.not_mem_nil⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)
    S1x8x512.size (by sl_kernel_rfl)

/-- A state's columns written back in eight pieces are the state. -/
theorem piece_col (H : Vec F S8x4096 .f32) (o : ℕ) (io) (w : Vec F S8x512 .f32)
    (hw : w = shapeCast S8x512 (View.ld H (Rect.unit (s := S8x4096) ![0, o] S8x512.size io)) shapeCasts_S8x512_S8x512)
    (x : (Rect.unit (s := S8x4096) ![0, o] S8x512.size io).shape.Idx) :
    w x = H ((Rect.unit (s := S8x4096) ![0, o] S8x512.size io).emb x) := by
  subst hw
  exact congrFun (shapeCast_self _ _) x

/-- The eight stores that write a state back. -/
def putCols (H : Vec F S8x4096 .f32) : List (View.Piece (Elt F) S8x4096 .f32) :=
  [⟨Rect.unit (s := S8x4096) ![0, 3584] S8x512.size inb_S8x4096_S8x512_0_3584, shapeCast S8x512 (View.ld H (Rect.unit (s := S8x4096) ![0, 3584] S8x512.size inb_S8x4096_S8x512_0_3584)) shapeCasts_S8x512_S8x512⟩,
   ⟨Rect.unit (s := S8x4096) ![0, 3072] S8x512.size inb_S8x4096_S8x512_0_3072, shapeCast S8x512 (View.ld H (Rect.unit (s := S8x4096) ![0, 3072] S8x512.size inb_S8x4096_S8x512_0_3072)) shapeCasts_S8x512_S8x512⟩,
   ⟨Rect.unit (s := S8x4096) ![0, 2560] S8x512.size inb_S8x4096_S8x512_0_2560, shapeCast S8x512 (View.ld H (Rect.unit (s := S8x4096) ![0, 2560] S8x512.size inb_S8x4096_S8x512_0_2560)) shapeCasts_S8x512_S8x512⟩,
   ⟨Rect.unit (s := S8x4096) ![0, 2048] S8x512.size inb_S8x4096_S8x512_0_2048, shapeCast S8x512 (View.ld H (Rect.unit (s := S8x4096) ![0, 2048] S8x512.size inb_S8x4096_S8x512_0_2048)) shapeCasts_S8x512_S8x512⟩,
   ⟨Rect.unit (s := S8x4096) ![0, 1536] S8x512.size inb_S8x4096_S8x512_0_1536, shapeCast S8x512 (View.ld H (Rect.unit (s := S8x4096) ![0, 1536] S8x512.size inb_S8x4096_S8x512_0_1536)) shapeCasts_S8x512_S8x512⟩,
   ⟨Rect.unit (s := S8x4096) ![0, 1024] S8x512.size inb_S8x4096_S8x512_0_1024, shapeCast S8x512 (View.ld H (Rect.unit (s := S8x4096) ![0, 1024] S8x512.size inb_S8x4096_S8x512_0_1024)) shapeCasts_S8x512_S8x512⟩,
   ⟨Rect.unit (s := S8x4096) ![0, 512] S8x512.size inb_S8x4096_S8x512_0_512, shapeCast S8x512 (View.ld H (Rect.unit (s := S8x4096) ![0, 512] S8x512.size inb_S8x4096_S8x512_0_512)) shapeCasts_S8x512_S8x512⟩,
   ⟨Rect.unit (s := S8x4096) ![0, 0] S8x512.size inb_S8x4096_S8x512_0_0, shapeCast S8x512 (View.ld H (Rect.unit (s := S8x4096) ![0, 0] S8x512.size inb_S8x4096_S8x512_0_0)) shapeCasts_S8x512_S8x512⟩]

theorem read_putCols {sp} (v : View sig .tc sp S8x4096 .f32) (f : BufTy.Contents (Elt F) v.ty) (H : Vec F S8x4096 .f32) :
    v.read (Elt F) (v.writes (Elt F) f (putCols H)) = H := by
  refine read_of_pieces v f H _ ?_ S8x512.size (by sl_kernel_rfl)
  unfold putCols
  refine List.forall_mem_cons.mpr ⟨piece_col H 3584 inb_S8x4096_S8x512_0_3584 _ rfl, ?_⟩
  refine List.forall_mem_cons.mpr ⟨piece_col H 3072 inb_S8x4096_S8x512_0_3072 _ rfl, ?_⟩
  refine List.forall_mem_cons.mpr ⟨piece_col H 2560 inb_S8x4096_S8x512_0_2560 _ rfl, ?_⟩
  refine List.forall_mem_cons.mpr ⟨piece_col H 2048 inb_S8x4096_S8x512_0_2048 _ rfl, ?_⟩
  refine List.forall_mem_cons.mpr ⟨piece_col H 1536 inb_S8x4096_S8x512_0_1536 _ rfl, ?_⟩
  refine List.forall_mem_cons.mpr ⟨piece_col H 1024 inb_S8x4096_S8x512_0_1024 _ rfl, ?_⟩
  refine List.forall_mem_cons.mpr ⟨piece_col H 512 inb_S8x4096_S8x512_0_512 _ rfl, ?_⟩
  refine List.forall_mem_cons.mpr ⟨piece_col H 0 inb_S8x4096_S8x512_0_0 _ rfl, ?_⟩
  exact fun _ h => absurd h List.not_mem_nil

/-- The same over earlier stores. -/
def putColsOn (H : Vec F S8x4096 .f32) (L : List (View.Piece (Elt F) S8x4096 .f32)) : List (View.Piece (Elt F) S8x4096 .f32) :=
  ⟨Rect.unit (s := S8x4096) ![0, 3584] S8x512.size inb_S8x4096_S8x512_0_3584, shapeCast S8x512 (View.ld H (Rect.unit (s := S8x4096) ![0, 3584] S8x512.size inb_S8x4096_S8x512_0_3584)) shapeCasts_S8x512_S8x512⟩ ::
   ⟨Rect.unit (s := S8x4096) ![0, 3072] S8x512.size inb_S8x4096_S8x512_0_3072, shapeCast S8x512 (View.ld H (Rect.unit (s := S8x4096) ![0, 3072] S8x512.size inb_S8x4096_S8x512_0_3072)) shapeCasts_S8x512_S8x512⟩ ::
   ⟨Rect.unit (s := S8x4096) ![0, 2560] S8x512.size inb_S8x4096_S8x512_0_2560, shapeCast S8x512 (View.ld H (Rect.unit (s := S8x4096) ![0, 2560] S8x512.size inb_S8x4096_S8x512_0_2560)) shapeCasts_S8x512_S8x512⟩ ::
   ⟨Rect.unit (s := S8x4096) ![0, 2048] S8x512.size inb_S8x4096_S8x512_0_2048, shapeCast S8x512 (View.ld H (Rect.unit (s := S8x4096) ![0, 2048] S8x512.size inb_S8x4096_S8x512_0_2048)) shapeCasts_S8x512_S8x512⟩ ::
   ⟨Rect.unit (s := S8x4096) ![0, 1536] S8x512.size inb_S8x4096_S8x512_0_1536, shapeCast S8x512 (View.ld H (Rect.unit (s := S8x4096) ![0, 1536] S8x512.size inb_S8x4096_S8x512_0_1536)) shapeCasts_S8x512_S8x512⟩ ::
   ⟨Rect.unit (s := S8x4096) ![0, 1024] S8x512.size inb_S8x4096_S8x512_0_1024, shapeCast S8x512 (View.ld H (Rect.unit (s := S8x4096) ![0, 1024] S8x512.size inb_S8x4096_S8x512_0_1024)) shapeCasts_S8x512_S8x512⟩ ::
   ⟨Rect.unit (s := S8x4096) ![0, 512] S8x512.size inb_S8x4096_S8x512_0_512, shapeCast S8x512 (View.ld H (Rect.unit (s := S8x4096) ![0, 512] S8x512.size inb_S8x4096_S8x512_0_512)) shapeCasts_S8x512_S8x512⟩ ::
   ⟨Rect.unit (s := S8x4096) ![0, 0] S8x512.size inb_S8x4096_S8x512_0_0, shapeCast S8x512 (View.ld H (Rect.unit (s := S8x4096) ![0, 0] S8x512.size inb_S8x4096_S8x512_0_0)) shapeCasts_S8x512_S8x512⟩ :: L

theorem read_putColsOn {sp} (v : View sig .tc sp S8x4096 .f32) (f : BufTy.Contents (Elt F) v.ty) (H : Vec F S8x4096 .f32)
    (L : List (View.Piece (Elt F) S8x4096 .f32)) :
    v.read (Elt F) (v.writes (Elt F) f (putColsOn H L)) = H := by
  have h := read_putCols v (v.writes (Elt F) f L) H
  unfold putCols at h
  unfold putColsOn
  simp only [View.writes_cons] at h ⊢
  exact h

/-- Four blocks of columns side by side. -/
def cols4 (w0 w1 w2 w3 : Vec F S1024x1024 .f32) : Vec F S1024x4096 .f32 := fun j =>
  if h : (j 1).val < 1024 then w0 (ix2 (j 0) ⟨(j 1).val, h⟩)
  else if h : (j 1).val < 2048 then w1 (ix2 (j 0) ⟨(j 1).val - 1024, by omega⟩)
  else if h : (j 1).val < 3072 then w2 (ix2 (j 0) ⟨(j 1).val - 2048, by omega⟩)
  else w3 (ix2 (j 0) ⟨(j 1).val - 3072, by have : (j 1).val < 4096 := (j 1).isLt; omega⟩)

theorem read_cols4 (v : View sig .tc .vmem S1024x4096 .f32) (f : BufTy.Contents (Elt F) v.ty)
    (w0 w1 w2 w3 : Vec F S1024x1024 .f32) (i0 i1 i2 i3) :
    v.read (Elt F) (v.writes (Elt F) f [⟨Rect.unit (s := S1024x4096) ![0, 3072] S1024x1024.size i3, w3⟩,
      ⟨Rect.unit (s := S1024x4096) ![0, 2048] S1024x1024.size i2, w2⟩,
      ⟨Rect.unit (s := S1024x4096) ![0, 1024] S1024x1024.size i1, w1⟩,
      ⟨Rect.unit (s := S1024x4096) ![0, 0] S1024x1024.size i0, w0⟩]) = cols4 w0 w1 w2 w3 := by
  funext y
  have hy : (y 1).val < 4096 := (y 1).isLt
  unfold cols4
  split_ifs with h0 h1 h2
  · refine (View.read_writes_cons_unit_of_not_mem _ _ _ _ _ y rfl 1 (by simp; omega)).trans ?_
    refine (View.read_writes_cons_unit_of_not_mem _ _ _ _ _ y rfl 1 (by simp; omega)).trans ?_
    refine (View.read_writes_cons_unit_of_not_mem _ _ _ _ _ y rfl 1 (by simp; omega)).trans ?_
    exact View.read_writes_cons_unit_of_mem _ _ _ _ _ y (ix2 (y 0) ⟨(y 1).val, h0⟩) rfl (fun a => by fin_cases a <;> simp)
  · refine (View.read_writes_cons_unit_of_not_mem _ _ _ _ _ y rfl 1 (by simp; omega)).trans ?_
    refine (View.read_writes_cons_unit_of_not_mem _ _ _ _ _ y rfl 1 (by simp; omega)).trans ?_
    exact View.read_writes_cons_unit_of_mem _ _ _ _ _ y (ix2 (y 0) ⟨(y 1).val - 1024, by omega⟩) rfl (fun a => by fin_cases a <;> simp <;> omega)
  · refine (View.read_writes_cons_unit_of_not_mem _ _ _ _ _ y rfl 1 (by simp; omega)).trans ?_
    exact View.read_writes_cons_unit_of_mem _ _ _ _ _ y (ix2 (y 0) ⟨(y 1).val - 2048, by omega⟩) rfl (fun a => by fin_cases a <;> simp <;> omega)
  · exact View.read_writes_cons_unit_of_mem _ _ _ _ _ y (ix2 (y 0) ⟨(y 1).val - 3072, by omega⟩) rfl (fun a => by fin_cases a <;> simp <;> omega)

/-- The rows projected into the state space, from the block of the forward direction, the reversed block of the
    backward one and the projection. -/
def buF (x0 xr : Vec F S128x4x512 .f32) (x2 : Vec F S4x256x1024 .bf16) : Vec F S1024x4096 .f32 :=
  cols4
    (k0_pay180 (k0_pay179 x0 xr) (View.ld x2 (Rect.unit (s := S4x256x1024) ![0, 0, 0] S1x256x1024.size inb_S4x256x1024_S1x256x1024_0_0_0)))
    (k0_pay181 (k0_pay177 x0) (k0_pay178 xr) (View.ld x2 (Rect.unit (s := S4x256x1024) ![1, 0, 0] S1x256x1024.size inb_S4x256x1024_S1x256x1024_1_0_0)))
    (k0_pay182 (k0_pay177 x0) (k0_pay178 xr) (View.ld x2 (Rect.unit (s := S4x256x1024) ![2, 0, 0] S1x256x1024.size inb_S4x256x1024_S1x256x1024_2_0_0)))
    (k0_pay185 (k0_pay183 (k0_pay177 x0) (k0_pay178 xr)) (k0_pay184 (View.ld x2 (Rect.unit (s := S4x256x1024) ![3, 0, 0] S1x256x1024.size inb_S4x256x1024_S1x256x1024_3_0_0))))

/-- The results of a block from its states. -/
def yF (h : Vec F S1024x4096 .f32) (x3 : Vec F S4x1024x256 .bf16) : Vec F S128x8x512 .f32 :=
  k0_pay201 k0_pay199
    (k0_pay200 (View.ld h (Rect.unit (s := S1024x4096) ![0, 0] S1024x1024.size inb_S1024x4096_S1024x1024_0_0)))
    (View.ld x3 (Rect.unit (s := S4x1024x256) ![0, 0, 0] S1x1024x256.size inb_S4x1024x256_S1x1024x256_0_0_0))
    (View.ld h (Rect.unit (s := S1024x4096) ![0, 1024] S1024x1024.size inb_S1024x4096_S1024x1024_0_1024))
    (View.ld x3 (Rect.unit (s := S4x1024x256) ![1, 0, 0] S1x1024x256.size inb_S4x1024x256_S1x1024x256_1_0_0))
    (View.ld h (Rect.unit (s := S1024x4096) ![0, 2048] S1024x1024.size inb_S1024x4096_S1024x1024_0_2048))
    (View.ld x3 (Rect.unit (s := S4x1024x256) ![2, 0, 0] S1x1024x256.size inb_S4x1024x256_S1x1024x256_2_0_0))
    (View.ld h (Rect.unit (s := S1024x4096) ![0, 3072] S1024x1024.size inb_S1024x4096_S1024x1024_0_3072))
    (View.ld x3 (Rect.unit (s := S4x1024x256) ![3, 0, 0] S1x1024x256.size inb_S4x1024x256_S1x1024x256_3_0_0))

/-- The projected rows of a grid point, from the two blocks of the input as they come. -/
def buOf (x0 x1 : Vec F S128x4x512 .f32) (x2 : Vec F S4x256x1024 .bf16) : Vec F S1024x4096 .f32 := buF x0 (rev4 x1) x2

/-- The results of a grid point entered with the state `h`. -/
def yOut (x0 x1 : Vec F S128x4x512 .f32) (x2 : Vec F S4x256x1024 .bf16) (x3 : Vec F S4x1024x256 .bf16)
    (x4 : Vec F S1x8x4096 .f32) (h : Vec F S8x4096 .f32) : Vec F S128x8x512 .f32 := yF (buAt x4 (buOf x0 x1 x2) h 128) x3

/-- The state a grid point entered with the state `h` leaves. -/
def hOut (x0 x1 : Vec F S128x4x512 .f32) (x2 : Vec F S4x256x1024 .bf16)
    (x4 : Vec F S1x8x4096 .f32) (h : Vec F S8x4096 .f32) : Vec F S8x4096 .f32 := St x4 (buOf x0 x1 x2) h 128

/-- The condition of the kernel's one branch: whether the point is the first. -/
abbrev cond0_0 (i : grid0.Coords) : Prop := (Scalar.cmpi .ne (Scalar.extui (Scalar.cmpi .eq (BitVec.ofNat 32 (i 0).val) 0#32)) 0#32) = 1#1

end Cert.ScanIdeal.Gen

end
-- ==== Proof.ScanIdealRun.lean ====
module

public import proofs.«01_k».proof.Proof.Gen.ScanIdeal.Frame
public import proofs.«01_k».proof.Proof.ScanIdealPieces

/-! The run of the scan kernel's body at a grid point: the first point, which starts from the zero state, and the others,
    which go on from the state the point before left. -/

@[expose] public section

set_option maxRecDepth 16384

noncomputable section

namespace Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option pp.maxSteps 150 in
set_option maxHeartbeats 8000000 in
/-- The body at the first point. -/
theorem runA (c : Dev nD) (i : grid0.Coords)
(arg1 : Memref sig .tc .vmem S128x4x512 .f32) (harg1 : arg1.IsWhole)
    (arg2 : Memref sig .tc .vmem S128x4x512 .f32) (harg2 : arg2.IsWhole)
    (arg3 : Memref sig .tc .vmem S4x256x1024 .bf16) (harg3 : arg3.IsWhole)
    (arg4 : Memref sig .tc .vmem S4x1024x256 .bf16) (harg4 : arg4.IsWhole)
    (arg5 : Memref sig .tc .vmem S1x8x4096 .f32) (harg5 : arg5.IsWhole)
    (arg6 : Memref sig .tc .vmem S128x8x512 .f32) (harg6 : arg6.IsWhole)
    (arg7 : Memref sig .tc .vmem S128x8x512 .f32) (harg7 : arg7.IsWhole)
    (arg8 : Memref sig .tc .vmem S8x4096 .f32) (harg8 : arg8.IsWhole)
    (arg9 : Memref sig .tc .vmem S1024x4096 .f32) (harg9 : arg9.IsWhole)
    (arg10 : Memref sig .tc .vmem S128x4x512 .f32) (harg10 : arg10.IsWhole) (hc0 : cond0_0 i)
    (x0 : Vec F S128x4x512 .f32) (x1 : Vec F S128x4x512 .f32) (x2 : Vec F S4x256x1024 .bf16) (x3 : Vec F S4x1024x256 .bf16) (x4 : Vec F S1x8x4096 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yOut x0 x1 x2 x3 x4 k0_pay22) ∗ owns (c : Thread nD τ) arg7 fullShare (rev8 (yOut x0 x1 x2 x3 x4 k0_pay22)) ∗ owns (c : Thread nD τ) arg8 fullShare (hOut x0 x1 x2 x4 k0_pay22) ∗ (∃ d, owns (c : Thread nD τ) arg9 fullShare d) ∗ (∃ d, owns (c : Thread nD τ) arg10 fullShare d)) -∗ K ⟨⟩))
          ⊢ wp frame (wpE (defs₀ (F := F)) Variants.none c none) E (cc0_s5_scan i arg1 harg1 arg2 harg2 arg3 harg3 arg4 harg4 arg5 harg5 arg6 harg6 arg7 harg7 arg8 harg8 arg9 harg9 arg10 harg10) K := by
    simp only [cc0_s5_scan_eq_skeleton]; unfold cc0_s5_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, Hk⟩
    subst hf0 hf1 hf2 hf3 hf4
    sl_exec (disch := first | sl_exact hc0)
    have h10 : arg10.view.read (Elt F) (arg10.view.writes (Elt F) arg10.view.junk (runA.sl.HS2_128 c arg2 f1)) = rev4 (arg2.view.read (Elt F) f1) := by
      exact read_puts4 arg10.view _ (arg2.view.read (Elt F) f1)
    have h9 : arg9.view.read (Elt F) (arg9.view.writes (Elt F) arg9.view.junk (runA.sl.HS1_4 c arg1 arg2 arg3 arg10 f0 f1 f2))
        = buF (View.ld (arg1.view.read (Elt F) f0) (Rect.unit (s := S128x4x512) ![0, 0, 0] S128x4x512.size inb_S128x4x512_S128x4x512_0_0_0))
          (View.ld (arg10.view.read (Elt F) (arg10.view.writes (Elt F) arg10.view.junk (runA.sl.HS2_128 c arg2 f1))) (Rect.unit (s := S128x4x512) ![0, 0, 0] S128x4x512.size inb_S128x4x512_S128x4x512_0_0_0))
          (arg3.view.read (Elt F) f2) :=
      read_cols4 arg9.view _ _ _ _ _ _ _ _ _
    rw [h10, View.ld_unit_zero (by funext a; fin_cases a <;> rfl), View.ld_unit_zero (by funext a; fin_cases a <;> rfl)] at h9
    have h8 : (arg8.view.read (Elt F) (arg8.view.writes (Elt F) arg8.view.junk runA.sl.HS0_1)) = k0_pay22 := View.read_writes_full arg8.view _ _ _ []
    iapply (loop_wp (F := F) Variants.none c none E i arg1 harg1 arg2 harg2 arg3 harg3 arg4 harg4 arg5 harg5 arg6 harg6 arg7 harg7 arg8 harg8 arg9 harg9 arg10 harg10 (runA.sl.r_28 c arg1 arg2 arg10 f0 f1) (runA.sl.r_29 c arg3 f2) f4 (arg9.view.writes (Elt F) arg9.view.junk (runA.sl.HS1_4 c arg1 arg2 arg3 arg10 f0 f1 f2)) (arg8.view.read (Elt F) (arg8.view.writes (Elt F) arg8.view.junk runA.sl.HS0_1))) $$ [H4 HS1]
    · isplitl [H4]; · iexact H4
      iexact HS1
    iintro %acc ⟨H4, ⟨%g, HS1, %hg⟩, %hacc⟩
    obtain ⟨N, hN⟩ : ∃ N, N = St (arg5.view.read (Elt F) f4) (arg9.view.read (Elt F) (arg9.view.writes (Elt F) arg9.view.junk (runA.sl.HS1_4 c arg1 arg2 arg3 arg10 f0 f1 f2))) (arg8.view.read (Elt F) (arg8.view.writes (Elt F) arg8.view.junk runA.sl.HS0_1)) 128 := ⟨_, rfl⟩
    rw [← hN] at hacc
    have hst : N = hOut (arg1.view.read (Elt F) f0) (arg2.view.read (Elt F) f1) (arg3.view.read (Elt F) f2) (arg5.view.read (Elt F) f4) k0_pay22 := by
      unfold hOut buOf
      rw [hN, h9, h8]
    clear hN
    subst hacc
    unfold comps
    sl_exec
    sl_step
    have hg' : arg9.view.read (Elt F) g = buAt (arg5.view.read (Elt F) f4) (buOf (arg1.view.read (Elt F) f0) (arg2.view.read (Elt F) f1) (arg3.view.read (Elt F) f2)) k0_pay22 128 := by
      rw [hg, h9, h8]; rfl
    iapply Hk
    isplitl [H0]
    · iexists f0
      isplitr
      · ipureintro; rfl
      iexact H0
    isplitl [H1]
    · iexists f1
      isplitr
      · ipureintro; rfl
      iexact H1
    isplitl [H2]
    · iexists f2
      isplitr
      · ipureintro; rfl
      iexact H2
    isplitl [H3]
    · iexists f3
      isplitr
      · ipureintro; rfl
      iexact H3
    isplitl [H4]
    · iexists f4
      isplitr
      · ipureintro; rfl
      iexact H4
    isplitl [H5]
    · iexists _
      isplitr [H5]; swap
      · iexact H5
      ipureintro
      unfold yOut
      rw [← hg']
      exact View.read_writes_full arg6.view _ _ _ []
    isplitl [H6]
    · iexists _
      isplitr [H6]; swap
      · iexact H6
      ipureintro
      unfold yOut
      rw [← hg']
      exact read_puts8 arg7.view _ (yF (arg9.view.read (Elt F) g) (arg4.view.read (Elt F) f3))
    isplitl [HS0]
    · iexists _
      isplitr [HS0]; swap
      · iexact HS0
      ipureintro
      rw [← hst]
      exact read_putColsOn arg8.view _ N runA.sl.HS0_1
    isplitl [HS1]
    · iexists _, g
      isplitr
      · ipureintro; rfl
      iexact HS1
    iexists _, _
    isplitr; swap
    · iexact HS2
    ipureintro; rfl

end Cert.ScanIdeal.Gen

end
-- ==== Proof.ScanIdealRunB.lean ====
module

public import proofs.«01_k».proof.Proof.Gen.ScanIdeal.Frame
public import proofs.«01_k».proof.Proof.ScanIdealPieces

/-! The run of the scan kernel's body at a grid point: the first point, which starts from the zero state, and the others,
    which go on from the state the point before left. -/

@[expose] public section

set_option maxRecDepth 16384

noncomputable section

namespace Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option pp.maxSteps 150 in
set_option maxHeartbeats 8000000 in
/-- The body at a later point. -/
theorem runB (c : Dev nD) (i : grid0.Coords)
(arg1 : Memref sig .tc .vmem S128x4x512 .f32) (harg1 : arg1.IsWhole)
    (arg2 : Memref sig .tc .vmem S128x4x512 .f32) (harg2 : arg2.IsWhole)
    (arg3 : Memref sig .tc .vmem S4x256x1024 .bf16) (harg3 : arg3.IsWhole)
    (arg4 : Memref sig .tc .vmem S4x1024x256 .bf16) (harg4 : arg4.IsWhole)
    (arg5 : Memref sig .tc .vmem S1x8x4096 .f32) (harg5 : arg5.IsWhole)
    (arg6 : Memref sig .tc .vmem S128x8x512 .f32) (harg6 : arg6.IsWhole)
    (arg7 : Memref sig .tc .vmem S128x8x512 .f32) (harg7 : arg7.IsWhole)
    (arg8 : Memref sig .tc .vmem S8x4096 .f32) (harg8 : arg8.IsWhole)
    (arg9 : Memref sig .tc .vmem S1024x4096 .f32) (harg9 : arg9.IsWhole)
    (arg10 : Memref sig .tc .vmem S128x4x512 .f32) (harg10 : arg10.IsWhole) (hc0 : ¬cond0_0 i)
    (x0 : Vec F S128x4x512 .f32) (x1 : Vec F S128x4x512 .f32) (x2 : Vec F S4x256x1024 .bf16) (x3 : Vec F S4x1024x256 .bf16) (x4 : Vec F S1x8x4096 .f32) (xs : Vec F S8x4096 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yOut x0 x1 x2 x3 x4 xs) ∗ owns (c : Thread nD τ) arg7 fullShare (rev8 (yOut x0 x1 x2 x3 x4 xs)) ∗ owns (c : Thread nD τ) arg8 fullShare (hOut x0 x1 x2 x4 xs) ∗ (∃ d, owns (c : Thread nD τ) arg9 fullShare d) ∗ (∃ d, owns (c : Thread nD τ) arg10 fullShare d)) -∗ K ⟨⟩))
          ⊢ wp frame (wpE (defs₀ (F := F)) Variants.none c none) E (cc0_s5_scan i arg1 harg1 arg2 harg2 arg3 harg3 arg4 harg4 arg5 harg5 arg6 harg6 arg7 harg7 arg8 harg8 arg9 harg9 arg10 harg10) K := by
    simp only [cc0_s5_scan_eq_skeleton]; unfold cc0_s5_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%ds1, %fs1, -, HS1⟩, ⟨%ds2, %fs2, -, HS2⟩, Hk⟩
    subst hf0 hf1 hf2 hf3 hf4 hfs0
    sl_exec (disch := first | sl_exact hc0)
    have h10 : arg10.view.read (Elt F) (arg10.view.writes (Elt F) arg10.view.junk (runB.sl.HS2_128 c arg2 f1)) = rev4 (arg2.view.read (Elt F) f1) := by
      exact read_puts4 arg10.view _ (arg2.view.read (Elt F) f1)
    have h9 : arg9.view.read (Elt F) (arg9.view.writes (Elt F) arg9.view.junk (runB.sl.HS1_4 c arg1 arg2 arg3 arg10 f0 f1 f2))
        = buF (View.ld (arg1.view.read (Elt F) f0) (Rect.unit (s := S128x4x512) ![0, 0, 0] S128x4x512.size inb_S128x4x512_S128x4x512_0_0_0))
          (View.ld (arg10.view.read (Elt F) (arg10.view.writes (Elt F) arg10.view.junk (runB.sl.HS2_128 c arg2 f1))) (Rect.unit (s := S128x4x512) ![0, 0, 0] S128x4x512.size inb_S128x4x512_S128x4x512_0_0_0))
          (arg3.view.read (Elt F) f2) :=
      read_cols4 arg9.view _ _ _ _ _ _ _ _ _
    rw [h10, View.ld_unit_zero (by funext a; fin_cases a <;> rfl), View.ld_unit_zero (by funext a; fin_cases a <;> rfl)] at h9
    iapply (loop_wp (F := F) Variants.none c none E i arg1 harg1 arg2 harg2 arg3 harg3 arg4 harg4 arg5 harg5 arg6 harg6 arg7 harg7 arg8 harg8 arg9 harg9 arg10 harg10 (runB.sl.r_28 c arg1 arg2 arg10 f0 f1) (runB.sl.r_29 c arg3 f2) f4 (arg9.view.writes (Elt F) arg9.view.junk (runB.sl.HS1_4 c arg1 arg2 arg3 arg10 f0 f1 f2)) (arg8.view.read (Elt F) fs0)) $$ [H4 HS1]
    · isplitl [H4]; · iexact H4
      iexact HS1
    iintro %acc ⟨H4, ⟨%g, HS1, %hg⟩, %hacc⟩
    obtain ⟨N, hN⟩ : ∃ N, N = St (arg5.view.read (Elt F) f4) (arg9.view.read (Elt F) (arg9.view.writes (Elt F) arg9.view.junk (runB.sl.HS1_4 c arg1 arg2 arg3 arg10 f0 f1 f2))) (arg8.view.read (Elt F) fs0) 128 := ⟨_, rfl⟩
    rw [← hN] at hacc
    have hst : N = hOut (arg1.view.read (Elt F) f0) (arg2.view.read (Elt F) f1) (arg3.view.read (Elt F) f2) (arg5.view.read (Elt F) f4) (arg8.view.read (Elt F) fs0) := by
      unfold hOut buOf
      rw [hN, h9]
    clear hN
    subst hacc
    unfold comps
    sl_exec
    sl_step
    have hg' : arg9.view.read (Elt F) g = buAt (arg5.view.read (Elt F) f4) (buOf (arg1.view.read (Elt F) f0) (arg2.view.read (Elt F) f1) (arg3.view.read (Elt F) f2)) (arg8.view.read (Elt F) fs0) 128 := by
      rw [hg, h9]; rfl
    iapply Hk
    isplitl [H0]
    · iexists f0
      isplitr
      · ipureintro; rfl
      iexact H0
    isplitl [H1]
    · iexists f1
      isplitr
      · ipureintro; rfl
      iexact H1
    isplitl [H2]
    · iexists f2
      isplitr
      · ipureintro; rfl
      iexact H2
    isplitl [H3]
    · iexists f3
      isplitr
      · ipureintro; rfl
      iexact H3
    isplitl [H4]
    · iexists f4
      isplitr
      · ipureintro; rfl
      iexact H4
    isplitl [H5]
    · iexists _
      isplitr [H5]; swap
      · iexact H5
      ipureintro
      unfold yOut
      rw [← hg']
      exact View.read_writes_full arg6.view _ _ _ []
    isplitl [H6]
    · iexists _
      isplitr [H6]; swap
      · iexact H6
      ipureintro
      unfold yOut
      rw [← hg']
      exact read_puts8 arg7.view _ (yF (arg9.view.read (Elt F) g) (arg4.view.read (Elt F) f3))
    isplitl [HS0]
    · iexists _
      isplitr [HS0]; swap
      · iexact HS0
      ipureintro
      rw [← hst]
      exact read_putCols arg8.view fs0 _
    isplitl [HS1]
    · iexists _, g
      isplitr
      · ipureintro; rfl
      iexact HS1
    iexists _, _
    isplitr; swap
    · iexact HS2
    ipureintro; rfl

end Cert.ScanIdeal.Gen

end
-- ==== Proof.ScanIdealFrame.lean ====
module

public import proofs.«01_k».proof.Proof.ScanIdealRun
public import proofs.«01_k».proof.Proof.ScanIdealRunB
public import Idealize.ShloMosaic.Lib.Claim

/-! The launch of the scan: what each grid point leaves in its outputs and in the state carried to the next, and the
    frame of the whole program. -/

@[expose] public section

set_option maxRecDepth 16384

noncomputable section

namespace Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The branch is taken at the first point only. -/
theorem hcond0_0 : ∀ t : Fin cfg0.N, cond0_0 (grid0.coords t) ↔ t.val = 0 :=
  (fun t => by
    have ht : t.val < 66 := Nat.lt_of_lt_of_eq t.isLt N_0
    have e0 : (grid0.coords t 0).val = t.val / 1 % 66 := Pipeline.Grid.coords_val t 0 (by decide) rfl
    have e1 : t.val = 0 ↔ t.val % 66 = 0 := by omega
    rw [e1]
    simp only [cond0_0, e0]
    word_cmp
   : ∀ t : Fin grid0.N, cond0_0 (grid0.coords t) ↔ t.val = 0)

abbrev ms0_0 (t : Fin cfg0.N) : Memref sig .tc .vmem S128x4x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x256x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x8x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x8x512 .f32 := win0_6.stage (cfg0.slots t 6)
abbrev hs0_6 (t : Fin cfg0.N) : (ms0_6 t).IsWhole := hstage0_6 ((cfg0.slots t 6).cast nbuf0_6)
abbrev scM0_0 : Memref sig .tc .vmem S8x4096 .f32 := Memref.whole cc0_scratch0
abbrev scM0_1 : Memref sig .tc .vmem S1024x4096 .f32 := Memref.whole cc0_scratch1
abbrev scM0_2 : Memref sig .tc .vmem S128x4x512 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The state before grid point `n`. -/
def hAt (c : Dev nD) : ℕ → Vec F S8x4096 .f32
  | 0 => k0_pay22
  | n + 1 => if h : n < cfg0.N then hOut (iblk m c 0 ⟨n, h⟩) (iblk m c 1 ⟨n, h⟩) (iblk m c 2 ⟨n, h⟩) (iblk m c 4 ⟨n, h⟩) (hAt c n) else hAt c n

theorem hAt_zero (c : Dev nD) : hAt m c 0 = k0_pay22 := rfl

theorem hAt_succ (c : Dev nD) (t : Fin cfg0.N) : hAt m c (t.val + 1) = hOut (iblk m c 0 t) (iblk m c 1 t) (iblk m c 2 t) (iblk m c 4 t) (hAt m c t.val) := by
  rw [hAt, dif_pos t.isLt]

/-- The results of grid point `t`. -/
def yAt (c : Dev nD) (t : Fin cfg0.N) : Vec F S128x8x512 .f32 := yOut (iblk m c 0 t) (iblk m c 1 t) (iblk m c 2 t) (iblk m c 3 t) (iblk m c 4 t) (hAt m c t.val)

/-- What holds of the scratch before point `n`: anything before the first, afterwards the carried state. -/
def PhiS (c : Dev nD) : (n : ℕ) → n ≤ cfg0.N → sProp 𝕄
  | 0, _ => Pipeline.ΦA spec0 c
  | n + 1, _ => iprop(iprop(owns (c : Thread nD τ) scM0_0 fullShare (hAt m c (n + 1)) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (hAt m c (n + 1)) ∗ (∃ d, owns (c : Thread nD τ) scM0_1 fullShare d) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (hAt m c n) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-- The proof data of the pipeline: each input's buffer at its block, the outputs' at the point's results (as they are,
    and with the time steps reversed). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => rev8 (yAt m c t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yAt m c t := by dsimp only [dats]
theorem after0_6 (c : Dev nD) (t : Fin cfg0.N) : (dats m 0 c).after 6 t = rev8 (yAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ, hAt_succ, PhiS_castSucc m c t]
  unfold yAt
  by_cases h0 : t.val = 0
  · rw [PhiS_zero m c _ _ h0, PhiA0_eq, show hAt m c t.val = k0_pay22 by rw [h0]; rfl]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos m c _ _ h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (hAt m c t.val) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : (Fin.last cfg0.N).val ≠ 0 := by rw [Fin.val_last]; have : cfg0.N = 66 := N_0; omega
  rw [show (dats m 0 c).Φ (Fin.last cfg0.N) = PhiS m c (Fin.last cfg0.N).val (Nat.le_of_lt_succ (Fin.last cfg0.N).isLt) from rfl, PhiS_pos m c _ _ hN, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

set_option backward.isDefEq.respectTransparency.types false in
set_option maxHeartbeats 800000 in
/-- The launch: every array of the pipeline ends at what the proof data says, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.ScanIdeal.Gen

end
-- ==== Proof.ScanSpec.lean ====
module

public import Idealize.ShloMosaic.Lib.Pipeline.ValueKit

/-! The scan in both directions as functions of the arguments' entries: direction 1 reads the context backwards, then
    the latents backwards. -/

@[expose] public section

noncomputable section

namespace Cert.S5

/-- The time that direction `d` reads at its step `l`. -/
def src (d : Fin 2) (l : Fin 8448) : Fin 8448 :=
  if d.val = 0 then l else if h : l.val < 256 then ⟨255 - l.val, by omega⟩ else ⟨8703 - l.val, by omega⟩

theorem src_zero (l : Fin 8448) : src 0 l = l := rfl
theorem src_lo (l : Fin 8448) (h : l.val < 256) : src 1 l = ⟨255 - l.val, by omega⟩ := by simp [src, h]
theorem src_hi (l : Fin 8448) (h : ¬ l.val < 256) : src 1 l = ⟨8703 - l.val, by omega⟩ := by simp [src, h]
theorem src_src (l : Fin 8448) : src 1 (src 1 l) = l := by
  have := l.isLt
  by_cases h : l.val < 256
  · rw [src_lo l h, src_lo _ (by show 255 - l.val < 256; omega)]; ext; show 255 - (255 - l.val) = l.val; omega
  · rw [src_hi l h, src_hi _ (by show ¬ 8703 - l.val < 256; omega)]; ext; show 8703 - (8703 - l.val) = l.val; omega

variable (U : Fin 4 → Fin 8448 → Fin 512 → EReal) (AR AI : Fin 2 → Fin 32 → Fin 64 → EReal)
  (BR BI : Fin 2 → Fin 32 → Fin 64 → Fin 16 → EReal) (CR CI : Fin 2 → Fin 32 → Fin 16 → Fin 64 → EReal)

/-- What drives state `p` of group `g` at step `l`. -/
def drv (B : Fin 2 → Fin 32 → Fin 64 → Fin 16 → EReal) (d : Fin 2) (b : Fin 4) (g : Fin 32) (p : Fin 64) (l : Fin 8448) : EReal :=
  ∑ h : Fin 16, U b (src d l) ⟨g.val * 16 + h.val, by omega⟩ * B d g p h

/-- The state, its real and its imaginary part, before step `n`. -/
def hs (d : Fin 2) (b : Fin 4) (g : Fin 32) (p : Fin 64) : ℕ → EReal × EReal
  | 0 => (0, 0)
  | n + 1 =>
    if h : n < 8448 then
      (AR d g p * (hs d b g p n).1 - AI d g p * (hs d b g p n).2 + drv U BR d b g p ⟨n, h⟩,
        AR d g p * (hs d b g p n).2 + AI d g p * (hs d b g p n).1 + drv U BI d b g p ⟨n, h⟩)
    else hs d b g p n

theorem hs_zero (d : Fin 2) (b : Fin 4) (g : Fin 32) (p : Fin 64) : hs U AR AI BR BI d b g p 0 = (0, 0) := rfl

theorem hs_succ (d : Fin 2) (b : Fin 4) (g : Fin 32) (p : Fin 64) (n : ℕ) (h : n < 8448) :
    hs U AR AI BR BI d b g p (n + 1) = (AR d g p * (hs U AR AI BR BI d b g p n).1 - AI d g p * (hs U AR AI BR BI d b g p n).2 + drv U BR d b g p ⟨n, h⟩,
        AR d g p * (hs U AR AI BR BI d b g p n).2 + AI d g p * (hs U AR AI BR BI d b g p n).1 + drv U BI d b g p ⟨n, h⟩) := by
  rw [hs, dif_pos h]

/-- What direction `d` reads out of its state after step `l`. -/
def out (d : Fin 2) (b : Fin 4) (l : Fin 8448) (g : Fin 32) (hh : Fin 16) : EReal :=
  (∑ p, (hs U AR AI BR BI d b g p (l.val + 1)).1 * CR d g hh p)
    + ∑ p, (hs U AR AI BR BI d b g p (l.val + 1)).2 * (-CI d g hh p)

/-- The result: both directions at the same time. -/
def G (b : Fin 4) (l : Fin 8448) (w : Fin 512) : EReal :=
  out U AR AI BR BI CR CI 0 b l ⟨w.val / 16, by omega⟩ ⟨w.val % 16, by omega⟩
    + out U AR AI BR BI CR CI 1 b (src 1 l) ⟨w.val / 16, by omega⟩ ⟨w.val % 16, by omega⟩

end Cert.S5

end
-- ==== Proof.ScanRefValue.lean ====
module

public import proofs.«01_k».proof.Proof.Gen.ScanRefIdeal.Run
public import proofs.«01_k».proof.Proof.ScanSpec

@[expose] public section

set_option maxRecDepth 16384

noncomputable section

namespace Cert.ScanRefIdeal.Value

open Cert.ScanRefIdeal Cert.ScanRefIdeal.Gen
open Idealize.ShloMosaic Idealize.ShloMosaic.TcCoe Idealize.SL.Sem
open Idealize.ShloMosaic.StableHlo

variable (m : (ℓ : Loc nD τ sig) → Buf (Elt Idealize.ShloMosaic.Ideal) ℓ)

/-- A function of positions at equal positions. -/
theorem app3 {α : Type} {a b c : ℕ} (f : Fin a → Fin b → Fin c → α) {x x' : Fin a} {y y' : Fin b} {z z' : Fin c}
    (hx : x.val = x'.val) (hy : y.val = y'.val) (hz : z.val = z'.val) : f x y z = f x' y' z' := by
  rw [Fin.ext hx, Fin.ext hy, Fin.ext hz]
theorem app4 {α : Type} {a b c d : ℕ} (f : Fin a → Fin b → Fin c → Fin d → α) {x x' : Fin a} {y y' : Fin b} {z z' : Fin c} {w w' : Fin d}
    (hx : x.val = x'.val) (hy : y.val = y'.val) (hz : z.val = z'.val) (hw : w.val = w'.val) : f x y z w = f x' y' z' w' := by
  rw [Fin.ext hx, Fin.ext hy, Fin.ext hz, Fin.ext hw]
theorem app5 {α : Type} {a b c d e : ℕ} (f : Fin a → Fin b → Fin c → Fin d → Fin e → α) {x x' : Fin a} {y y' : Fin b} {z z' : Fin c} {w w' : Fin d} {v v' : Fin e}
    (hx : x.val = x'.val) (hy : y.val = y'.val) (hz : z.val = z'.val) (hw : w.val = w'.val) (hv : v.val = v'.val) : f x y z w v = f x' y' z' w' v' := by
  rw [Fin.ext hx, Fin.ext hy, Fin.ext hz, Fin.ext hw, Fin.ext hv]

theorem src_val_fw (d : Fin 2) (hd : d.val < 1) (l : Fin 8448) : l.val = (S5.src d l).val := by
  have e : d = 0 := Fin.ext (by show d.val = 0; omega)
  rw [e, S5.src_zero]
theorem src_val_lo (d : Fin 2) (hd : ¬ d.val < 1) (l : Fin 8448) (h : l.val < 256) : (S5.src d l).val = 255 - l.val := by
  have e : d = 1 := Fin.ext (by show d.val = 1; omega)
  rw [e, S5.src_lo l h]
theorem src_val_hi (d : Fin 2) (hd : ¬ d.val < 1) (l : Fin 8448) (h : ¬ l.val < 256) : (S5.src d l).val = 8703 - l.val := by
  have e : d = 1 := Fin.ext (by show d.val = 1; omega)
  rw [e, S5.src_hi l h]

/-- The arguments' entries. -/
def argU (c : Dev nD) (b : Fin 4) (l : Fin 8448) (w : Fin 512) : EReal := m ((c : Thread nD τ).loc main_arg0) (ix3 b l w)
def argAR (c : Dev nD) (d : Fin 2) (g : Fin 32) (p : Fin 64) : EReal := m ((c : Thread nD τ).loc main_arg1) (ix3 d g p)
def argAI (c : Dev nD) (d : Fin 2) (g : Fin 32) (p : Fin 64) : EReal := m ((c : Thread nD τ).loc main_arg2) (ix3 d g p)
def argBR (c : Dev nD) (d : Fin 2) (g : Fin 32) (p : Fin 64) (h : Fin 16) : EReal := m ((c : Thread nD τ).loc main_arg3) (ix4 d g p h)
def argBI (c : Dev nD) (d : Fin 2) (g : Fin 32) (p : Fin 64) (h : Fin 16) : EReal := m ((c : Thread nD τ).loc main_arg4) (ix4 d g p h)
def argCR (c : Dev nD) (d : Fin 2) (g : Fin 32) (h : Fin 16) (p : Fin 64) : EReal := m ((c : Thread nD τ).loc main_arg5) (ix4 d g h p)
def argCI (c : Dev nD) (d : Fin 2) (g : Fin 32) (h : Fin 16) (p : Fin 64) : EReal := m ((c : Thread nD τ).loc main_arg6) (ix4 d g h p)

theorem entry0 (c : Dev nD) {b b' : Fin 4} {l l' : Fin 8448} {w w' : Fin 512} (hb : b.val = b'.val) (hl : l.val = l'.val) (hw : w.val = w'.val) :
    launchContents m c (Proc.devRef .tc main_arg0) (ix3 b l w) = argU m c b' l' w' := by
  rw [Fin.ext hb, Fin.ext hl, Fin.ext hw]
  rfl

theorem bre_at (c : Dev nD) (l : Fin 8448) (d : Fin 2) (b : Fin 4) (g : Fin 32) (p : Fin 64) :
    entryContents preI m c (Proc.devRef .tc main_v18_0) (ix5 l d b g p) = S5.drv (argU m c) (argBR m c) d b g p l := by
  simp only [entryContents, afterL_cons, afterL_nil, preI, hostOps0]
  after_results
  simp only [id_eq]
  pointwise
  unfold S5.drv
  show @Eq EReal _ _
  refine Finset.sum_congr rfl fun x _ => congrArg₂ HMul.hMul ?_ ?_
  · by_cases hd : d.val < 1
    · simp only [hd, ↓reduceDIte]
      exact entry0 m c rfl (src_val_fw d hd l) rfl
    · by_cases h : l.val < 256
      · simp only [hd, h, ↓reduceDIte]
        refine entry0 m c ?_ ?_ ?_
        · simp
        · have := src_val_lo d hd l h
          simp
          omega
        · simp
      · simp only [hd, h, ↓reduceDIte]
        refine entry0 m c ?_ ?_ ?_
        · simp
        · have := src_val_hi d hd l h
          simp
          omega
        · simp
  · rfl

theorem bim_at (c : Dev nD) (l : Fin 8448) (d : Fin 2) (b : Fin 4) (g : Fin 32) (p : Fin 64) :
    entryContents preI m c (Proc.devRef .tc main_v18_1) (ix5 l d b g p) = S5.drv (argU m c) (argBI m c) d b g p l := by
  simp only [entryContents, afterL_cons, afterL_nil, preI, hostOps0]
  after_results
  simp only [id_eq]
  pointwise
  unfold S5.drv
  show @Eq EReal _ _
  refine Finset.sum_congr rfl fun x _ => congrArg₂ HMul.hMul ?_ ?_
  · by_cases hd : d.val < 1
    · simp only [hd, ↓reduceDIte]
      exact entry0 m c rfl (src_val_fw d hd l) rfl
    · by_cases h : l.val < 256
      · simp only [hd, h, ↓reduceDIte]
        refine entry0 m c ?_ ?_ ?_
        · simp
        · have := src_val_lo d hd l h
          simp
          omega
        · simp
      · simp only [hd, h, ↓reduceDIte]
        refine entry0 m c ?_ ?_ ?_
        · simp
        · have := src_val_hi d hd l h
          simp
          omega
        · simp
  · rfl

theorem are_at (c : Dev nD) (d : Fin 2) (g : Fin 32) (p : Fin 64) :
    entryContents preI m c (Proc.devRef .tc main_v18_2) (ix4 d 0 g p) = argAR m c d g p := by
  simp only [entryContents, afterL_cons, afterL_nil, preI, hostOps0]
  after_results
  simp only [id_eq]
  pointwise
  rfl

theorem aim_at (c : Dev nD) (d : Fin 2) (g : Fin 32) (p : Fin 64) :
    entryContents preI m c (Proc.devRef .tc main_v18_3) (ix4 d 0 g p) = argAI m c d g p := by
  simp only [entryContents, afterL_cons, afterL_nil, preI, hostOps0]
  after_results
  simp only [id_eq]
  pointwise
  rfl

theorem z5_at (c : Dev nD) (d : Fin 2) (b : Fin 4) (g : Fin 32) (p : Fin 64) :
    entryContents preI m c (Proc.devRef .tc main_v18_5) (ix4 d b g p) = (0 : EReal) := by
  simp only [entryContents, afterL_cons, afterL_nil, preI, hostOps0]
  after_results
  simp only [id_eq]
  pointwise

theorem z6_at (c : Dev nD) (d : Fin 2) (b : Fin 4) (g : Fin 32) (p : Fin 64) :
    entryContents preI m c (Proc.devRef .tc main_v18_6) (ix4 d b g p) = (0 : EReal) := by
  simp only [entryContents, afterL_cons, afterL_nil, preI, hostOps0]
  after_results
  simp only [id_eq]
  pointwise

/-- The place that step `n` reads and writes. -/
abbrev place (n : ℕ) : Fin 5 → ℤ := ![(n : ℤ), 0, 0, 0, 0]

theorem place_eq (n : ℕ) (hn : n < 8448) :
    (fun k => ((((![(fun _ => BitVec.ofNat 32 n), constantI S_ 32 0#32, constantI S_ 32 0#32, constantI S_ 32 0#32, constantI S_ 32 0#32] : Fin 5 → (⟨S_, .i32⟩ : BufTy).Contents (Elt Idealize.ShloMosaic.Ideal))) k (Shape.Idx.first h_S_)) : BitVec 32).toInt)
      = place n := by
  funext k
  fin_cases k
  · show (BitVec.ofNat 32 n).toInt = (n : ℤ)
    have e : (BitVec.ofNat 32 n).toNat = n := by rw [BitVec.toNat_ofNat]; exact Nat.mod_eq_of_lt (by omega)
    rw [BitVec.toInt_eq_toNat_of_lt (by rw [e]; omega), e]
  · rfl
  · rfl
  · rfl
  · rfl

theorem clamp_at (n : ℕ) (hn : n < 8448) (h : S1x2x4x32x64.rank = S8448x2x4x32x64.rank) (a : Fin 5) :
    Host.clampedStart S8448x2x4x32x64 S1x2x4x32x64 h (place n) a = (![n, 0, 0, 0, 0] : Fin 5 → ℕ) a := by
  fin_cases a
  · exact Host.clampedStart_of_le h _ _ n rfl (by show n + 1 ≤ 8448; omega)
  · exact Host.clampedStart_of_le h _ _ 0 rfl (by show 0 + 2 ≤ 2; omega)
  · exact Host.clampedStart_of_le h _ _ 0 rfl (by show 0 + 4 ≤ 4; omega)
  · exact Host.clampedStart_of_le h _ _ 0 rfl (by show 0 + 32 ≤ 32; omega)
  · exact Host.clampedStart_of_le h _ _ 0 rfl (by show 0 + 64 ≤ 64; omega)

theorem slice_at (x : Vec Idealize.ShloMosaic.Ideal S8448x2x4x32x64 .f32) (st : Fin 5 → ℤ) (n : ℕ) (hn : n < 8448) (hst : st = place n) (hf) (d : Fin 2) (b : Fin 4) (g : Fin 32) (p : Fin 64) :
    Host.dynamicSlice S1x2x4x32x64 x st hf (ix5 0 d b g p) = x (ix5 ⟨n, hn⟩ d b g p) := by
  subst hst
  pointwise
  simp only [clamp_at n hn]
  congr 1 <;> simp

theorem put_at (x : Vec Idealize.ShloMosaic.Ideal S8448x2x4x32x64 .f32) (u : Vec Idealize.ShloMosaic.Ideal S1x2x4x32x64 .f32) (st : Fin 5 → ℤ) (n : ℕ) (hn : n < 8448) (hst : st = place n) (hf) (l : Fin 8448) (d : Fin 2) (b : Fin 4) (g : Fin 32) (p : Fin 64) :
    Host.dynamicUpdateSlice x u st hf (ix5 l d b g p) = if l.val = n then u (ix5 0 d b g p) else x (ix5 l d b g p) := by
  subst hst
  pointwise
  simp only [clamp_at n hn]
  split_ifs with h1 h2 h2
  · congr 1
    simp [h2]
  · simp at h1
    omega
  · simp at h1
    omega
  · rfl

theorem v43_at (X : Valuation τ sig (Elt Idealize.ShloMosaic.Ideal)) (n : ℕ) (hn : n < 8448) (hc : X (Proc.devRef .tc main_v18_4) = fun _ => BitVec.ofNat 32 n) (d : Fin 2) (b : Fin 4) (g : Fin 32) (p : Fin 64)
    (ar ai hr hi bu : EReal) (h2 : X (Proc.devRef .tc main_v18_2) (ix4 d 0 g p) = ar) (h3 : X (Proc.devRef .tc main_v18_3) (ix4 d 0 g p) = ai)
    (h5 : X (Proc.devRef .tc main_v18_5) (ix4 d b g p) = hr) (h6 : X (Proc.devRef .tc main_v18_6) (ix4 d b g p) = hi)
    (h0 : X (Proc.devRef .tc main_v18_0) (ix5 ⟨n, hn⟩ d b g p) = bu) :
    res_main_while0b_v43 X (ix4 d b g p) = ar * hr - ai * hi + bu := by
  subst h2 h3 h5 h6 h0
  unfold res_main_while0b_v43
  simp only [hc]
  generalize hY : Host.dynamicSlice S1x2x4x32x64 (X (Proc.devRef .tc main_v18_0)) _ _ = Y
  pointwise
  refine congrArg (HAdd.hAdd _) ?_
  rw [← hY]
  exact slice_at (X (Proc.devRef .tc main_v18_0)) _ n hn (place_eq n hn) _ d b g p

theorem v49_at (X : Valuation τ sig (Elt Idealize.ShloMosaic.Ideal)) (n : ℕ) (hn : n < 8448) (hc : X (Proc.devRef .tc main_v18_4) = fun _ => BitVec.ofNat 32 n) (d : Fin 2) (b : Fin 4) (g : Fin 32) (p : Fin 64)
    (ar ai hr hi bu : EReal) (h2 : X (Proc.devRef .tc main_v18_2) (ix4 d 0 g p) = ar) (h3 : X (Proc.devRef .tc main_v18_3) (ix4 d 0 g p) = ai)
    (h5 : X (Proc.devRef .tc main_v18_5) (ix4 d b g p) = hr) (h6 : X (Proc.devRef .tc main_v18_6) (ix4 d b g p) = hi)
    (h0 : X (Proc.devRef .tc main_v18_1) (ix5 ⟨n, hn⟩ d b g p) = bu) :
    res_main_while0b_v49 X (ix4 d b g p) = ar * hi + ai * hr + bu := by
  subst h2 h3 h5 h6 h0
  unfold res_main_while0b_v49
  simp only [hc]
  generalize hY : Host.dynamicSlice S1x2x4x32x64 (X (Proc.devRef .tc main_v18_1)) _ _ = Y
  pointwise
  refine congrArg (HAdd.hAdd _) ?_
  rw [← hY]
  exact slice_at (X (Proc.devRef .tc main_v18_1)) _ n hn (place_eq n hn) _ d b g p

theorem h7_at (X : Valuation τ sig (Elt Idealize.ShloMosaic.Ideal)) (n : ℕ) (hn : n < 8448) (hc : X (Proc.devRef .tc main_v18_4) = fun _ => BitVec.ofNat 32 n) (l : Fin 8448) (d : Fin 2) (b : Fin 4) (g : Fin 32) (p : Fin 64) :
    step_main_v18_7 X (ix5 l d b g p) = if l.val = n then res_main_while0b_v43 X (ix4 d b g p) else X (Proc.devRef .tc main_v18_7) (ix5 l d b g p) := by
  unfold step_main_v18_7
  simp only [hc, id_eq]
  generalize res_main_while0b_v43 X = R
  refine (put_at _ _ _ n hn (place_eq n hn) _ l d b g p).trans ?_
  refine if_congr Iff.rfl ?_ rfl
  pointwise

theorem h8_at (X : Valuation τ sig (Elt Idealize.ShloMosaic.Ideal)) (n : ℕ) (hn : n < 8448) (hc : X (Proc.devRef .tc main_v18_4) = fun _ => BitVec.ofNat 32 n) (l : Fin 8448) (d : Fin 2) (b : Fin 4) (g : Fin 32) (p : Fin 64) :
    step_main_v18_8 X (ix5 l d b g p) = if l.val = n then res_main_while0b_v49 X (ix4 d b g p) else X (Proc.devRef .tc main_v18_8) (ix5 l d b g p) := by
  unfold step_main_v18_8
  simp only [hc, id_eq]
  generalize res_main_while0b_v49 X = R
  refine (put_at _ _ _ n hn (place_eq n hn) _ l d b g p).trans ?_
  refine if_congr Iff.rfl ?_ rfl
  pointwise

/-- The state of the scan before step `n`. -/
abbrev HS (c : Dev nD) (d : Fin 2) (b : Fin 4) (g : Fin 32) (p : Fin 64) (n : ℕ) : EReal × EReal :=
  S5.hs (argU m c) (argAR m c) (argAI m c) (argBR m c) (argBI m c) d b g p n

/-- What the buffers hold before step `n`. -/
structure Inv (c : Dev nD) (n : ℕ) (X : Valuation τ sig (Elt Idealize.ShloMosaic.Ideal)) : Prop where
  h0 : X (Proc.devRef .tc main_v18_0) = entryContents preI m c (Proc.devRef .tc main_v18_0)
  h1 : X (Proc.devRef .tc main_v18_1) = entryContents preI m c (Proc.devRef .tc main_v18_1)
  h2 : X (Proc.devRef .tc main_v18_2) = entryContents preI m c (Proc.devRef .tc main_v18_2)
  h3 : X (Proc.devRef .tc main_v18_3) = entryContents preI m c (Proc.devRef .tc main_v18_3)
  h4 : X (Proc.devRef .tc main_v18_4) = fun _ => BitVec.ofNat 32 n
  h5 : ∀ d b g p, X (Proc.devRef .tc main_v18_5) (ix4 d b g p) = (HS m c d b g p n).1
  h6 : ∀ d b g p, X (Proc.devRef .tc main_v18_6) (ix4 d b g p) = (HS m c d b g p n).2
  h7 : ∀ (l : Fin 8448) d b g p, l.val < n → X (Proc.devRef .tc main_v18_7) (ix5 l d b g p) = (HS m c d b g p (l.val + 1)).1
  h8 : ∀ (l : Fin 8448) d b g p, l.val < n → X (Proc.devRef .tc main_v18_8) (ix5 l d b g p) = (HS m c d b g p (l.val + 1)).2

theorem Inv.step {c : Dev nD} {n : ℕ} {X : Valuation τ sig (Elt Idealize.ShloMosaic.Ideal)} (hn : n < 8448) (I : Inv m c n X) :
    Inv m c (n + 1) (STEP X) := by
  have e5 : ∀ d b g p, res_main_while0b_v43 X (ix4 d b g p) = (HS m c d b g p (n + 1)).1 := fun d b g p => by
    exact (v43_at X n hn I.h4 d b g p (argAR m c d g p) (argAI m c d g p) _ _ (S5.drv (argU m c) (argBR m c) d b g p ⟨n, hn⟩)
      ((congrFun I.h2 _).trans (are_at m c d g p)) ((congrFun I.h3 _).trans (aim_at m c d g p)) (I.h5 d b g p) (I.h6 d b g p)
      ((congrFun I.h0 _).trans (bre_at m c ⟨n, hn⟩ d b g p))).trans
      (congrArg Prod.fst (S5.hs_succ (argU m c) (argAR m c) (argAI m c) (argBR m c) (argBI m c) d b g p n hn)).symm
  have e6 : ∀ d b g p, res_main_while0b_v49 X (ix4 d b g p) = (HS m c d b g p (n + 1)).2 := fun d b g p => by
    exact (v49_at X n hn I.h4 d b g p (argAR m c d g p) (argAI m c d g p) _ _ (S5.drv (argU m c) (argBI m c) d b g p ⟨n, hn⟩)
      ((congrFun I.h2 _).trans (are_at m c d g p)) ((congrFun I.h3 _).trans (aim_at m c d g p)) (I.h5 d b g p) (I.h6 d b g p)
      ((congrFun I.h1 _).trans (bim_at m c ⟨n, hn⟩ d b g p))).trans
      (congrArg Prod.snd (S5.hs_succ (argU m c) (argAR m c) (argAI m c) (argBR m c) (argBI m c) d b g p n hn)).symm
  refine ⟨(STEP_main_v18_0 X).trans I.h0, (STEP_main_v18_1 X).trans I.h1, (STEP_main_v18_2 X).trans I.h2, (STEP_main_v18_3 X).trans I.h3,
    (STEP_main_v18_4 X).trans ?_, fun d b g p => ?_, fun d b g p => ?_, fun l d b g p hl => ?_, fun l d b g p hl => ?_⟩
  · unfold step_main_v18_4
    rw [I.h4]
    funext i
    show BitVec.ofNat 32 n + BitVec.ofNat 32 1 = _
    rw [← BitVec.ofNat_add]
  · rw [STEP_main_v18_5]; exact e5 d b g p
  · rw [STEP_main_v18_6]; exact e6 d b g p
  · rw [STEP_main_v18_7]
    refine (h7_at X n hn I.h4 l d b g p).trans ?_
    by_cases h : l.val = n
    · rw [if_pos h, h]; exact e5 d b g p
    · rw [if_neg h]; exact I.h7 l d b g p (by omega)
  · rw [STEP_main_v18_8]
    refine (h8_at X n hn I.h4 l d b g p).trans ?_
    by_cases h : l.val = n
    · rw [if_pos h, h]; exact e6 d b g p
    · rw [if_neg h]; exact I.h8 l d b g p (by omega)

theorem inv (c : Dev nD) : ∀ n, n ≤ 8448 → Inv m c n (STEP^[n] (entryContents preI m c))
  | 0, _ => ⟨rfl, rfl, rfl, rfl, ctr_entry m c, z5_at m c, z6_at m c, fun l d b g p h => absurd h (Nat.not_lt_zero _), fun l d b g p h => absurd h (Nat.not_lt_zero _)⟩
  | n + 1, h => by
    rw [Function.iterate_succ_apply']
    exact (inv c n (by omega)).step m (by omega)

theorem out_at (X : Valuation τ sig (Elt Idealize.ShloMosaic.Ideal)) (H1 H2 : Fin 8448 → Fin 2 → Fin 4 → Fin 32 → Fin 64 → EReal) (C1 C2 : Fin 2 → Fin 32 → Fin 16 → Fin 64 → EReal)
    (h7 : ∀ l d b g p, X (Proc.devRef .tc main_v18_7) (ix5 l d b g p) = H1 l d b g p) (h8 : ∀ l d b g p, X (Proc.devRef .tc main_v18_8) (ix5 l d b g p) = H2 l d b g p)
    (h5 : ∀ d g h p, X (Proc.devRef .tc main_arg5) (ix4 d g h p) = C1 d g h p) (h6 : ∀ d g h p, X (Proc.devRef .tc main_arg6) (ix4 d g h p) = C2 d g h p)
    (b : Fin 4) (l : Fin 8448) (w : Fin 512) :
    out_main_v35 X (ix3 b l w) = (((∑ p, H1 l 0 b ⟨w.val / 16, by omega⟩ p * C1 0 ⟨w.val / 16, by omega⟩ ⟨w.val % 16, by omega⟩ p)
      + ∑ p, H2 l 0 b ⟨w.val / 16, by omega⟩ p * -C2 0 ⟨w.val / 16, by omega⟩ ⟨w.val % 16, by omega⟩ p)
      + ((∑ p, H1 (S5.src 1 l) 1 b ⟨w.val / 16, by omega⟩ p * C1 1 ⟨w.val / 16, by omega⟩ ⟨w.val % 16, by omega⟩ p)
      + ∑ p, H2 (S5.src 1 l) 1 b ⟨w.val / 16, by omega⟩ p * -C2 1 ⟨w.val / 16, by omega⟩ ⟨w.val % 16, by omega⟩ p) : EReal) := by
  unfold out_main_v35
  pointwise
  simp only [h7, h8, h5, h6]
  refine congrArg (HAdd.hAdd _) ?_
  by_cases h : l.val < 256
  · simp only [h, ↓reduceDIte]
    have e := src_val_lo 1 (by decide) l h
    refine congrArg₂ HAdd.hAdd (Finset.sum_congr rfl fun x _ => congrArg₂ HMul.hMul ?_ ?_) (Finset.sum_congr rfl fun x _ => congrArg₂ HMul.hMul ?_ (congrArg Neg.neg ?_))
    · refine (h7 _ _ _ _ _).trans (app5 H1 ?_ ?_ ?_ ?_ rfl)
      · simp
        omega
      · simp
      · simp
      · simp
    · refine (h5 _ _ _ _).trans (app4 C1 rfl ?_ ?_ rfl)
      · simp
      · simp
    · refine (h8 _ _ _ _ _).trans (app5 H2 ?_ ?_ ?_ ?_ rfl)
      · simp
        omega
      · simp
      · simp
      · simp
    · refine (h6 _ _ _ _).trans (app4 C2 rfl ?_ ?_ rfl)
      · simp
      · simp
  · simp only [h, ↓reduceDIte]
    have e := src_val_hi 1 (by decide) l h
    refine congrArg₂ HAdd.hAdd (Finset.sum_congr rfl fun x _ => congrArg₂ HMul.hMul ?_ ?_) (Finset.sum_congr rfl fun x _ => congrArg₂ HMul.hMul ?_ (congrArg Neg.neg ?_))
    · refine (h7 _ _ _ _ _).trans (app5 H1 ?_ ?_ ?_ ?_ rfl)
      · simp
        omega
      · simp
      · simp
      · simp
    · refine (h5 _ _ _ _).trans (app4 C1 rfl ?_ ?_ rfl)
      · simp
      · simp
    · refine (h8 _ _ _ _ _).trans (app5 H2 ?_ ?_ ?_ ?_ rfl)
      · simp
        omega
      · simp
      · simp
      · simp
    · refine (h6 _ _ _ _).trans (app4 C2 rfl ?_ ?_ rfl)
      · simp
      · simp

/-- The reference's result. -/
theorem ref_eq (c : Dev nD) (b : Fin 4) (l : Fin 8448) (w : Fin 512) :
    out_main_v35 (STEP^[8448] (entryContents preI m c)) (ix3 b l w)
      = S5.G (argU m c) (argAR m c) (argAI m c) (argBR m c) (argBI m c) (argCR m c) (argCI m c) b l w := by
  have I := inv m c 8448 (le_refl _)
  exact out_at _ (fun l d b g p => (HS m c d b g p (l.val + 1)).1) (fun l d b g p => (HS m c d b g p (l.val + 1)).2) (argCR m c) (argCI m c)
    (fun l d b g p => I.h7 l d b g p l.isLt) (fun l d b g p => I.h8 l d b g p l.isLt)
    (fun d g h p => congrFun (iter_main_arg5 m c 8448) _) (fun d g h p => congrFun (iter_main_arg6 m c 8448) _) b l w

end Cert.ScanRefIdeal.Value
-- ==== Proof.ScanHost.lean ====
module

public import proofs.«01_k».proof.Proof.ScanIdealFrame
public import proofs.«01_k».proof.Proof.ScanSpec

@[expose] public section

set_option maxRecDepth 16384

noncomputable section

namespace Cert.ScanIdeal.Value

open Cert.ScanIdeal Cert.ScanIdeal.Gen
open Idealize.ShloMosaic Idealize.ShloMosaic.TcCoe Idealize.SL.Sem

variable (m : (ℓ : Loc nD τ sig) → Buf (Elt Ideal) ℓ)

/-- The group of a column of the state. -/
def grp (q : Fin 4096) : Fin 32 := ⟨q.val / 1024 * 8 + q.val % 512 / 64, by omega⟩
/-- The state of its group that a column holds. -/
def stt (q : Fin 4096) : Fin 64 := ⟨q.val % 64, by omega⟩

theorem grp_up (q : Fin 4096) (h : q.val % 1024 < 512) : grp (up q) = grp q := by
  ext; simp only [grp, up]; omega
theorem stt_up (q : Fin 4096) (h : q.val % 1024 < 512) : stt (up q) = stt q := by
  ext; simp only [stt, up]; omega
theorem grp_dn (q : Fin 4096) (h : ¬ q.val % 1024 < 512) : grp (dn q) = grp q := by
  ext; simp only [grp, dn]; omega
theorem stt_dn (q : Fin 4096) (h : ¬ q.val % 1024 < 512) : stt (dn q) = stt q := by
  ext; simp only [stt, dn]; omega

/-- A function of three or four positions at equal positions. -/
theorem app3 {α : Type} {a b c : ℕ} (f : Fin a → Fin b → Fin c → α) {x x' : Fin a} {y y' : Fin b} {z z' : Fin c}
    (hx : x.val = x'.val) (hy : y.val = y'.val) (hz : z.val = z'.val) : f x y z = f x' y' z' := by
  rw [Fin.ext hx, Fin.ext hy, Fin.ext hz]
theorem app4 {α : Type} {a b c d : ℕ} (f : Fin a → Fin b → Fin c → Fin d → α) {x x' : Fin a} {y y' : Fin b} {z z' : Fin c} {w w' : Fin d}
    (hx : x.val = x'.val) (hy : y.val = y'.val) (hz : z.val = z'.val) (hw : w.val = w'.val) : f x y z w = f x' y' z' w' := by
  rw [Fin.ext hx, Fin.ext hy, Fin.ext hz, Fin.ext hw]

/-- A product with an indicator, of equal factors under equivalent conditions. -/
theorem mul_ind {x x' : EReal} {p q : Prop} [Decidable p] [Decidable q] (hx : x = x') (h : p ↔ q) :
    x * (if p then 1 else 0) = x' * (if q then 1 else 0) := by
  subst hx
  by_cases hp : p
  · simp [hp, h.1 hp]
  · rw [if_neg hp, if_neg fun hq => hp (h.2 hq)]
theorem neg_mul_ind {x x' : EReal} {p q : Prop} [Decidable p] [Decidable q] (hx : x = x') (h : p ↔ q) :
    -(x * (if p then 1 else 0)) = -x' * (if q then 1 else 0) := by
  rw [← EReal.neg_mul]
  exact mul_ind (congrArg _ hx) h

/-- The identity's entry. -/
theorem eye_word (i j : ℕ) (hi : i < 8) (hj : j < 8) :
    (FloatOps.uitofp (F := Idealize.ShloMosaic.Ideal) FTy.f32 (IntOp.cmpi CmpIPredicate.eq (IntOp.addi (BitVec.ofNat 32 i) 0#32) (BitVec.ofNat 32 j)))
      = (if i = j then 1 else 0 : EReal) := by
  have e : ∀ i j : Fin 8, IntOp.cmpi CmpIPredicate.eq (IntOp.addi (BitVec.ofNat 32 i.val) 0#32) (BitVec.ofNat 32 j.val)
      = BitVec.ofBool (decide (i.val = j.val)) := by decide +kernel
  have e' := e ⟨i, hi⟩ ⟨j, hj⟩
  rw [e']
  by_cases h : i = j
  · rw [if_pos h]
    simp only [h, decide_true]
    show (((1#1).toNat : ℝ) : EReal) = 1
    norm_num
  · rw [if_neg h]
    simp only [h, decide_false]
    show (((0#1).toNat : ℝ) : EReal) = 0
    norm_num

/-- The arguments' entries. -/
def argU (c : Dev nD) (b : Fin 4) (l : Fin 8448) (w : Fin 512) : EReal := m ((c : Thread nD τ).loc main_arg0) (ix3 b l w)
def argAR (c : Dev nD) (d : Fin 2) (g : Fin 32) (p : Fin 64) : EReal := m ((c : Thread nD τ).loc main_arg1) (ix3 d g p)
def argAI (c : Dev nD) (d : Fin 2) (g : Fin 32) (p : Fin 64) : EReal := m ((c : Thread nD τ).loc main_arg2) (ix3 d g p)
def argBR (c : Dev nD) (d : Fin 2) (g : Fin 32) (p : Fin 64) (h : Fin 16) : EReal := m ((c : Thread nD τ).loc main_arg3) (ix4 d g p h)
def argBI (c : Dev nD) (d : Fin 2) (g : Fin 32) (p : Fin 64) (h : Fin 16) : EReal := m ((c : Thread nD τ).loc main_arg4) (ix4 d g p h)
def argCR (c : Dev nD) (d : Fin 2) (g : Fin 32) (h : Fin 16) (p : Fin 64) : EReal := m ((c : Thread nD τ).loc main_arg5) (ix4 d g h p)
def argCI (c : Dev nD) (d : Fin 2) (g : Fin 32) (h : Fin 16) (p : Fin 64) : EReal := m ((c : Thread nD τ).loc main_arg6) (ix4 d g h p)

theorem u_at (c : Dev nD) (l : Fin 8448) (b : Fin 4) (w : Fin 512) :
    V m c main_v53 (ix3 l b w) = argU m c b l w := by
  unfold V V0
  simp only [List.flatten_cons, List.flatten_nil, List.append_nil, hostOps0]
  after_results
  pointwise
  rfl

theorem am_at (c : Dev nD) (r : Fin 8) (q : Fin 4096) :
    V m c main_v52 (ix3 0 r q) = if q.val % 1024 < 512 then argAR m c ⟨r.val / 4, by omega⟩ (grp q) (stt q)
      else argAI m c ⟨r.val / 4, by omega⟩ (grp q) (stt q) := by
  unfold V V0
  simp only [List.flatten_cons, List.flatten_nil, List.append_nil, hostOps0]
  after_results
  pointwise
  by_cases h : q.val % 1024 < 512
  · simp only [h, ↓reduceDIte, ↓reduceIte]
    exact app3 (argAR m c) rfl (by simp only [grp]; omega) (by simp only [stt]; omega)
  · simp only [h, ↓reduceDIte, ↓reduceIte]
    exact app3 (argAI m c) rfl (by simp only [grp]; omega) (by simp only [stt]; omega)

theorem bm_at (c : Dev nD) (sb : Fin 4) (d : Fin 2) (k : Fin 128) (q : Fin 1024) :
    V m c main_v23 (ix3 sb ⟨d.val * 128 + k.val, by omega⟩ q)
      = (if q.val < 512 then argBR m c d ⟨sb.val * 8 + k.val / 16, by omega⟩ ⟨q.val % 64, by omega⟩ ⟨k.val % 16, by omega⟩
        else argBI m c d ⟨sb.val * 8 + k.val / 16, by omega⟩ ⟨q.val % 64, by omega⟩ ⟨k.val % 16, by omega⟩)
        * (if k.val / 16 = q.val % 512 / 64 then 1 else 0 : EReal) := by
  unfold V V0
  simp only [List.flatten_cons, List.flatten_nil, List.append_nil, hostOps0]
  after_results
  pointwise
  have h1 : (d.val * 128 + k.val) / 16 % 8 = k.val / 16 := by omega
  by_cases h : q.val < 512
  · simp only [h, ↓reduceDIte, ↓reduceIte, eye_word _ _ (show (d.val * 128 + k.val) / 16 % 8 < 8 by omega) (show q.val / 64 < 8 by omega)]
    refine mul_ind ?_ ?_
    · exact app4 (argBR m c) (by dsimp only <;> omega) (by dsimp only <;> omega) (by dsimp only <;> omega) (by dsimp only <;> omega)
    · omega
  · simp only [h, ↓reduceDIte, ↓reduceIte, eye_word _ _ (show (d.val * 128 + k.val) / 16 % 8 < 8 by omega) (show (q.val - 512) / 64 < 8 by omega)]
    refine mul_ind ?_ ?_
    · exact app4 (argBI m c) (by dsimp only <;> omega) (by dsimp only <;> omega) (by dsimp only <;> omega) (by dsimp only <;> omega)
    · omega

theorem cm_at (c : Dev nD) (sb : Fin 4) (k : Fin 1024) (d : Fin 2) (o : Fin 128) :
    V m c main_v44 (ix3 sb k ⟨d.val * 128 + o.val, by omega⟩)
      = (if k.val < 512 then argCR m c d ⟨sb.val * 8 + o.val / 16, by omega⟩ ⟨o.val % 16, by omega⟩ ⟨k.val % 64, by omega⟩
        else -argCI m c d ⟨sb.val * 8 + o.val / 16, by omega⟩ ⟨o.val % 16, by omega⟩ ⟨k.val % 64, by omega⟩)
        * (if o.val / 16 = k.val % 512 / 64 then 1 else 0 : EReal) := by
  unfold V V0
  simp only [List.flatten_cons, List.flatten_nil, List.append_nil, hostOps0]
  after_results
  pointwise
  have h1 : (d.val * 128 + o.val) / 16 % 8 = o.val / 16 := by omega
  by_cases h : k.val < 512
  · simp only [h, ↓reduceDIte, ↓reduceIte, eye_word _ _ (show (d.val * 128 + o.val) / 16 % 8 < 8 by omega) (show k.val / 64 < 8 by omega)]
    refine mul_ind ?_ ?_
    · exact app4 (argCR m c) (by dsimp only <;> omega) (by dsimp only <;> omega) (by dsimp only <;> omega) (by dsimp only <;> omega)
    · omega
  · simp only [h, ↓reduceDIte, ↓reduceIte, eye_word _ _ (show (d.val * 128 + o.val) / 16 % 8 < 8 by omega) (show (k.val - 512) / 64 < 8 by omega)]
    refine neg_mul_ind ?_ ?_
    · exact app4 (argCI m c) (by dsimp only <;> omega) (by dsimp only <;> omega) (by dsimp only <;> omega) (by dsimp only <;> omega)
    · omega

end Cert.ScanIdeal.Value
-- ==== Proof.ScanPay.lean ====
module

public import proofs.«01_k».proof.Proof.ScanIdealFrame
public import proofs.«01_k».proof.Proof.ScanHost

/-! What one grid point computes, entry by entry. -/

@[expose] public section

set_option maxRecDepth 16384

noncomputable section

namespace Cert.ScanIdeal.Value

open Cert.ScanIdeal Cert.ScanIdeal.Gen
open Idealize.ShloMosaic Idealize.ShloMosaic.TcCoe Idealize.SL.Sem

theorem piece0 (x0 xr : Vec Ideal S128x4x512 .f32) (w : Vec Ideal S1x256x1024 .bf16) (r : Fin 1024) (q : Fin 1024) :
    k0_pay180 (k0_pay179 x0 xr) w (ix2 r q) = (if r.val % 8 < 4 then ∑ x : Fin 128, x0 (ix3 ⟨r.val / 8, by omega⟩ ⟨r.val % 4, by omega⟩ ⟨0 + x.val, by omega⟩) * w (ix3 0 ⟨x.val, by omega⟩ q)
      else ∑ x : Fin 128, xr (ix3 ⟨r.val / 8, by omega⟩ ⟨r.val % 4, by omega⟩ ⟨0 + x.val, by omega⟩) * w (ix3 0 ⟨128 + x.val, by omega⟩ q) : EReal) := by
  pointwise [k0_pay180, k0_pay179, k0_pay177, k0_pay178, k0_pay176]
  by_cases h : r.val % 8 < 4
  · have e : r.val % 8 = r.val % 4 := by omega
    have h4 : r.val % 4 < 4 := by omega
    simp [h, e, h4]
  · have e : r.val % 8 - 4 = r.val % 4 := by omega
    simp [h, e]

theorem piece1 (x0 xr : Vec Ideal S128x4x512 .f32) (w : Vec Ideal S1x256x1024 .bf16) (r : Fin 1024) (q : Fin 1024) :
    k0_pay181 (k0_pay177 x0) (k0_pay178 xr) w (ix2 r q) = (if r.val % 8 < 4 then ∑ x : Fin 128, x0 (ix3 ⟨r.val / 8, by omega⟩ ⟨r.val % 4, by omega⟩ ⟨128 + x.val, by omega⟩) * w (ix3 0 ⟨x.val, by omega⟩ q)
      else ∑ x : Fin 128, xr (ix3 ⟨r.val / 8, by omega⟩ ⟨r.val % 4, by omega⟩ ⟨128 + x.val, by omega⟩) * w (ix3 0 ⟨128 + x.val, by omega⟩ q) : EReal) := by
  pointwise [k0_pay181, k0_pay177, k0_pay178, k0_pay176]
  by_cases h : r.val % 8 < 4
  · have e : r.val % 8 = r.val % 4 := by omega
    have h4 : r.val % 4 < 4 := by omega
    simp [h, e, h4]
  · have e : r.val % 8 - 4 = r.val % 4 := by omega
    simp [h, e]

theorem piece2 (x0 xr : Vec Ideal S128x4x512 .f32) (w : Vec Ideal S1x256x1024 .bf16) (r : Fin 1024) (q : Fin 1024) :
    k0_pay182 (k0_pay177 x0) (k0_pay178 xr) w (ix2 r q) = (if r.val % 8 < 4 then ∑ x : Fin 128, x0 (ix3 ⟨r.val / 8, by omega⟩ ⟨r.val % 4, by omega⟩ ⟨256 + x.val, by omega⟩) * w (ix3 0 ⟨x.val, by omega⟩ q)
      else ∑ x : Fin 128, xr (ix3 ⟨r.val / 8, by omega⟩ ⟨r.val % 4, by omega⟩ ⟨256 + x.val, by omega⟩) * w (ix3 0 ⟨128 + x.val, by omega⟩ q) : EReal) := by
  pointwise [k0_pay182, k0_pay177, k0_pay178, k0_pay176]
  by_cases h : r.val % 8 < 4
  · have e : r.val % 8 = r.val % 4 := by omega
    have h4 : r.val % 4 < 4 := by omega
    simp [h, e, h4]
  · have e : r.val % 8 - 4 = r.val % 4 := by omega
    simp [h, e]

theorem piece3 (x0 xr : Vec Ideal S128x4x512 .f32) (w : Vec Ideal S1x256x1024 .bf16) (r : Fin 1024) (q : Fin 1024) :
    k0_pay185 (k0_pay183 (k0_pay177 x0) (k0_pay178 xr)) (k0_pay184 w) (ix2 r q) = (if r.val % 8 < 4 then ∑ x : Fin 128, x0 (ix3 ⟨r.val / 8, by omega⟩ ⟨r.val % 4, by omega⟩ ⟨384 + x.val, by omega⟩) * w (ix3 0 ⟨x.val, by omega⟩ q)
      else ∑ x : Fin 128, xr (ix3 ⟨r.val / 8, by omega⟩ ⟨r.val % 4, by omega⟩ ⟨384 + x.val, by omega⟩) * w (ix3 0 ⟨128 + x.val, by omega⟩ q) : EReal) := by
  pointwise [k0_pay183, k0_pay184, k0_pay185, k0_pay177, k0_pay178, k0_pay176]
  by_cases h : r.val % 8 < 4
  · have e : r.val % 8 = r.val % 4 := by omega
    have h4 : r.val % 4 < 4 := by omega
    simp [h, e, h4]
  · have e : r.val % 8 - 4 = r.val % 4 := by omega
    simp [h, e]

theorem ldb0 (x2 : Vec Ideal S4x256x1024 .bf16) (k : Fin 256) (q : Fin 1024) :
    View.ld x2 (Rect.unit (s := S4x256x1024) ![0, 0, 0] S1x256x1024.size inb_S4x256x1024_S1x256x1024_0_0_0) (ix3 0 k q) = x2 (ix3 0 k q) := by
  pointwise

theorem ldc0 (x3 : Vec Ideal S4x1024x256 .bf16) (k : Fin 1024) (q : Fin 256) :
    View.ld x3 (Rect.unit (s := S4x1024x256) ![0, 0, 0] S1x1024x256.size inb_S4x1024x256_S1x1024x256_0_0_0) (ix3 0 k q) = x3 (ix3 0 k q) := by
  pointwise

theorem ldh0 (h : Vec Ideal S1024x4096 .f32) (r : Fin 1024) (q : Fin 1024) :
    View.ld h (Rect.unit (s := S1024x4096) ![0, 0] S1024x1024.size inb_S1024x4096_S1024x1024_0_0) (ix2 r q) = h (ix2 r ⟨0 + q.val, by omega⟩) := by
  pointwise

theorem ldb1 (x2 : Vec Ideal S4x256x1024 .bf16) (k : Fin 256) (q : Fin 1024) :
    View.ld x2 (Rect.unit (s := S4x256x1024) ![1, 0, 0] S1x256x1024.size inb_S4x256x1024_S1x256x1024_1_0_0) (ix3 0 k q) = x2 (ix3 1 k q) := by
  pointwise

theorem ldc1 (x3 : Vec Ideal S4x1024x256 .bf16) (k : Fin 1024) (q : Fin 256) :
    View.ld x3 (Rect.unit (s := S4x1024x256) ![1, 0, 0] S1x1024x256.size inb_S4x1024x256_S1x1024x256_1_0_0) (ix3 0 k q) = x3 (ix3 1 k q) := by
  pointwise

theorem ldh1 (h : Vec Ideal S1024x4096 .f32) (r : Fin 1024) (q : Fin 1024) :
    View.ld h (Rect.unit (s := S1024x4096) ![0, 1024] S1024x1024.size inb_S1024x4096_S1024x1024_0_1024) (ix2 r q) = h (ix2 r ⟨1024 + q.val, by omega⟩) := by
  pointwise

theorem ldb2 (x2 : Vec Ideal S4x256x1024 .bf16) (k : Fin 256) (q : Fin 1024) :
    View.ld x2 (Rect.unit (s := S4x256x1024) ![2, 0, 0] S1x256x1024.size inb_S4x256x1024_S1x256x1024_2_0_0) (ix3 0 k q) = x2 (ix3 2 k q) := by
  pointwise

theorem ldc2 (x3 : Vec Ideal S4x1024x256 .bf16) (k : Fin 1024) (q : Fin 256) :
    View.ld x3 (Rect.unit (s := S4x1024x256) ![2, 0, 0] S1x1024x256.size inb_S4x1024x256_S1x1024x256_2_0_0) (ix3 0 k q) = x3 (ix3 2 k q) := by
  pointwise

theorem ldh2 (h : Vec Ideal S1024x4096 .f32) (r : Fin 1024) (q : Fin 1024) :
    View.ld h (Rect.unit (s := S1024x4096) ![0, 2048] S1024x1024.size inb_S1024x4096_S1024x1024_0_2048) (ix2 r q) = h (ix2 r ⟨2048 + q.val, by omega⟩) := by
  pointwise

theorem ldb3 (x2 : Vec Ideal S4x256x1024 .bf16) (k : Fin 256) (q : Fin 1024) :
    View.ld x2 (Rect.unit (s := S4x256x1024) ![3, 0, 0] S1x256x1024.size inb_S4x256x1024_S1x256x1024_3_0_0) (ix3 0 k q) = x2 (ix3 3 k q) := by
  pointwise

theorem ldc3 (x3 : Vec Ideal S4x1024x256 .bf16) (k : Fin 1024) (q : Fin 256) :
    View.ld x3 (Rect.unit (s := S4x1024x256) ![3, 0, 0] S1x1024x256.size inb_S4x1024x256_S1x1024x256_3_0_0) (ix3 0 k q) = x3 (ix3 3 k q) := by
  pointwise

theorem ldh3 (h : Vec Ideal S1024x4096 .f32) (r : Fin 1024) (q : Fin 1024) :
    View.ld h (Rect.unit (s := S1024x4096) ![0, 3072] S1024x1024.size inb_S1024x4096_S1024x1024_0_3072) (ix2 r q) = h (ix2 r ⟨3072 + q.val, by omega⟩) := by
  pointwise

theorem mask_at (r : Fin 1024) (k : Fin 128) : k0_pay199 (ix2 r k) = BitVec.ofBool (decide (r.val % 8 < 4)) := by
  pointwise [k0_pay199]
  revert r
  decide +kernel

theorem cols4_at (w0 w1 w2 w3 : Vec Ideal S1024x1024 .f32) (r : Fin 1024) (q : Fin 4096) :
    cols4 w0 w1 w2 w3 (ix2 r q) = if h : q.val < 1024 then w0 (ix2 r ⟨q.val, h⟩)
      else if h : q.val < 2048 then w1 (ix2 r ⟨q.val - 1024, by omega⟩)
      else if h : q.val < 3072 then w2 (ix2 r ⟨q.val - 2048, by omega⟩)
      else w3 (ix2 r ⟨q.val - 3072, by omega⟩) := rfl

/-- The driving rows of a grid point, from the two blocks of the input. -/
theorem buF_at (x0 xr : Vec Ideal S128x4x512 .f32) (x2 : Vec Ideal S4x256x1024 .bf16) (r : Fin 1024) (q : Fin 4096) :
    buF x0 xr x2 (ix2 r q) = (if r.val % 8 < 4 then ∑ x : Fin 128, x0 (ix3 ⟨r.val / 8, by omega⟩ ⟨r.val % 4, by omega⟩ ⟨q.val / 1024 * 128 + x.val, by omega⟩)
          * x2 (ix3 ⟨q.val / 1024, by omega⟩ ⟨x.val, by omega⟩ ⟨q.val % 1024, by omega⟩)
      else ∑ x : Fin 128, xr (ix3 ⟨r.val / 8, by omega⟩ ⟨r.val % 4, by omega⟩ ⟨q.val / 1024 * 128 + x.val, by omega⟩)
          * x2 (ix3 ⟨q.val / 1024, by omega⟩ ⟨128 + x.val, by omega⟩ ⟨q.val % 1024, by omega⟩) : EReal) := by
  have hq := q.isLt
  unfold buF
  refine (cols4_at _ _ _ _ r q).trans ?_
  by_cases h1 : q.val < 1024
  · refine (dif_pos h1).trans ?_
    refine (piece0 x0 xr _ r ⟨q.val, h1⟩).trans ?_
    refine if_congr Iff.rfl (Finset.sum_congr rfl fun x _ => congrArg₂ HMul.hMul (congrArg (fun t => x0 (ix3 _ _ t)) (Fin.ext (by dsimp only; omega))) ((ldb0 x2 _ _).trans (app3 (fun a b c => x2 (ix3 a b c)) (by dsimp only <;> omega) rfl (by dsimp only <;> omega))))
      (Finset.sum_congr rfl fun x _ => congrArg₂ HMul.hMul (congrArg (fun t => xr (ix3 _ _ t)) (Fin.ext (by dsimp only; omega))) ((ldb0 x2 _ _).trans (app3 (fun a b c => x2 (ix3 a b c)) (by dsimp only <;> omega) rfl (by dsimp only <;> omega))))
  by_cases h2 : q.val < 2048
  · refine (dif_neg h1).trans ((dif_pos h2).trans ?_)
    refine (piece1 x0 xr _ r ⟨q.val - 1024, by omega⟩).trans ?_
    refine if_congr Iff.rfl (Finset.sum_congr rfl fun x _ => congrArg₂ HMul.hMul (congrArg (fun t => x0 (ix3 _ _ t)) (Fin.ext (by dsimp only; omega))) ((ldb1 x2 _ _).trans (app3 (fun a b c => x2 (ix3 a b c)) (by dsimp only <;> omega) rfl (by dsimp only <;> omega))))
      (Finset.sum_congr rfl fun x _ => congrArg₂ HMul.hMul (congrArg (fun t => xr (ix3 _ _ t)) (Fin.ext (by dsimp only; omega))) ((ldb1 x2 _ _).trans (app3 (fun a b c => x2 (ix3 a b c)) (by dsimp only <;> omega) rfl (by dsimp only <;> omega))))
  by_cases h3 : q.val < 3072
  · refine (dif_neg h1).trans ((dif_neg h2).trans ((dif_pos h3).trans ?_))
    refine (piece2 x0 xr _ r ⟨q.val - 2048, by omega⟩).trans ?_
    refine if_congr Iff.rfl (Finset.sum_congr rfl fun x _ => congrArg₂ HMul.hMul (congrArg (fun t => x0 (ix3 _ _ t)) (Fin.ext (by dsimp only; omega))) ((ldb2 x2 _ _).trans (app3 (fun a b c => x2 (ix3 a b c)) (by dsimp only <;> omega) rfl (by dsimp only <;> omega))))
      (Finset.sum_congr rfl fun x _ => congrArg₂ HMul.hMul (congrArg (fun t => xr (ix3 _ _ t)) (Fin.ext (by dsimp only; omega))) ((ldb2 x2 _ _).trans (app3 (fun a b c => x2 (ix3 a b c)) (by dsimp only <;> omega) rfl (by dsimp only <;> omega))))
  · refine (dif_neg h1).trans ((dif_neg h2).trans ((dif_neg h3).trans ?_))
    refine (piece3 x0 xr _ r ⟨q.val - 3072, by omega⟩).trans ?_
    refine if_congr Iff.rfl (Finset.sum_congr rfl fun x _ => congrArg₂ HMul.hMul (congrArg (fun t => x0 (ix3 _ _ t)) (Fin.ext (by dsimp only; omega))) ((ldb3 x2 _ _).trans (app3 (fun a b c => x2 (ix3 a b c)) (by dsimp only <;> omega) rfl (by dsimp only <;> omega))))
      (Finset.sum_congr rfl fun x _ => congrArg₂ HMul.hMul (congrArg (fun t => xr (ix3 _ _ t)) (Fin.ext (by dsimp only; omega))) ((ldb3 x2 _ _).trans (app3 (fun a b c => x2 (ix3 a b c)) (by dsimp only <;> omega) rfl (by dsimp only <;> omega))))

theorem sel_at (p : Prop) [Decidable p] (a b : EReal) : Scalar.select (BitVec.ofBool (decide p)) a b = if p then a else b := by
  by_cases h : p <;> simp [h, Scalar.select]

/-- The results of a grid point, from its states. -/
theorem yF_at (h : Vec Ideal S1024x4096 .f32) (x3 : Vec Ideal S4x1024x256 .bf16) (s : Fin 128) (r : Fin 8) (w : Fin 512) :
    yF h x3 (ix3 s r w) = (∑ x : Fin 1024, h (ix2 ⟨s.val * 8 + r.val, by omega⟩ ⟨w.val / 128 * 1024 + x.val, by omega⟩)
      * x3 (ix3 ⟨w.val / 128, by omega⟩ x ⟨r.val / 4 * 128 + w.val % 128, by omega⟩) : EReal) := by
  have hw := w.isLt
  have hr : (s.val * 8 + r.val) % 8 = r.val := by omega
  unfold yF
  pointwise [k0_pay201, k0_pay200]
  simp only [mask_at, hr, sel_at, ldh0, ldh1, ldh2, ldh3, ldc0, ldc1, ldc2, ldc3]
  by_cases h1 : w.val < 128
  · by_cases hr4 : r.val < 4
    · simp only [h1, hr4, ↓reduceDIte, ↓reduceIte]
      exact Finset.sum_congr rfl fun x _ => congrArg₂ HMul.hMul (congrArg (fun t => h (ix2 _ t)) (Fin.ext (by dsimp only; omega))) (app3 (fun a b c => x3 (ix3 a b c)) (show (0 : ℕ) = w.val / 128 by omega) rfl (by dsimp only; omega))
    · simp only [h1, hr4, ↓reduceDIte, ↓reduceIte]
      exact Finset.sum_congr rfl fun x _ => congrArg₂ HMul.hMul (congrArg (fun t => h (ix2 _ t)) (Fin.ext (by dsimp only; omega))) (app3 (fun a b c => x3 (ix3 a b c)) (show (0 : ℕ) = w.val / 128 by omega) rfl (by dsimp only; omega))
  by_cases h2 : w.val - 128 < 128
  · by_cases hr4 : r.val < 4
    · simp only [h1, h2, hr4, ↓reduceDIte, ↓reduceIte]
      exact Finset.sum_congr rfl fun x _ => congrArg₂ HMul.hMul (congrArg (fun t => h (ix2 _ t)) (Fin.ext (by dsimp only; omega))) (app3 (fun a b c => x3 (ix3 a b c)) (show (1 : ℕ) = w.val / 128 by omega) rfl (by dsimp only; omega))
    · simp only [h1, h2, hr4, ↓reduceDIte, ↓reduceIte]
      exact Finset.sum_congr rfl fun x _ => congrArg₂ HMul.hMul (congrArg (fun t => h (ix2 _ t)) (Fin.ext (by dsimp only; omega))) (app3 (fun a b c => x3 (ix3 a b c)) (show (1 : ℕ) = w.val / 128 by omega) rfl (by dsimp only; omega))
  by_cases h3 : w.val - 128 - 128 < 128
  · by_cases hr4 : r.val < 4
    · simp only [h1, h2, h3, hr4, ↓reduceDIte, ↓reduceIte]
      exact Finset.sum_congr rfl fun x _ => congrArg₂ HMul.hMul (congrArg (fun t => h (ix2 _ t)) (Fin.ext (by dsimp only; omega))) (app3 (fun a b c => x3 (ix3 a b c)) (show (2 : ℕ) = w.val / 128 by omega) rfl (by dsimp only; omega))
    · simp only [h1, h2, h3, hr4, ↓reduceDIte, ↓reduceIte]
      exact Finset.sum_congr rfl fun x _ => congrArg₂ HMul.hMul (congrArg (fun t => h (ix2 _ t)) (Fin.ext (by dsimp only; omega))) (app3 (fun a b c => x3 (ix3 a b c)) (show (2 : ℕ) = w.val / 128 by omega) rfl (by dsimp only; omega))
  · by_cases hr4 : r.val < 4
    · simp only [h1, h2, h3, hr4, ↓reduceDIte, ↓reduceIte]
      exact Finset.sum_congr rfl fun x _ => congrArg₂ HMul.hMul (congrArg (fun t => h (ix2 _ t)) (Fin.ext (by dsimp only; omega))) (app3 (fun a b c => x3 (ix3 a b c)) (show (3 : ℕ) = w.val / 128 by omega) rfl (by dsimp only; omega))
    · simp only [h1, h2, h3, hr4, ↓reduceDIte, ↓reduceIte]
      exact Finset.sum_congr rfl fun x _ => congrArg₂ HMul.hMul (congrArg (fun t => h (ix2 _ t)) (Fin.ext (by dsimp only; omega))) (app3 (fun a b c => x3 (ix3 a b c)) (show (3 : ℕ) = w.val / 128 by omega) rfl (by dsimp only; omega))

end Cert.ScanIdeal.Value
-- ==== Proof.ScanValue.lean ====
module

public import proofs.«01_k».proof.Proof.ScanIdealFrame
public import proofs.«01_k».proof.Proof.ScanPay

/-! The scan's result array. -/

@[expose] public section

set_option maxRecDepth 16384

noncomputable section

namespace Cert.ScanIdeal.Value

open Cert.ScanIdeal Cert.ScanIdeal.Gen
open Idealize.ShloMosaic Idealize.ShloMosaic.TcCoe Idealize.SL.Sem

variable (m : (ℓ : Loc nD τ sig) → Buf (Elt Ideal) ℓ)

/-- A sum over lanes of which only one block of sixteen counts. -/
theorem sum_block (f : Fin 128 → EReal) (g : ℕ) (hg : g < 8) (hf : ∀ x : Fin 128, x.val / 16 ≠ g → f x = 0) :
    ∑ x, f x = ∑ t : Fin 16, f ⟨g * 16 + t.val, by omega⟩ := by
  rw [Fin.sum_univ_tiles 8 16 rfl f, Finset.sum_eq_single (⟨g, hg⟩ : Fin 8)]
  · intro j _ hj
    refine Finset.sum_eq_zero fun t _ => hf _ ?_
    intro e
    exact hj (Fin.ext (by have := t.isLt; simp only at e ⊢; omega))
  · intro h
    exact absurd (Finset.mem_univ _) h

/-- A sum over a state's columns of which only one group counts. -/
theorem sum_group (f : Fin 1024 → EReal) (g : ℕ) (hg : g < 8) (hf : ∀ x : Fin 1024, x.val % 512 / 64 ≠ g → f x = 0) :
    ∑ x, f x = (∑ p : Fin 64, f ⟨g * 64 + p.val, by omega⟩) + ∑ p : Fin 64, f ⟨512 + g * 64 + p.val, by omega⟩ := by
  rw [Fin.sum_univ_tiles 16 64 rfl f]
  have hne : (⟨g, by omega⟩ : Fin 16) ≠ ⟨8 + g, by omega⟩ := by
    intro e
    have := congrArg Fin.val e
    simp only at this
    omega
  rw [← Finset.sum_subset (Finset.subset_univ ({⟨g, by omega⟩, ⟨8 + g, by omega⟩} : Finset (Fin 16))), Finset.sum_pair hne]
  · refine congrArg₂ HAdd.hAdd rfl (Finset.sum_congr rfl fun p _ => congrArg f (Fin.ext ?_))
    simp only
    omega
  · intro j _ hj
    refine Finset.sum_eq_zero fun t _ => hf _ ?_
    intro e
    have h1 := t.isLt
    have h2 := j.isLt
    simp only [Finset.mem_insert, Finset.mem_singleton, not_or] at hj
    have a1 : j.val ≠ g := fun h => hj.1 (Fin.ext h)
    have a2 : j.val ≠ 8 + g := fun h => hj.2 (Fin.ext h)
    simp only at e
    omega

/-- The state of the scan before step `n`. -/
abbrev HS (c : Dev nD) (d : Fin 2) (b : Fin 4) (g : Fin 32) (p : Fin 64) (n : ℕ) : EReal × EReal :=
  S5.hs (argU m c) (argAR m c) (argAI m c) (argBR m c) (argBI m c) d b g p n

/-- The direction and the batch row of a row of the state. -/
def dir (r : Fin 8) : Fin 2 := ⟨r.val / 4, by omega⟩
def bat (r : Fin 8) : Fin 4 := ⟨r.val % 4, by omega⟩

/-- The state as the kernel lays it out. -/
def hq (c : Dev nD) (r : Fin 8) (q : Fin 4096) (n : ℕ) : EReal :=
  if q.val % 1024 < 512 then (HS m c (dir r) (bat r) (grp q) (stt q) n).1 else (HS m c (dir r) (bat r) (grp q) (stt q) n).2
/-- What drives it. -/
def dq (c : Dev nD) (r : Fin 8) (q : Fin 4096) (l : Fin 8448) : EReal :=
  if q.val % 1024 < 512 then S5.drv (argU m c) (argBR m c) (dir r) (bat r) (grp q) (stt q) l
  else S5.drv (argU m c) (argBI m c) (dir r) (bat r) (grp q) (stt q) l

/-- One time step. -/
theorem next_at (c : Dev nD) (a : Vec Ideal S1x8x4096 .f32) (b H : Vec Ideal S8x4096 .f32) (n : ℕ) (hn : n < 8448)
    (ha : ∀ r q, a (ix3 0 r q) = if q.val % 1024 < 512 then argAR m c (dir r) (grp q) (stt q) else argAI m c (dir r) (grp q) (stt q))
    (hb : ∀ r q, b (ix2 r q) = dq m c r q ⟨n, hn⟩) (hH : ∀ r q, H (ix2 r q) = hq m c r q n) (r : Fin 8) (q : Fin 4096) :
    next a b H (ix2 r q) = hq m c r q (n + 1) := by
  have es := S5.hs_succ (argU m c) (argAR m c) (argAI m c) (argBR m c) (argBI m c) (dir r) (bat r) (grp q) (stt q) n hn
  by_cases h : q.val % 1024 < 512
  · have hu : ¬ (up q).val % 1024 < 512 := by simp only [up]; omega
    rw [next_re a b H r q h, ha, ha, hb, hH, hH, if_pos h, if_neg hu, grp_up q h, stt_up q h]
    unfold hq dq
    rw [if_pos h, if_pos h, if_neg hu, if_pos h, grp_up q h, stt_up q h]
    exact (congrArg Prod.fst es).symm
  · have hd : (dn q).val % 1024 < 512 := by simp only [dn]; omega
    rw [next_im a b H r q h, ha, ha, hb, hH, hH, if_neg h, if_pos hd, grp_dn q h, stt_dn q h]
    unfold hq dq
    rw [if_neg h, if_neg h, if_pos hd, if_neg h, grp_dn q h, stt_dn q h]
    exact (congrArg Prod.snd es).symm

/-- The time steps of a block. -/
theorem St_at (c : Dev nD) (a : Vec Ideal S1x8x4096 .f32) (d : Vec Ideal S1024x4096 .f32) (H : Vec Ideal S8x4096 .f32) (n : ℕ) (hn : n + 128 ≤ 8448)
    (ha : ∀ r q, a (ix3 0 r q) = if q.val % 1024 < 512 then argAR m c (dir r) (grp q) (stt q) else argAI m c (dir r) (grp q) (stt q))
    (hd : ∀ (s : Fin 128) (r : Fin 8) q, d (ix2 ⟨s.val * 8 + r.val, by omega⟩ q) = dq m c r q ⟨n + s.val, by omega⟩)
    (hH : ∀ r q, H (ix2 r q) = hq m c r q n) : ∀ k, k ≤ 128 → ∀ r q, St a d H k (ix2 r q) = hq m c r q (n + k)
  | 0, _ => hH
  | k + 1, hk => by
    refine next_at m c a (rowsOf d k) (St a d H k) (n + k) (by omega) ha (fun r q => ?_) (St_at c a d H n hn ha hd hH k (by omega))
    refine (congrArg (fun t => d (ix2 t q)) (Fin.ext ?_)).trans (hd ⟨k, by omega⟩ r q)
    show (8 * k + r.val) % 1024 = k * 8 + r.val
    omega

theorem buAt_at (c : Dev nD) (a : Vec Ideal S1x8x4096 .f32) (d : Vec Ideal S1024x4096 .f32) (H : Vec Ideal S8x4096 .f32) (s : Fin 128) (r : Fin 8) (q : Fin 4096) :
    buAt a d H 128 (ix2 ⟨s.val * 8 + r.val, by omega⟩ q) = St a d H (s.val + 1) (ix2 r q) := by
  have e1 : (s.val * 8 + r.val) / 8 = s.val := by omega
  refine (if_pos (by show (s.val * 8 + r.val) / 8 < 128; omega)).trans ?_
  show St a d H ((s.val * 8 + r.val) / 8 + 1) (ix2 ⟨(s.val * 8 + r.val) % 8, _⟩ q) = _
  rw [e1]
  exact congrArg (fun t => St a d H (s.val + 1) (ix2 t q)) (Fin.ext (by show (s.val * 8 + r.val) % 8 = r.val; omega))

end Cert.ScanIdeal.Value
-- ==== Proof.ScanSum.lean ====
module

public import proofs.«01_k».proof.Proof.ScanIdealFrame
public import proofs.«01_k».proof.Proof.ScanValue

/-! The two projections of the scan as sums over one group. -/

@[expose] public section

set_option maxRecDepth 16384

noncomputable section

namespace Cert.ScanIdeal.Value

open Cert.ScanIdeal Cert.ScanIdeal.Gen
open Idealize.ShloMosaic Idealize.ShloMosaic.TcCoe Idealize.SL.Sem

variable (m : (ℓ : Loc nD τ sig) → Buf (Elt Ideal) ℓ)

/-- The projection of the input onto a column of the state. -/
theorem drive_at (c : Dev nD) (d : Fin 2) (b : Fin 4) (l : Fin 8448) (q : Fin 4096) :
    (∑ x : Fin 128, argU m c b (S5.src d l) ⟨q.val / 1024 * 128 + x.val, by omega⟩
        * V m c main_v23 (ix3 ⟨q.val / 1024, by omega⟩ ⟨d.val * 128 + x.val, by omega⟩ ⟨q.val % 1024, by omega⟩) : EReal)
      = if q.val % 1024 < 512 then S5.drv (argU m c) (argBR m c) d b (grp q) (stt q) l
        else S5.drv (argU m c) (argBI m c) d b (grp q) (stt q) l := by
  refine (Finset.sum_congr rfl fun x _ => congrArg (HMul.hMul _) (bm_at m c ⟨q.val / 1024, by omega⟩ d x ⟨q.val % 1024, by omega⟩)).trans ?_
  refine (sum_block _ (q.val % 512 / 64) (by omega) fun x hx => ?_).trans ?_
  · rw [if_neg (show ¬ x.val / 16 = q.val % 1024 % 512 / 64 by omega), mul_zero, mul_zero]
  · unfold S5.drv
    by_cases h : q.val % 1024 < 512
    · rw [if_pos h]
      refine Finset.sum_congr rfl fun x _ => ?_
      have hx := x.isLt
      simp only [h, ↓reduceIte]
      rw [if_pos (show (q.val % 512 / 64 * 16 + x.val) / 16 = q.val % 1024 % 512 / 64 by omega), mul_one]
      refine congrArg₂ HMul.hMul (congrArg (fun t => argU m c b (S5.src d l) t) (Fin.ext ?_)) (app4 (argBR m c) rfl ?_ ?_ ?_)
      · simp only [grp]; omega
      · simp only [grp]; omega
      · simp only [stt]; omega
      · simp only; omega
    · rw [if_neg h]
      refine Finset.sum_congr rfl fun x _ => ?_
      have hx := x.isLt
      simp only [h, ↓reduceIte]
      rw [if_pos (show (q.val % 512 / 64 * 16 + x.val) / 16 = q.val % 1024 % 512 / 64 by omega), mul_one]
      refine congrArg₂ HMul.hMul (congrArg (fun t => argU m c b (S5.src d l) t) (Fin.ext ?_)) (app4 (argBI m c) rfl ?_ ?_ ?_)
      · simp only [grp]; omega
      · simp only [grp]; omega
      · simp only [stt]; omega
      · simp only; omega

/-- The projection of the state onto a lane of the result. -/
theorem read_at (c : Dev nD) (r : Fin 8) (w : Fin 512) (l : Fin 8448) :
    (∑ x : Fin 1024, hq m c r ⟨w.val / 128 * 1024 + x.val, by omega⟩ (l.val + 1)
        * V m c main_v44 (ix3 ⟨w.val / 128, by omega⟩ x ⟨(dir r).val * 128 + (⟨w.val % 128, by omega⟩ : Fin 128).val, by have := (dir r).isLt; simp only; omega⟩) : EReal)
      = S5.out (argU m c) (argAR m c) (argAI m c) (argBR m c) (argBI m c) (argCR m c) (argCI m c) (dir r) (bat r) l
          ⟨w.val / 16, by omega⟩ ⟨w.val % 16, by omega⟩ := by
  refine (Finset.sum_congr rfl fun x _ => congrArg (HMul.hMul _) (cm_at m c ⟨w.val / 128, by omega⟩ x (dir r) ⟨w.val % 128, by omega⟩)).trans ?_
  refine (sum_group _ (w.val % 128 / 16) (by omega) fun x hx => ?_).trans ?_
  · rw [if_neg (show ¬ w.val % 128 / 16 = x.val % 512 / 64 by omega), mul_zero, mul_zero]
  · unfold S5.out
    refine congrArg₂ HAdd.hAdd (Finset.sum_congr rfl fun p _ => ?_) (Finset.sum_congr rfl fun p _ => ?_)
    · have hp := p.isLt
      rw [if_pos (show w.val % 128 / 16 * 64 + p.val < 512 by omega), if_pos (show w.val % 128 / 16 = (w.val % 128 / 16 * 64 + p.val) % 512 / 64 by omega), mul_one]
      refine congrArg₂ HMul.hMul ?_ (app4 (argCR m c) rfl ?_ ?_ ?_)
      · unfold hq
        rw [if_pos (show (w.val / 128 * 1024 + (w.val % 128 / 16 * 64 + p.val)) % 1024 < 512 by omega)]
        refine congrArg Prod.fst (congrArg₂ (fun g p => HS m c (dir r) (bat r) g p (l.val + 1)) (Fin.ext ?_) (Fin.ext ?_))
        · simp only [grp]; omega
        · simp only [stt]; omega
      · simp only; omega
      · simp only; omega
      · simp only; omega
    · have hp := p.isLt
      rw [if_neg (show ¬ 512 + w.val % 128 / 16 * 64 + p.val < 512 by omega), if_pos (show w.val % 128 / 16 = (512 + w.val % 128 / 16 * 64 + p.val) % 512 / 64 by omega), mul_one]
      refine congrArg₂ HMul.hMul ?_ (congrArg (fun z : EReal => -z) (app4 (argCI m c) rfl ?_ ?_ ?_))
      · unfold hq
        rw [if_neg (show ¬ (w.val / 128 * 1024 + (512 + w.val % 128 / 16 * 64 + p.val)) % 1024 < 512 by omega)]
        refine congrArg Prod.snd (congrArg₂ (fun g p => HS m c (dir r) (bat r) g p (l.val + 1)) (Fin.ext ?_) (Fin.ext ?_))
        · simp only [grp]; omega
        · simp only [stt]; omega
      · simp only; omega
      · simp only; omega
      · simp only; omega

end Cert.ScanIdeal.Value
-- ==== Proof.ScanFinal.lean ====
module

public import proofs.«01_k».proof.Proof.ScanIdealFrame
public import proofs.«01_k».proof.Proof.ScanSum

/-! The scan's result array from the blocks. -/

@[expose] public section

set_option maxRecDepth 16384

noncomputable section

namespace Cert.ScanIdeal.Value

open Cert.ScanIdeal Cert.ScanIdeal.Gen
open Idealize.ShloMosaic Idealize.ShloMosaic.TcCoe Idealize.SL.Sem

variable (m : (ℓ : Loc nD τ sig) → Buf (Elt Ideal) ℓ)

/-- The block of time steps that the backward direction reads and writes. -/
def bmap (t : Fin grid0.N) : ℕ := if t.val < 2 then 1 - t.val else 67 - t.val

theorem N_eq : grid0.N = 66 := by decide +kernel
theorem bmap_lt (t : Fin grid0.N) : bmap t < 66 := by have := lt_of_lt_of_eq t.isLt N_eq; unfold bmap; split_ifs <;> omega

theorem idx (t : Fin grid0.N) : (win0_0.index t = ![t.val, 0, 0] ∧ win0_1.index t = ![bmap t, 0, 0] ∧ win0_2.index t = ![0, 0, 0])
    ∧ (win0_3.index t = ![0, 0, 0] ∧ win0_4.index t = ![0, 0, 0] ∧ win0_5.index t = ![t.val, 0, 0] ∧ win0_6.index t = ![bmap t, 0, 0]) :=
  (by decide +kernel : ∀ t : Fin grid0.N, (win0_0.index t = ![t.val, 0, 0] ∧ win0_1.index t = ![bmap t, 0, 0] ∧ win0_2.index t = ![0, 0, 0])
    ∧ (win0_3.index t = ![0, 0, 0] ∧ win0_4.index t = ![0, 0, 0] ∧ win0_5.index t = ![t.val, 0, 0] ∧ win0_6.index t = ![bmap t, 0, 0])) t

theorem in0 (c : Dev nD) (t : Fin cfg0.N) (s : Fin 128) (b : Fin 4) (w : Fin 512) (h : t.val * 128 + s.val < 8448) :
    iblk m c 0 t (ix3 s b w) = argU m c b ⟨t.val * 128 + s.val, h⟩ w := by
  refine Eq.trans ?_ (u_at m c ⟨t.val * 128 + s.val, h⟩ b w)
  refine congrArg (V m c main_v53) ?_
  blk_ext [idx t]

theorem in1 (c : Dev nD) (t : Fin cfg0.N) (s : Fin 128) (b : Fin 4) (w : Fin 512) (h : bmap t * 128 + s.val < 8448) :
    iblk m c 1 t (ix3 s b w) = argU m c b ⟨bmap t * 128 + s.val, h⟩ w := by
  refine Eq.trans ?_ (u_at m c ⟨bmap t * 128 + s.val, h⟩ b w)
  refine congrArg (V m c main_v53) ?_
  blk_ext [idx t]

theorem in2 (c : Dev nD) (t : Fin cfg0.N) (i : S4x256x1024.Idx) : iblk m c 2 t i = V m c main_v23 i := by
  refine congrArg (V m c main_v23) ?_
  blk_ext [idx t]

theorem in3 (c : Dev nD) (t : Fin cfg0.N) (i : S4x1024x256.Idx) : iblk m c 3 t i = V m c main_v44 i := by
  refine congrArg (V m c main_v44) ?_
  blk_ext [idx t]

theorem in4 (c : Dev nD) (t : Fin cfg0.N) (i : S1x8x4096.Idx) : iblk m c 4 t i = V m c main_v52 i := by
  refine congrArg (V m c main_v52) ?_
  blk_ext [idx t]

theorem t_lt (t : Fin cfg0.N) : t.val < 66 := lt_of_lt_of_eq t.isLt N_eq

/-- The backward direction's step `128 t + s` reads block `bmap t` from its end. -/
theorem src_bmap (t : Fin cfg0.N) (s : Fin 128) (h : bmap t * 128 + (127 - s.val) < 8448) (h' : t.val * 128 + s.val < 8448) :
    (⟨bmap t * 128 + (127 - s.val), h⟩ : Fin 8448) = S5.src 1 ⟨t.val * 128 + s.val, h'⟩ := by
  have ht := t_lt t
  have hs := s.isLt
  by_cases h2 : t.val < 2
  · rw [S5.src_lo _ (show t.val * 128 + s.val < 256 by omega)]
    refine Fin.ext ?_
    simp only [bmap, h2, ↓reduceIte]
    omega
  · rw [S5.src_hi _ (show ¬ t.val * 128 + s.val < 256 by omega)]
    refine Fin.ext ?_
    simp only [bmap, h2, ↓reduceIte]
    omega

/-- What drives the states at a grid point. -/
theorem bu_at (c : Dev nD) (t : Fin cfg0.N) (s : Fin 128) (r : Fin 8) (q : Fin 4096) (h : t.val * 128 + s.val < 8448) :
    buOf (iblk m c 0 t) (iblk m c 1 t) (iblk m c 2 t) (ix2 ⟨s.val * 8 + r.val, by omega⟩ q) = dq m c r q ⟨t.val * 128 + s.val, h⟩ := by
  have hb := bmap_lt t
  have e8 : (s.val * 8 + r.val) / 8 = s.val := by omega
  refine (buF_at _ _ _ _ q).trans ?_
  refine Eq.trans ?_ (drive_at m c (dir r) (bat r) ⟨t.val * 128 + s.val, h⟩ q)
  by_cases h4 : r.val < 4
  · refine (if_pos (show (s.val * 8 + r.val) % 8 < 4 by omega)).trans ?_
    refine Finset.sum_congr rfl fun x _ => congrArg₂ HMul.hMul ?_ ?_
    · refine (in0 m c t _ _ _ (show t.val * 128 + (s.val * 8 + r.val) / 8 < 8448 by omega)).trans (app3 (argU m c) ?_ ?_ rfl)
      · show (s.val * 8 + r.val) % 4 = r.val % 4
        omega
      · have e : dir r = 0 := Fin.ext (by show r.val / 4 = 0; omega)
        rw [e, S5.src_zero]
        show t.val * 128 + (s.val * 8 + r.val) / 8 = t.val * 128 + s.val
        omega
    · refine (in2 m c t _).trans (app3 (fun a b d => V m c main_v23 (ix3 a b d)) rfl ?_ rfl)
      show x.val = r.val / 4 * 128 + x.val
      omega
  · refine (if_neg (show ¬ (s.val * 8 + r.val) % 8 < 4 by omega)).trans ?_
    refine Finset.sum_congr rfl fun x _ => congrArg₂ HMul.hMul ?_ ?_
    · refine (in1 m c t ⟨127 - (s.val * 8 + r.val) / 8, by omega⟩ _ _ (show bmap t * 128 + (127 - (s.val * 8 + r.val) / 8) < 8448 by omega)).trans (app3 (argU m c) ?_ ?_ rfl)
      · show (s.val * 8 + r.val) % 4 = r.val % 4
        omega
      · have e : dir r = 1 := Fin.ext (by show r.val / 4 = 1; omega)
        rw [e, ← src_bmap t s (by omega) h]
        show bmap t * 128 + (127 - (s.val * 8 + r.val) / 8) = bmap t * 128 + (127 - s.val)
        rw [e8]
    · refine (in2 m c t _).trans (app3 (fun a b d => V m c main_v23 (ix3 a b d)) rfl ?_ rfl)
      show 128 + x.val = r.val / 4 * 128 + x.val
      omega

theorem a_at (c : Dev nD) (t : Fin cfg0.N) (r : Fin 8) (q : Fin 4096) :
    iblk m c 4 t (ix3 0 r q) = if q.val % 1024 < 512 then argAR m c (dir r) (grp q) (stt q) else argAI m c (dir r) (grp q) (stt q) :=
  (in4 m c t _).trans (am_at m c r q)

/-- The state with which a grid point is entered. -/
theorem hAt_at (c : Dev nD) : ∀ n, n ≤ 66 → ∀ r q, hAt m c n (ix2 r q) = hq m c r q (n * 128)
  | 0, _ => fun r q => by
    rw [hAt_zero]
    unfold hq
    pointwise [k0_pay22]
    unfold HS
    rw [S5.hs_zero]
    simp
  | n + 1, hn => fun r q => by
    have hN : n < cfg0.N := by show n < grid0.N; rw [N_eq]; omega
    refine (congrFun (hAt_succ m c ⟨n, hN⟩) _).trans ?_
    refine (St_at m c (iblk m c 4 ⟨n, hN⟩) _ (hAt m c n) (n * 128) (by omega) (a_at m c ⟨n, hN⟩) (fun s r q => bu_at m c ⟨n, hN⟩ s r q (by show n * 128 + s.val < 8448; omega))
      (hAt_at c n (by omega)) 128 (le_refl _) r q).trans ?_
    rw [show n * 128 + 128 = (n + 1) * 128 by omega]

/-- What a grid point writes. -/
theorem yAt_at (c : Dev nD) (t : Fin cfg0.N) (s : Fin 128) (r : Fin 8) (w : Fin 512) (h : t.val * 128 + s.val < 8448) :
    yAt m c t (ix3 s r w) = S5.out (argU m c) (argAR m c) (argAI m c) (argBR m c) (argBI m c) (argCR m c) (argCI m c) (dir r) (bat r) ⟨t.val * 128 + s.val, h⟩
          ⟨w.val / 16, by omega⟩ ⟨w.val % 16, by omega⟩ := by
  have ht := t_lt t
  refine (yF_at _ _ s r w).trans (Eq.trans ?_ (read_at m c r w ⟨t.val * 128 + s.val, h⟩))
  refine Finset.sum_congr rfl fun x _ => congrArg₂ HMul.hMul ?_ (in3 m c t _)
  refine (buAt_at c _ _ _ s r _).trans ?_
  refine (St_at m c (iblk m c 4 t) _ (hAt m c t.val) (t.val * 128) (by omega) (a_at m c t) (fun s r q => bu_at m c t s r q (by omega))
    (hAt_at m c t.val (by omega)) (s.val + 1) (by omega) r _).trans ?_
  rfl

/-- The result arrays of the two directions. -/
def YF (c : Dev nD) : Vec Ideal S8448x8x512 .f32 := fun i =>
  S5.out (argU m c) (argAR m c) (argAI m c) (argBR m c) (argBI m c) (argCR m c) (argCI m c) (dir (i 1)) (bat (i 1)) (i 0)
    ⟨(i 2).val / 16, by have : (i 2).val < 512 := (i 2).isLt; omega⟩ ⟨(i 2).val % 16, by omega⟩
def YB (c : Dev nD) : Vec Ideal S8448x8x512 .f32 := fun i => YF m c (ix3 (S5.src 1 (i 0)) (i 1) (i 2))

theorem arr5 (c : Dev nD) : (dats m 0 c).arrAt 5 (cfgs 0).N = YF m c := by
  refine (dats m 0 c).arrAt_eq_of_covers 5 _ (by decide +kernel) fun t _ y => ?_
  blk_simp
  rw [after0_5]; frame_out
  have ht := t_lt t
  have hy : y = ix3 (y 0) (y 1) (y 2) := by blk_ext []
  generalize y 0 = s at hy
  generalize y 1 = r at hy
  generalize y 2 = w at hy
  rw [hy]
  have hs : s.val < 128 := s.isLt
  refine (yAt_at m c t s r w (by omega)).trans ?_
  refine Eq.trans (b := YF m c (ix3 ⟨t.val * 128 + s.val, by omega⟩ r w)) rfl (congrArg (YF m c) ?_)
  blk_ext [idx t]

theorem arr6 (c : Dev nD) : (dats m 0 c).arrAt 6 (cfgs 0).N = YB m c := by
  refine (dats m 0 c).arrAt_eq_of_covers 6 _ (by decide +kernel) fun t _ y => ?_
  blk_simp
  rw [after0_6]; frame_out
  have ht := t_lt t
  have hb := bmap_lt t
  have hy : y = ix3 (y 0) (y 1) (y 2) := by blk_ext []
  generalize y 0 = s at hy
  generalize y 1 = r at hy
  generalize y 2 = w at hy
  rw [hy]
  have hs : s.val < 128 := s.isLt
  refine (yAt_at m c t ⟨127 - s.val, by omega⟩ r w (by show t.val * 128 + (127 - s.val) < 8448; omega)).trans ?_
  refine Eq.trans (b := YB m c (ix3 ⟨bmap t * 128 + s.val, by omega⟩ r w)) ?_ (congrArg (YB m c) ?_)
  · have e := src_bmap t ⟨127 - s.val, by omega⟩ (by show bmap t * 128 + (127 - (127 - s.val)) < 8448; omega) (by show t.val * 128 + (127 - s.val) < 8448; omega)
    have e2 : (⟨bmap t * 128 + s.val, by omega⟩ : Fin 8448) = ⟨bmap t * 128 + (127 - (127 - s.val)), by omega⟩ := Fin.ext (by show _ + _ = _ + _; omega)
    show _ = YF m c (ix3 (S5.src 1 (⟨bmap t * 128 + s.val, by omega⟩ : Fin 8448)) r w)
    rw [e2, e, S5.src_src]
    rfl
  · blk_ext [idx t]

/-- The result array after the run. -/
def GArr (c : Dev nD) : Vec Ideal S4x8448x512 .f32 := fun i =>
  S5.G (argU m c) (argAR m c) (argAI m c) (argBR m c) (argBI m c) (argCR m c) (argCI m c) (i 0) (i 1) (i 2)

end Cert.ScanIdeal.Value
-- ==== Proof.ScanTail.lean ====
/- The scan's result after the lines that follow its grid. -/
module

public import proofs.«01_k».proof.Proof.ScanFinal

@[expose] public section
set_option maxRecDepth 16384
noncomputable section
namespace Cert.ScanIdeal.Value
open Idealize.ShloMosaic Idealize.ShloMosaic.TcCoe Idealize.SL.Sem Cert.ScanIdeal.Gen

variable (m : (ℓ : Loc nD τ sig) → Buf (Elt Ideal) ℓ) (ρ : Dev nD → PrngReg)

/-- The lines after the grid add the two directions' arrays at the same time. -/
theorem tail_eq (c : Dev nD) : Pipeline.afterTail₀ cfgs (dats m) 0 (V0 m) [hostOps1] c main_v58 = GArr m c := by
  have h5 : Pipeline.withArrays (cfgs 0).spec c (V0 m c) (fun w => (dats m 0 c).arrAt w (cfgs 0).N) (Proc.devRef .tc main_v54_0) = YF m c :=
    ((dats m 0 c).withArrays_arrAt (by decide) (V0 m c) (A_eq m c) 5).trans (arr5 m c)
  have h6 : Pipeline.withArrays (cfgs 0).spec c (V0 m c) (fun w => (dats m 0 c).arrAt w (cfgs 0).N) (Proc.devRef .tc main_v54_1) = YB m c :=
    ((dats m 0 c).withArrays_arrAt (by decide) (V0 m c) (A_eq m c) 6).trans (arr6 m c)
  unfold Pipeline.afterTail₀
  generalize Pipeline.withArrays (cfgs 0).spec c (V0 m c) (fun w => (dats m 0 c).arrAt w (cfgs 0).N) = W at h5 h6
  simp only [List.flatten_cons, List.flatten_nil, List.append_nil, hostOps1]
  after_results
  rw [h5, h6]
  funext i
  idx_vars i
  pointwise
  have b0 := i0.isLt
  have d0 : dir ⟨i0.val, by omega⟩ = 0 := Fin.ext (by show i0.val / 4 = 0; omega)
  have d1 : dir ⟨4 + i0.val, by omega⟩ = 1 := Fin.ext (by show (4 + i0.val) / 4 = 1; omega)
  have e0 : bat ⟨i0.val, by omega⟩ = i0 := Fin.ext (by show i0.val % 4 = i0.val; omega)
  have e1 : bat ⟨4 + i0.val, by omega⟩ = i0 := Fin.ext (by show (4 + i0.val) % 4 = i0.val; omega)
  refine congrArg₂ HAdd.hAdd ?_ ?_
  · exact congrArg₂ (fun d b => S5.out (argU m c) (argAR m c) (argAI m c) (argBR m c) (argBI m c) (argCR m c) (argCI m c) d b i1
      ⟨i2.val / 16, by omega⟩ ⟨i2.val % 16, by omega⟩) d0 e0
  · exact congrArg₂ (fun d b => S5.out (argU m c) (argAR m c) (argAI m c) (argBR m c) (argBI m c) (argCR m c) (argCI m c) d b (S5.src 1 i1)
      ⟨i2.val / 16, by omega⟩ ⟨i2.val % 16, by omega⟩) d1 e1

/-- The kernel's run. -/
theorem run : θ_run defs (onTc (τ := τ) (main (F := Ideal))) ⟨m, fun _ => 0, ρ⟩ (fun r => ∀ c : Dev nD,
      r.2.mem ((c.tc : Thread nD τ).loc main_v58) = GArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v58 (Pipeline.mem_restRefs_of main_v58 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩) (run_main m ρ)

end Cert.ScanIdeal.Value
-- ==== Proof.ScanClaim.lean ====
/- The scan's claims. -/
module

public import proofs.«01_k».proof.Defs
public import proofs.«01_k».proof.Proof.ScanFrame
public import proofs.«01_k».proof.Proof.ScanIdealFrame
public import proofs.«01_k».proof.Proof.ScanRefValue
public import proofs.«01_k».proof.Proof.ScanTail

@[expose] public section
noncomputable section
namespace Cert.Proof
open Idealize.ShloMosaic Idealize.ShloMosaic.TcCoe Idealize.SL.Sem

theorem frame_Scan : quiescent_Scan (hScan := Cert.Scan.Gen.facts) := fun m ρ _ => Cert.Scan.Gen.frame_main m ρ
theorem frame_ScanIdeal : quiescent_ScanIdeal (hScanIdeal := Cert.ScanIdeal.Gen.facts) := fun m ρ _ => Cert.ScanIdeal.Gen.frame_main m ρ
/-- The reference declares no semaphore. -/
theorem frame_ScanRefIdeal : quiescent_ScanRefIdeal (hScanRefIdeal := Cert.ScanRefIdeal.Gen.facts) := fun m ρ _ =>
  (θ_run _ _ _).mono (fun _ h => ⟨fun c => (h c).2, funext nofun⟩) (Cert.ScanRefIdeal.Value.run m ρ)

/-- Both programs end at the same function of the arguments. -/
theorem value_Scan : algebraic_ScanIdeal_ScanRefIdeal (hScanIdeal := Cert.ScanIdeal.Gen.facts)
    (hScanRefIdeal := Cert.ScanRefIdeal.Gen.facts) := fun m ρ m' ρ' _ hag =>
  ⟨fun c => Cert.ScanIdeal.Value.GArr m c, Cert.ScanIdeal.Value.run m ρ,
    (θ_run _ _ _).mono (fun _ h c => ⟨(h c).1.trans (funext fun i => by
        idx_vars i
        refine (Cert.ScanRefIdeal.Value.ref_eq m' c i0 i1 i2).trans ?_
        have h0 : Cert.ScanRefIdeal.Value.argU m' c = Cert.ScanIdeal.Value.argU m c := by
          funext b l w; exact congrFun (hag c).1 _
        have h1 : Cert.ScanRefIdeal.Value.argAR m' c = Cert.ScanIdeal.Value.argAR m c := by
          funext d g p; exact congrFun (hag c).2.1 _
        have h2 : Cert.ScanRefIdeal.Value.argAI m' c = Cert.ScanIdeal.Value.argAI m c := by
          funext d g p; exact congrFun (hag c).2.2.1 _
        have h3 : Cert.ScanRefIdeal.Value.argBR m' c = Cert.ScanIdeal.Value.argBR m c := by
          funext d g p k; exact congrFun (hag c).2.2.2.1 _
        have h4 : Cert.ScanRefIdeal.Value.argBI m' c = Cert.ScanIdeal.Value.argBI m c := by
          funext d g p k; exact congrFun (hag c).2.2.2.2.1 _
        have h5 : Cert.ScanRefIdeal.Value.argCR m' c = Cert.ScanIdeal.Value.argCR m c := by
          funext d g k p; exact congrFun (hag c).2.2.2.2.2.1 _
        have h6 : Cert.ScanRefIdeal.Value.argCI m' c = Cert.ScanIdeal.Value.argCI m c := by
          funext d g k p; exact congrFun (hag c).2.2.2.2.2.2 _
        rw [h0, h1, h2, h3, h4, h5, h6]
        rfl), (h c).2⟩) (Cert.ScanRefIdeal.Value.run m' ρ')⟩

end Cert.Proof
-- ==== Proof.lean ====
module

public import proofs.«01_k».proof.Defs
public import proofs.«01_k».proof.Proof.Gen.Scan
public import proofs.«01_k».proof.Proof.Gen.Scan.Skeleton
public import proofs.«01_k».proof.Proof.Gen.Scan.Launch
public import proofs.«01_k».proof.Proof.Gen.Scan.Points
public import proofs.«01_k».proof.Proof.Gen.Scan.Frame
public import proofs.«01_k».proof.Proof.Gen.ScanIdeal
public import proofs.«01_k».proof.Proof.Gen.ScanIdeal.Skeleton
public import proofs.«01_k».proof.Proof.Gen.ScanIdeal.Launch
public import proofs.«01_k».proof.Proof.Gen.ScanIdeal.Points
public import proofs.«01_k».proof.Proof.Gen.ScanIdeal.Frame
public import proofs.«01_k».proof.Proof.Gen.ScanRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidRefIdeal
public import proofs.«01_k».proof.Proof.Gen.MidIdeal.Value
public import proofs.«01_k».proof.Proof.Gen.MidRefIdeal.Run
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxRefIdeal
public import proofs.«01_k».proof.Proof.Gen.CtxIdeal.Value
public import proofs.«01_k».proof.Proof.Gen.CtxRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.HyIn
public import proofs.«01_k».proof.Proof.Gen.HyIn.Skeleton
public import proofs.«01_k».proof.Proof.Gen.HyIn.Launch
public import proofs.«01_k».proof.Proof.Gen.HyIn.Points
public import proofs.«01_k».proof.Proof.Gen.HyIn.Frame
public import proofs.«01_k».proof.Proof.Gen.HyInIdeal
public import proofs.«01_k».proof.Proof.Gen.HyInIdeal.Skeleton
public import proofs.«01_k».proof.Proof.Gen.HyInIdeal.Launch
public import proofs.«01_k».proof.Proof.Gen.HyInIdeal.Points
public import proofs.«01_k».proof.Proof.Gen.HyInIdeal.Frame
public import proofs.«01_k».proof.Proof.Gen.HyInRefIdeal
public import proofs.«01_k».proof.Proof.Gen.HyInIdeal.Value
public import proofs.«01_k».proof.Proof.Gen.HyInRefIdeal.Run
public import proofs.«01_k».proof.Proof.Gen.HyOut
public import proofs.«01_k».proof.Proof.Gen.HyOut.Skeleton
public import proofs.«01_k».proof.Proof.Gen.HyOut.Launch
public import proofs.«01_k».proof.Proof.Gen.HyOut.Points
public import proofs.«01_k».proof.Proof.Gen.HyOut.Frame
public import proofs.«01_k».proof.Proof.Gen.HyOutIdeal
public import proofs.«01_k».proof.Proof.Gen.HyOutIdeal.Skeleton
public import proofs.«01_k».proof.Proof.Gen.HyOutIdeal.Launch
public import proofs.«01_k».proof.Proof.Gen.HyOutIdeal.Points
public import proofs.«01_k».proof.Proof.Gen.HyOutIdeal.Frame
public import proofs.«01_k».proof.Proof.Gen.HyOutRefIdeal
public import proofs.«01_k».proof.Proof.Gen.HyOutIdeal.Value
public import proofs.«01_k».proof.Proof.Gen.HyOutRefIdeal.Run
public import proofs.«01_k».proof.Proof.Gen.ScanRefIdeal.Run
public import proofs.«01_k».proof.Proof.FfnClaim
public import proofs.«01_k».proof.Proof.MidClaim
public import proofs.«01_k».proof.Proof.CtxClaim
public import proofs.«01_k».proof.Proof.ProjClaim
public import proofs.«01_k».proof.Proof.HyInClaim
public import proofs.«01_k».proof.Proof.HyOutClaim
public import proofs.«01_k».proof.Proof.ScanClaim
public import Idealize.ShloMosaic.Adequacy
public import Idealize.ShloMosaic.Init

@[expose] public section

noncomputable section

namespace Cert.Proof

open Idealize.ShloMosaic Idealize.SL.Sem Cert.Scan

theorem claim : Cert.Claim := ⟨Cert.Scan.Gen.facts, Cert.ScanIdeal.Gen.facts, Cert.ScanRefIdeal.Gen.facts, Cert.Ffn.Gen.facts, Cert.FfnIdeal.Gen.facts, Cert.FfnRefIdeal.Gen.facts,
  Cert.Mid.Gen.facts, Cert.MidIdeal.Gen.facts, Cert.MidRefIdeal.Gen.facts,
  Cert.Ctx.Gen.facts, Cert.CtxIdeal.Gen.facts, Cert.CtxRefIdeal.Gen.facts,
  Cert.Proj.Gen.facts, Cert.ProjIdeal.Gen.facts, Cert.ProjRefIdeal.Gen.facts,
  Cert.HyIn.Gen.facts, Cert.HyInIdeal.Gen.facts, Cert.HyInRefIdeal.Gen.facts,
  Cert.HyOut.Gen.facts, Cert.HyOutIdeal.Gen.facts, Cert.HyOutRefIdeal.Gen.facts,
  frame_Scan, frame_ScanIdeal, frame_ScanRefIdeal, frame_Ffn, frame_FfnIdeal, frame_FfnRefIdeal, frame_Mid, frame_MidIdeal, frame_MidRefIdeal,
  frame_Ctx, frame_CtxIdeal, frame_CtxRefIdeal,
  frame_Proj, frame_ProjIdeal, frame_ProjRefIdeal,
  frame_HyIn, frame_HyInIdeal, frame_HyInRefIdeal,
  frame_HyOut, frame_HyOutIdeal, frame_HyOutRefIdeal,
  trivial, value_Scan, trivial, value_Ffn, trivial, value_Mid, trivial, value_Ctx, trivial, value_Proj, trivial, value_HyIn, trivial, value_HyOut⟩

end Cert.Proof

end
